-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_in_table : Cert.Pre_in_table.Facts] (m : (ℓ : Loc Cert.Kernel2.nD Cert.Kernel2.τ Cert.Kernel2.sig) → Buf (Elt Bits) ℓ) : Prop :=
  ∀ c : Dev Cert.Kernel2.nD,
    (Cert.Pre_in_table.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_in_table : Cert.Pre_in_table.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_table.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_table [hPre_in_table : Cert.Pre_in_table.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_table.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_in_table : Cert.Pre_in_table.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_in_table : Cert.Pre_in_table.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_in_table [hReference2Ideal : Cert.Reference2Ideal.Facts] [hPre_in_table : Cert.Pre_in_table.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_table m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v877) = v0 c
          ∧ r.2.mem ((c.tc : Thread Cert.ReferenceIdeal.nD Cert.ReferenceIdeal.τ).loc Cert.ReferenceIdeal.main_v878) = v1 c
          ∧ r.2.mem ((c.tc : Thread Cert.ReferenceIdeal.nD Cert.ReferenceIdeal.τ).loc Cert.ReferenceIdeal.main_v879) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_in_table : Cert.Pre_in_table.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_in_range : Cert.Pre_in_range.Facts) (hPre_in_table : Cert.Pre_in_table.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2) (hPre_in_table := hPre_in_table)
    ∧ quiescent_Kernel2Ideal (hKernel2Ideal := hKernel2Ideal) (hPre_in_table := hPre_in_table)
    ∧ quiescent_Reference2Ideal (hReference2Ideal := hReference2Ideal)
    ∧ quiescent_Reference2Ideal_pre_in_table (hReference2Ideal := hReference2Ideal) (hPre_in_table := hPre_in_table)
    ∧ preserves_Kernel_KernelIdeal
    ∧ algebraic_KernelIdeal_ReferenceIdeal_pre_in_range (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal) (hPre_in_table := hPre_in_table)
-- ==== Pre_in_range.lean ====
abbrev S32 : Shape := ⟨1, ![32]⟩
abbrev S2x50000 : Shape := ⟨2, ![2, 50000]⟩
abbrev S50000 : Shape := ⟨1, ![50000]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S2x50000 : S_.BroadcastsInDim S2x50000 (![] : Fin 0 → Fin S2x50000.rank)
  reducesTo_S2x50000_S_d0_1 : S2x50000.ReducesTo [0, 1] S_
  bcast_S_S50000 : S_.BroadcastsInDim S50000 (![] : Fin 0 → Fin S50000.rank)
  reducesTo_S50000_S_d0 : S50000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S32 32) (main_arg1 : FVec F S32 .f32) (main_arg2 : IVec S2x50000 32) (main_arg3 : FVec F S50000 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 10000#32
  let main_v2 : IVec S32 32 := broadcastInDim S32 ![] bcast_S_S32 main_c_0
  let main_v3 : IVec S32 1 := cmpi .slt main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S2x50000 32 := broadcastInDim S2x50000 ![] bcast_S_S2x50000 main_c_2
  let main_v7 : IVec S2x50000 1 := cmpi .sge main_arg2 main_v6
  let main_c_3 : IVec S_ 32 := constantI S_ 32 10000#32
  let main_v8 : IVec S2x50000 32 := broadcastInDim S2x50000 ![] bcast_S_S2x50000 main_c_3
  let main_v9 : IVec S2x50000 1 := cmpi .slt main_arg2 main_v8
  let main_v10 : IVec S2x50000 1 := andi main_v7 main_v9
  let main_c_4 : IVec S_ 1 := constantI S_ 1 1#1
  let main_v11 : IVec S_ 1 := (fun x v => Host.reduce IntOp.andi x v reducesTo_S2x50000_S_d0_1 h_S_) main_v10 main_c_4
  let main_v12 : IVec S_ 1 := andi main_v5 main_v11
  let main_cst : FVec F S_ .f32 := constant S_ .f32 0xFF800000#32
  let main_v13 : FVec F S50000 .f32 := broadcastInDim S50000 ![] bcast_S_S50000 main_cst
  let main_v14 : IVec S50000 1 := cmpf .ogt main_arg3 main_v13
  let main_c_5 : IVec S_ 1 := constantI S_ 1 1#1
  let main_v15 : IVec S_ 1 := (fun x v => Host.reduce IntOp.andi x v reducesTo_S50000_S_d0 h_S_) main_v14 main_c_5
  fn_part1 (F := F) main_v12 main_v15
-- ==== Pre_in_table.lean ====
abbrev S32 : Shape := ⟨1, ![32]⟩
abbrev S10000x128 : Shape := ⟨2, ![10000, 128]⟩
abbrev S192x1 : Shape := ⟨2, ![192, 1]⟩
abbrev S1 : Shape := ⟨1, ![1]⟩
abbrev S64 : Shape := ⟨1, ![64]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S32 .f32) (main_arg2 : FVec F S10000x128 .f32) (main_arg3 : FVec F S192x1 .f32) (main_arg4 : FVec F S1 .f32) (main_arg5 : FVec F S64 .f32) (main_arg6 : FVec F S64 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 10000#32
  let main_v2 : IVec S32 32 := broadcastInDim S32 ![] bcast_S_S32 main_c_0
  let main_v3 : IVec S32 1 := cmpi .slt main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  main_v5
-- ==== Kernel.lean ====
abbrev S32 : Shape := ⟨1, ![32]⟩
abbrev S2x50000 : Shape := ⟨2, ![2, 50000]⟩
abbrev S50000 : Shape := ⟨1, ![50000]⟩
abbrev S1x50000 : Shape := ⟨2, ![1, 50000]⟩
abbrev S_ : Shape := ⟨0, ![]⟩
abbrev S51200 : Shape := ⟨1, ![51200]⟩
abbrev S1x51200 : Shape := ⟨2, ![1, 51200]⟩
abbrev S32x1 : Shape := ⟨2, ![32, 1]⟩
abbrev S32x10 : Shape := ⟨2, ![32, 10]⟩
abbrev S40x8x1 : Shape := ⟨3, ![40, 8, 1]⟩
abbrev S40x8x3 : Shape := ⟨3, ![40, 8, 3]⟩
abbrev S1x8x1 : Shape := ⟨3, ![1, 8, 1]⟩
abbrev S1x8x3 : Shape := ⟨3, ![1, 8, 3]⟩
abbrev S8x1 : Shape := ⟨2, ![8, 1]⟩
abbrev S1x1 : Shape := ⟨2, ![1, 1]⟩
abbrev S2x1 : Shape := ⟨2, ![2, 1]⟩
abbrev S1x3200 : Shape := ⟨2, ![1, 3200]⟩
abbrev S2x3200 : Shape := ⟨2, ![2, 3200]⟩
abbrev S2 : Shape := ⟨1, ![2]⟩
abbrev S1 : Shape := ⟨1, ![1]⟩
abbrev S1x1x1 : Shape := ⟨3, ![1, 1, 1]⟩
abbrev S1x1024 : Shape := ⟨2, ![1, 1024]⟩
abbrev S8x1024 : Shape := ⟨2, ![8, 1024]⟩
abbrev S1x8x1024 : Shape := ⟨3, ![1, 8, 1024]⟩
abbrev S8 : Shape := ⟨1, ![8]⟩
abbrev S8x3200 : Shape := ⟨2, ![8, 3200]⟩

abbrev nBuf : Space → Nat
  | .hbm => 29
  | .vmem => 13
  | .smem => 0
  | _ => 0

abbrev bufTy : (tb : Table) → Fin (tcTables nBuf tb) → BufTy
  | .hbm, ⟨0, _⟩ => ⟨S32, .i32⟩
  | .hbm, ⟨1, _⟩ => ⟨S32, .f32⟩
  | .hbm, ⟨2, _⟩ => ⟨S2x50000, .i32⟩
  | .hbm, ⟨3, _⟩ => ⟨S50000, .f32⟩
  | .hbm, ⟨4, _⟩ => ⟨S1x50000, .i32⟩
  | .hbm, ⟨5, _⟩ => ⟨S50000, .i32⟩
  | .hbm, ⟨6, _⟩ => ⟨S_, .i32⟩
  | .hbm, ⟨7, _⟩ => ⟨S_, .i32⟩
  | .hbm, ⟨8, _⟩ => ⟨S51200, .i32⟩
  | .hbm, ⟨9, _⟩ => ⟨S1x51200, .i32⟩
  | .hbm, ⟨10, _⟩ => ⟨S1x50000, .i32⟩
  | .hbm, ⟨11, _⟩ => ⟨S50000, .i32⟩
  | .hbm, ⟨12, _⟩ => ⟨S_, .i32⟩
  | .hbm, ⟨13, _⟩ => ⟨S_, .i32⟩
  | .hbm, ⟨14, _⟩ => ⟨S51200, .i32⟩
  | .hbm, ⟨15, _⟩ => ⟨S1x51200, .i32⟩
  | .hbm, ⟨16, _⟩ => ⟨S_, .f32⟩
  | .hbm, ⟨17, _⟩ => ⟨S_, .f32⟩
  | .hbm, ⟨18, _⟩ => ⟨S51200, .f32⟩
  | .hbm, ⟨19, _⟩ => ⟨S1x51200, .f32⟩
  | .hbm, ⟨20, _⟩ => ⟨S32x1, .i32⟩
  | .hbm, ⟨21, _⟩ => ⟨S32x10, .i32⟩
  | .hbm, ⟨22, _⟩ => ⟨S40x8x1, .i32⟩
  | .hbm, ⟨23, _⟩ => ⟨S32x1, .f32⟩
  | .hbm, ⟨24, _⟩ => ⟨S32x10, .f32⟩
  | .hbm, ⟨25, _⟩ => ⟨S40x8x1, .f32⟩
  | .hbm, ⟨26, _⟩ => ⟨S40x8x3, .i32⟩
  | .hbm, ⟨27, _⟩ => ⟨S40x8x3, .f32⟩
  | .hbm, ⟨28, _⟩ => ⟨S40x8x3, .f32⟩
  | .local _ .vmem, ⟨0, _⟩ => ⟨S1x51200, .i32⟩
  | .local _ .vmem, ⟨1, _⟩ => ⟨S1x51200, .i32⟩
  | .local _ .vmem, ⟨2, _⟩ => ⟨S1x51200, .f32⟩
  | .local _ .vmem, ⟨3, _⟩ => ⟨S1x8x1, .i32⟩
  | .local _ .vmem, ⟨4, _⟩ => ⟨S1x8x1, .i32⟩
  | .local _ .vmem, ⟨5, _⟩ => ⟨S1x8x1, .f32⟩
  | .local _ .vmem, ⟨6, _⟩ => ⟨S1x8x1, .f32⟩
  | .local _ .vmem, ⟨7, _⟩ => ⟨S1x8x3, .i32⟩
  | .local _ .vmem, ⟨8, _⟩ => ⟨S1x8x3, .i32⟩
  | .local _ .vmem, ⟨9, _⟩ => ⟨S1x8x3, .f32⟩
  | .local _ .vmem, ⟨10, _⟩ => ⟨S1x8x3, .f32⟩
  | .local _ .vmem, ⟨11, _⟩ => ⟨S1x8x3, .f32⟩
  | .local _ .vmem, ⟨12, _⟩ => ⟨S1x8x3, .f32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32_504 : BitVec 32 := 0#32
  let c50_i32 : BitVec 32 := 50#32
  let v2082 : BitVec 32 := Scalar.addi c0_i32_504 c50_i32
  let c1_i32_505 : BitVec 32 := 1#32
  ⟨c0_i32_504, v2082, c1_i32_505⟩
def k0_off1 (k0_t1 : Fin k0_t1_loop.trips) : Fin 2 → Nat :=
  let c0_507 : Index := 0#32
  let c0_i32_504 : BitVec 32 := 0#32
  let c1_i32_505 : BitVec 32 := 1#32
  let arg9 : BitVec 32 := Scf.iv c0_i32_504 c1_i32_505 k0_t1
  let c1024_i32 : BitVec 32 := 1024#32
  let v2084 : BitVec 32 := Scalar.muli arg9 c1024_i32
  let v2085 : Index := Scalar.indexCast v2084
  ![0, v2085.toNat]
@[reducible] def k0_t2_loop : Scf.Loop 32 :=
  let c0_i32_504 : BitVec 32 := 0#32
  let c50_i32 : BitVec 32 := 50#32
  let v2082 : BitVec 32 := Scalar.addi c0_i32_504 c50_i32
  let c1_i32_505 : BitVec 32 := 1#32
  ⟨c0_i32_504, v2082, c1_i32_505⟩
def k0_off2 (k0_t2 : Fin k0_t2_loop.trips) : Fin 2 → Nat :=
  let c0_507 : Index := 0#32
  let c0_i32_504 : BitVec 32 := 0#32
  let c1_i32_505 : BitVec 32 := 1#32
  let arg9 : BitVec 32 := Scf.iv c0_i32_504 c1_i32_505 k0_t2
  let c1024_i32 : BitVec 32 := 1024#32
  let v2084 : BitVec 32 := Scalar.muli arg9 c1024_i32
  let v2085 : Index := Scalar.indexCast v2084
  ![0, v2085.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x51200 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x51200 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x51200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x3 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32 : Shape := ⟨1, ![32]⟩
abbrev S2x50000 : Shape := ⟨2, ![2, 50000]⟩
abbrev S50000 : Shape := ⟨1, ![50000]⟩
abbrev S1x50000 : Shape := ⟨2, ![1, 50000]⟩
abbrev S100000 : Shape := ⟨1, ![100000]⟩
abbrev S32x1 : Shape := ⟨2, ![32, 1]⟩
abbrev S32x10 : Shape := ⟨2, ![32, 10]⟩
abbrev S_ : Shape := ⟨0, ![]⟩
abbrev S2 : Shape := ⟨1, ![2]⟩
abbrev S1 : Shape := ⟨1, ![1]⟩
abbrev S1x1x100000 : Shape := ⟨3, ![1, 1, 100000]⟩
abbrev S32x10x1 : Shape := ⟨3, ![32, 10, 1]⟩
abbrev S32x10x100000 : Shape := ⟨3, ![32, 10, 100000]⟩
abbrev S1x1x1 : Shape := ⟨3, ![1, 1, 1]⟩
abbrev S32x10x3 : Shape := ⟨3, ![32, 10, 3]⟩
abbrev S40x8x3 : Shape := ⟨3, ![40, 8, 3]⟩

abbrev nBuf : Space → Nat
  | .hbm => 1233
  | .vmem => 0
  | .smem => 0
  | _ => 0

abbrev hbmTy0_0 (i : Nat) : BufTy := match i % 128 with
  | 0 => ⟨S32, .i32⟩
  | 1 => ⟨S32, .f32⟩
  | 2 => ⟨S2x50000, .i32⟩
  | 3 => ⟨S50000, .f32⟩
  | 4 => ⟨S1x50000, .i32⟩
  | 5 => ⟨S50000, .i32⟩
  | 6 => ⟨S1x50000, .i32⟩
  | 7 => ⟨S50000, .i32⟩
  | 8 => ⟨S100000, .i32⟩
  | 9 => ⟨S1x50000, .i32⟩
  | 10 => ⟨S50000, .i32⟩
  | 11 => ⟨S1x50000, .i32⟩
  | 12 => ⟨S50000, .i32⟩
  | 13 => ⟨S100000, .i32⟩
  | 14 => ⟨S100000, .f32⟩
  | 15 => ⟨S32x1, .i32⟩
  | 16 => ⟨S32x10, .i32⟩
  | 17 => ⟨S32x1, .f32⟩
  | 18 => ⟨S32x10, .f32⟩
  | 19 => ⟨S_, .i1⟩
  | 20 => ⟨S32x10, .i1⟩
  | 21 => ⟨S32x10, .f32⟩
  | 22 => ⟨S_, .i32⟩
  | 23 => ⟨S2, .i32⟩
  | 24 => ⟨S2, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S_, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S_, .i32⟩
  | 119 => ⟨S_, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S32, .i32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S_, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S_, .i32⟩
  | 121 => ⟨S_, .i32⟩
  | 122 => ⟨S2, .i32⟩
  | 123 => ⟨S2, .i32⟩
  | 124 => ⟨S1, .i32⟩
  | 125 => ⟨S_, .i32⟩
  | 126 => ⟨S1, .i32⟩
  | 127 => ⟨S_, .i32⟩
  | _ => ⟨S32, .i32⟩

abbrev hbmTy0_2 (i : Nat) : BufTy := match i % 128 with
  | 0 => ⟨S1, .i32⟩
  | 1 => ⟨S_, .i32⟩
  | 2 => ⟨S1, .i32⟩
  | 3 => ⟨S_, .i32⟩
  | 4 => ⟨S1x1x100000, .i32⟩
  | 5 => ⟨S32x10x1, .i32⟩
  | 6 => ⟨S32x10x100000, .i32⟩
  | 7 => ⟨S32x10x100000, .i32⟩
  | 8 => ⟨S32x10x100000, .i1⟩
  | 9 => ⟨S1x1x100000, .f32⟩
  | 10 => ⟨S32x10x1, .f32⟩
  | 11 => ⟨S32x10x100000, .f32⟩
  | 12 => ⟨S32x10x100000, .f32⟩
  | 13 => ⟨S32x10x100000, .i1⟩
  | 14 => ⟨S32x10x100000, .i1⟩
  | 15 => ⟨S1x1x100000, .f32⟩
  | 16 => ⟨S_, .f32⟩
  | 17 => ⟨S_, .f32⟩
  | 18 => ⟨S32x10x100000, .f32⟩
  | 19 => ⟨S32x10x100000, .f32⟩
  | 20 => ⟨S32x10x100000, .f32⟩
  | 21 => ⟨S_, .f32⟩
  | 22 => ⟨S32x10, .f32⟩
  | 23 => ⟨S32x10x1, .f32⟩
  | 24 => ⟨S32x10x1, .f32⟩
  | 25 => ⟨S_, .f32⟩
  | 26 => ⟨S32x10x1, .f32⟩
  | 27 => ⟨S32x10x1, .i1⟩
  | 28 => ⟨S_, .f32⟩
  | 29 => ⟨S_, .f32⟩
  | 30 => ⟨S32x10x1, .f32⟩
  | 31 => ⟨S32x10x1, .f32⟩
  | 32 => ⟨S1x1x100000, .f32⟩
  | 33 => ⟨S32x10x100000, .f32⟩
  | 34 => ⟨S32x10x100000, .f32⟩
  | 35 => ⟨S32x10x100000, .f32⟩
  | 36 => ⟨S_, .f32⟩
  | 37 => ⟨S32x10x100000, .f32⟩
  | 38 => ⟨S32x10x100000, .f32⟩
  | 39 => ⟨S_, .f32⟩
  | 40 => ⟨S_, .f32⟩
  | 41 => ⟨S32x10x100000, .f32⟩
  | 42 => ⟨S32x10x100000, .f32⟩
  | 43 => ⟨S32x10x100000, .i32⟩
  | 44 => ⟨S_, .i32⟩
  | 45 => ⟨S32x10x100000, .i32⟩
  | 46 => ⟨S32x10x100000, .i32⟩
  | 47 => ⟨S32x10x100000, .i32⟩
  | 48 => ⟨S_, .i32⟩
  | 49 => ⟨S32x10x100000, .i32⟩
  | 50 => ⟨S32x10x100000, .i32⟩
  | 51 => ⟨S32x10x100000, .i32⟩
  | 52 => ⟨S32x10x100000, .i32⟩
  | 53 => ⟨S32x10x100000, .i32⟩
  | 54 => ⟨S_, .i32⟩
  | 55 => ⟨S32x10x100000, .i32⟩
  | 56 => ⟨S_, .i32⟩
  | 57 => ⟨S_, .i32⟩
  | 58 => ⟨S_, .i32⟩
  | 59 => ⟨S32x10x100000, .i32⟩
  | 60 => ⟨S32x10x100000, .i32⟩
  | 61 => ⟨S32x10x100000, .i32⟩
  | 62 => ⟨S32x10x100000, .i32⟩
  | 63 => ⟨S32x10x100000, .i32⟩
  | 64 => ⟨S_, .i32⟩
  | 65 => ⟨S32x10x100000, .i32⟩
  | 66 => ⟨S32x10x100000, .i32⟩
  | 67 => ⟨S_, .i32⟩
  | 68 => ⟨S32x10x100000, .i32⟩
  | 69 => ⟨S32x10x100000, .i32⟩
  | 70 => ⟨S32x10x100000, .i32⟩
  | 71 => ⟨S32x10x100000, .i32⟩
  | 72 => ⟨S32x10x100000, .i32⟩
  | 73 => ⟨S_, .i32⟩
  | 74 => ⟨S32x10x100000, .i32⟩
  | 75 => ⟨S32x10x100000, .i32⟩
  | 76 => ⟨S_, .i32⟩
  | 77 => ⟨S32x10x100000, .i32⟩
  | 78 => ⟨S32x10x100000, .i32⟩
  | 79 => ⟨S32x10x100000, .i32⟩
  | 80 => ⟨S32x10x100000, .i32⟩
  | 81 => ⟨S32x10x100000, .i32⟩
  | 82 => ⟨S_, .i32⟩
  | 83 => ⟨S32x10x100000, .i32⟩
  | 84 => ⟨S32x10x100000, .i32⟩
  | 85 => ⟨S_, .i32⟩
  | 86 => ⟨S32x10x100000, .i32⟩
  | 87 => ⟨S32x10x100000, .i32⟩
  | 88 => ⟨S32x10x100000, .i32⟩
  | 89 => ⟨S32x10x100000, .i32⟩
  | 90 => ⟨S32x10x100000, .i32⟩
  | 91 => ⟨S_, .i32⟩
  | 92 => ⟨S32x10x100000, .i32⟩
  | 93 => ⟨S32x10x100000, .i32⟩
  | 94 => ⟨S_, .i32⟩
  | 95 => ⟨S32x10x100000, .i32⟩
  | 96 => ⟨S32x10x100000, .i32⟩
  | 97 => ⟨S32x10x100000, .i32⟩
  | 98 => ⟨S32x10x100000, .i32⟩
  | 99 => ⟨S32x10x100000, .i32⟩
  | 100 => ⟨S32x10x100000, .i32⟩
  | 101 => ⟨S_, .i32⟩
  | 102 => ⟨S_, .i32⟩
  | 103 => ⟨S32x10x100000, .i32⟩
  | 104 => ⟨S32x10x100000, .i32⟩
  | 105 => ⟨S32x10x100000, .i32⟩
  | 106 => ⟨S_, .i32⟩
  | 107 => ⟨S32x10x100000, .i32⟩
  | 108 => ⟨S32x10x100000, .i32⟩
  | 109 => ⟨S_, .i32⟩
  | 110 => ⟨S32x10x100000, .i32⟩
  | 111 => ⟨S32x10x100000, .i32⟩
  | 112 => ⟨S32x10x100000, .i32⟩
  | 113 => ⟨S32x10x100000, .i32⟩
  | 114 => ⟨S32x10x100000, .i32⟩
  | 115 => ⟨S_, .i32⟩
  | 116 => ⟨S32x10x100000, .i32⟩
  | 117 => ⟨S32x10x100000, .i32⟩
  | 118 => ⟨S_, .i32⟩
  | 119 => ⟨S32x10x100000, .i32⟩
  | 120 => ⟨S32x10x100000, .i32⟩
  | 121 => ⟨S32x10x100000, .i32⟩
  | 122 => ⟨S32x10x100000, .i32⟩
  | 123 => ⟨S32x10x100000, .i32⟩
  | 124 => ⟨S_, .i32⟩
  | 125 => ⟨S32x10x100000, .i32⟩
  | 126 => ⟨S32x10x100000, .i32⟩
  | 127 => ⟨S_, .i32⟩
  | _ => ⟨S32, .i32⟩

abbrev hbmTy0_3 (i : Nat) : BufTy := match i % 128 with
  | 0 => ⟨S32x10x100000, .i32⟩
  | 1 => ⟨S32x10x100000, .i32⟩
  | 2 => ⟨S32x10x100000, .i32⟩
  | 3 => ⟨S32x10x100000, .i32⟩
  | 4 => ⟨S32x10x100000, .i32⟩
  | 5 => ⟨S_, .i32⟩
  | 6 => ⟨S32x10x100000, .i32⟩
  | 7 => ⟨S32x10x100000, .i32⟩
  | 8 => ⟨S_, .i32⟩
  | 9 => ⟨S32x10x100000, .i32⟩
  | 10 => ⟨S32x10x100000, .i32⟩
  | 11 => ⟨S32x10x100000, .i32⟩
  | 12 => ⟨S32x10x100000, .i32⟩
  | 13 => ⟨S32x10x100000, .i32⟩
  | 14 => ⟨S32x10x100000, .i32⟩
  | 15 => ⟨S_, .i32⟩
  | 16 => ⟨S_, .i32⟩
  | 17 => ⟨S32x10x100000, .i32⟩
  | 18 => ⟨S32x10x100000, .i32⟩
  | 19 => ⟨S32x10x100000, .i32⟩
  | 20 => ⟨S_, .i32⟩
  | 21 => ⟨S32x10x100000, .i32⟩
  | 22 => ⟨S32x10x100000, .i32⟩
  | 23 => ⟨S_, .i32⟩
  | 24 => ⟨S32x10x100000, .i32⟩
  | 25 => ⟨S32x10x100000, .i32⟩
  | 26 => ⟨S32x10x100000, .i32⟩
  | 27 => ⟨S32x10x100000, .i32⟩
  | 28 => ⟨S32x10x100000, .i32⟩
  | 29 => ⟨S_, .i32⟩
  | 30 => ⟨S32x10x100000, .i32⟩
  | 31 => ⟨S32x10x100000, .i32⟩
  | 32 => ⟨S_, .i32⟩
  | 33 => ⟨S32x10x100000, .i32⟩
  | 34 => ⟨S32x10x100000, .i32⟩
  | 35 => ⟨S32x10x100000, .i32⟩
  | 36 => ⟨S32x10x100000, .i32⟩
  | 37 => ⟨S32x10x100000, .i32⟩
  | 38 => ⟨S_, .i32⟩
  | 39 => ⟨S32x10x100000, .i32⟩
  | 40 => ⟨S32x10x100000, .i32⟩
  | 41 => ⟨S_, .i32⟩
  | 42 => ⟨S32x10x100000, .i32⟩
  | 43 => ⟨S32x10x100000, .i32⟩
  | 44 => ⟨S32x10x100000, .i32⟩
  | 45 => ⟨S32x10x100000, .i32⟩
  | 46 => ⟨S32x10x100000, .i32⟩
  | 47 => ⟨S_, .i32⟩
  | 48 => ⟨S32x10x100000, .i32⟩
  | 49 => ⟨S32x10x100000, .i32⟩
  | 50 => ⟨S_, .i32⟩
  | 51 => ⟨S32x10x100000, .i32⟩
  | 52 => ⟨S32x10x100000, .i32⟩
  | 53 => ⟨S32x10x100000, .i32⟩
  | 54 => ⟨S32x10x100000, .i32⟩
  | 55 => ⟨S32x10x100000, .i32⟩
  | 56 => ⟨S32x10x100000, .i32⟩
  | 57 => ⟨S_, .i32⟩
  | 58 => ⟨S_, .i32⟩
  | 59 => ⟨S32x10x100000, .i32⟩
  | 60 => ⟨S32x10x100000, .i32⟩
  | 61 => ⟨S32x10x100000, .i32⟩
  | 62 => ⟨S_, .i32⟩
  | 63 => ⟨S32x10x100000, .i32⟩
  | 64 => ⟨S32x10x100000, .i32⟩
  | 65 => ⟨S_, .i32⟩
  | 66 => ⟨S32x10x100000, .i32⟩
  | 67 => ⟨S32x10x100000, .i32⟩
  | 68 => ⟨S32x10x100000, .i32⟩
  | 69 => ⟨S32x10x100000, .i32⟩
  | 70 => ⟨S32x10x100000, .i32⟩
  | 71 => ⟨S_, .i32⟩
  | 72 => ⟨S32x10x100000, .i32⟩
  | 73 => ⟨S32x10x100000, .i32⟩
  | 74 => ⟨S_, .i32⟩
  | 75 => ⟨S32x10x100000, .i32⟩
  | 76 => ⟨S32x10x100000, .i32⟩
  | 77 => ⟨S32x10x100000, .i32⟩
  | 78 => ⟨S32x10x100000, .i32⟩
  | 79 => ⟨S32x10x100000, .i32⟩
  | 80 => ⟨S_, .i32⟩
  | 81 => ⟨S32x10x100000, .i32⟩
  | 82 => ⟨S32x10x100000, .i32⟩
  | 83 => ⟨S_, .i32⟩
  | 84 => ⟨S32x10x100000, .i32⟩
  | 85 => ⟨S32x10x100000, .i32⟩
  | 86 => ⟨S32x10x100000, .i32⟩
  | 87 => ⟨S32x10x100000, .i32⟩
  | 88 => ⟨S32x10x100000, .i32⟩
  | 89 => ⟨S_, .i32⟩
  | 90 => ⟨S32x10x100000, .i32⟩
  | 91 => ⟨S32x10x100000, .i32⟩
  | 92 => ⟨S_, .i32⟩
  | 93 => ⟨S32x10x100000, .i32⟩
  | 94 => ⟨S32x10x100000, .i32⟩
  | 95 => ⟨S32x10x100000, .i32⟩
  | 96 => ⟨S32x10x100000, .i32⟩
  | 97 => ⟨S32x10x100000, .i32⟩
  | 98 => ⟨S32x10x100000, .i32⟩
  | 99 => ⟨S_, .i32⟩
  | 100 => ⟨S_, .i32⟩
  | 101 => ⟨S32x10x100000, .i32⟩
  | 102 => ⟨S32x10x100000, .i32⟩
  | 103 => ⟨S32x10x100000, .i32⟩
  | 104 => ⟨S_, .i32⟩
  | 105 => ⟨S32x10x100000, .i32⟩
  | 106 => ⟨S32x10x100000, .i32⟩
  | 107 => ⟨S_, .i32⟩
  | 108 => ⟨S32x10x100000, .i32⟩
  | 109 => ⟨S32x10x100000, .i32⟩
  | 110 => ⟨S32x10x100000, .i32⟩
  | 111 => ⟨S32x10x100000, .i32⟩
  | 112 => ⟨S32x10x100000, .i32⟩
  | 113 => ⟨S_, .i32⟩
  | 114 => ⟨S32x10x100000, .i32⟩
  | 115 => ⟨S32x10x100000, .i32⟩
  | 116 => ⟨S_, .i32⟩
  | 117 => ⟨S32x10x100000, .i32⟩
  | 118 => ⟨S32x10x100000, .i32⟩
  | 119 => ⟨S32x10x100000, .i32⟩
  | 120 => ⟨S32x10x100000, .i32⟩
  | 121 => ⟨S32x10x100000, .i32⟩
  | 122 => ⟨S_, .i32⟩
  | 123 => ⟨S32x10x100000, .i32⟩
  | 124 => ⟨S32x10x100000, .i32⟩
  | 125 => ⟨S_, .i32⟩
  | 126 => ⟨S32x10x100000, .i32⟩
  | 127 => ⟨S32x10x100000, .i32⟩
  | _ => ⟨S32, .i32⟩

abbrev hbmTy0_4 (i : Nat) : BufTy := match i % 128 with
  | 0 => ⟨S32x10x100000, .i32⟩
  | 1 => ⟨S32x10x100000, .i32⟩
  | 2 => ⟨S32x10x100000, .i32⟩
  | 3 => ⟨S_, .i32⟩
  | 4 => ⟨S32x10x100000, .i32⟩
  | 5 => ⟨S32x10x100000, .i32⟩
  | 6 => ⟨S_, .i32⟩
  | 7 => ⟨S32x10x100000, .i32⟩
  | 8 => ⟨S32x10x100000, .i32⟩
  | 9 => ⟨S32x10x100000, .i32⟩
  | 10 => ⟨S32x10x100000, .i32⟩
  | 11 => ⟨S32x10x100000, .i32⟩
  | 12 => ⟨S32x10x100000, .i32⟩
  | 13 => ⟨S_, .i32⟩
  | 14 => ⟨S_, .i32⟩
  | 15 => ⟨S32x10x100000, .i32⟩
  | 16 => ⟨S32x10x100000, .i32⟩
  | 17 => ⟨S32x10x100000, .i32⟩
  | 18 => ⟨S_, .i32⟩
  | 19 => ⟨S32x10x100000, .i32⟩
  | 20 => ⟨S32x10x100000, .i32⟩
  | 21 => ⟨S_, .i32⟩
  | 22 => ⟨S32x10x100000, .i32⟩
  | 23 => ⟨S32x10x100000, .i32⟩
  | 24 => ⟨S32x10x100000, .f32⟩
  | 25 => ⟨S_, .f32⟩
  | 26 => ⟨S32x10x100000, .f32⟩
  | 27 => ⟨S32x10x100000, .f32⟩
  | 28 => ⟨S_, .f32⟩
  | 29 => ⟨S_, .f32⟩
  | 30 => ⟨S_, .f32⟩
  | 31 => ⟨S32x10x100000, .f32⟩
  | 32 => ⟨S32x10x100000, .f32⟩
  | 33 => ⟨S_, .f32⟩
  | 34 => ⟨S32x10x100000, .f32⟩
  | 35 => ⟨S32x10x100000, .f32⟩
  | 36 => ⟨S_, .f32⟩
  | 37 => ⟨S32x10x100000, .f32⟩
  | 38 => ⟨S32x10x100000, .f32⟩
  | 39 => ⟨S32x10x100000, .f32⟩
  | 40 => ⟨S32x10x100000, .f32⟩
  | 41 => ⟨S32x10x100000, .f32⟩
  | 42 => ⟨S32x10x100000, .f32⟩
  | 43 => ⟨S32x10x100000, .f32⟩
  | 44 => ⟨S32x10x100000, .i32⟩
  | 45 => ⟨S_, .f32⟩
  | 46 => ⟨S32x10, .f32⟩
  | 47 => ⟨S32x10x1, .f32⟩
  | 48 => ⟨S32x10x100000, .f32⟩
  | 49 => ⟨S32x10x100000, .i1⟩
  | 50 => ⟨S_, .i32⟩
  | 51 => ⟨S32x10x100000, .i32⟩
  | 52 => ⟨S32x10x100000, .i32⟩
  | 53 => ⟨S_, .i32⟩
  | 54 => ⟨S32x10, .i32⟩
  | 55 => ⟨S_, .i1⟩
  | 56 => ⟨S32x10, .i1⟩
  | 57 => ⟨S_, .i32⟩
  | 58 => ⟨S32x10, .i32⟩
  | 59 => ⟨S32x10, .i1⟩
  | 60 => ⟨S_, .i32⟩
  | 61 => ⟨S32x10, .i32⟩
  | 62 => ⟨S32x10, .i32⟩
  | 63 => ⟨S32x10, .i32⟩
  | 64 => ⟨S32x10x1, .i32⟩
  | 65 => ⟨S1, .i32⟩
  | 66 => ⟨S_, .i32⟩
  | 67 => ⟨S32x10x1, .i32⟩
  | 68 => ⟨S32x10x1, .i1⟩
  | 69 => ⟨S1x1x1, .i32⟩
  | 70 => ⟨S32x10x1, .i32⟩
  | 71 => ⟨S32x10x1, .i1⟩
  | 72 => ⟨S32x10x1, .i1⟩
  | 73 => ⟨S_, .i1⟩
  | 74 => ⟨S32x10, .i1⟩
  | 75 => ⟨S32x10, .i32⟩
  | 76 => ⟨S_, .i32⟩
  | 77 => ⟨S32x10, .i32⟩
  | 78 => ⟨S32x10, .i32⟩
  | 79 => ⟨S_, .i32⟩
  | 80 => ⟨S32x10, .i32⟩
  | 81 => ⟨S32x10, .i1⟩
  | 82 => ⟨S_, .i32⟩
  | 83 => ⟨S32x10, .i32⟩
  | 84 => ⟨S32x10, .i32⟩
  | 85 => ⟨S32x10, .i32⟩
  | 86 => ⟨S32x10x1, .i32⟩
  | 87 => ⟨S1, .i32⟩
  | 88 => ⟨S_, .i32⟩
  | 89 => ⟨S32x10x1, .i32⟩
  | 90 => ⟨S32x10x1, .i1⟩
  | 91 => ⟨S1x1x1, .i32⟩
  | 92 => ⟨S32x10x1, .i32⟩
  | 93 => ⟨S32x10x1, .i1⟩
  | 94 => ⟨S32x10x1, .i1⟩
  | 95 => ⟨S_, .i1⟩
  | 96 => ⟨S32x10, .i1⟩
  | 97 => ⟨S32x10, .f32⟩
  | 98 => ⟨S_, .f32⟩
  | 99 => ⟨S32x10, .f32⟩
  | 100 => ⟨S32x10, .f32⟩
  | 101 => ⟨S32x10, .i1⟩
  | 102 => ⟨S32x10, .i32⟩
  | 103 => ⟨S32x10, .f32⟩
  | 104 => ⟨S_, .i32⟩
  | 105 => ⟨S_, .i32⟩
  | 106 => ⟨S32x10, .i32⟩
  | 107 => ⟨S32x10, .i32⟩
  | 108 => ⟨S_, .f32⟩
  | 109 => ⟨S_, .f32⟩
  | 110 => ⟨S32x10, .f32⟩
  | 111 => ⟨S32x10, .f32⟩
  | 112 => ⟨S32x10, .f32⟩
  | 113 => ⟨S_, .i32⟩
  | 114 => ⟨S2, .i32⟩
  | 115 => ⟨S2, .i32⟩
  | 116 => ⟨S_, .i32⟩
  | 117 => ⟨S_, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S32, .i32⟩

abbrev hbmTy0_5 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S_, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S_, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S_, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S32, .i32⟩

abbrev hbmTy0_6 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S_, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S_, .i32⟩
  | 75 => ⟨S2, .i32⟩
  | 76 => ⟨S2, .i32⟩
  | 77 => ⟨S1, .i32⟩
  | 78 => ⟨S_, .i32⟩
  | 79 => ⟨S1, .i32⟩
  | 80 => ⟨S_, .i32⟩
  | 81 => ⟨S1, .i32⟩
  | 82 => ⟨S_, .i32⟩
  | 83 => ⟨S1, .i32⟩
  | 84 => ⟨S_, .i32⟩
  | 85 => ⟨S1x1x100000, .i32⟩
  | 86 => ⟨S32x10x1, .i32⟩
  | 87 => ⟨S32x10x100000, .i32⟩
  | 88 => ⟨S32x10x100000, .i32⟩
  | 89 => ⟨S32x10x100000, .i1⟩
  | 90 => ⟨S1x1x100000, .f32⟩
  | 91 => ⟨S32x10x1, .f32⟩
  | 92 => ⟨S32x10x100000, .f32⟩
  | 93 => ⟨S32x10x100000, .f32⟩
  | 94 => ⟨S32x10x100000, .i1⟩
  | 95 => ⟨S32x10x100000, .i1⟩
  | 96 => ⟨S1x1x100000, .f32⟩
  | 97 => ⟨S_, .f32⟩
  | 98 => ⟨S_, .f32⟩
  | 99 => ⟨S32x10x100000, .f32⟩
  | 100 => ⟨S32x10x100000, .f32⟩
  | 101 => ⟨S32x10x100000, .f32⟩
  | 102 => ⟨S_, .f32⟩
  | 103 => ⟨S32x10, .f32⟩
  | 104 => ⟨S32x10x1, .f32⟩
  | 105 => ⟨S32x10x1, .f32⟩
  | 106 => ⟨S_, .f32⟩
  | 107 => ⟨S32x10x1, .f32⟩
  | 108 => ⟨S32x10x1, .i1⟩
  | 109 => ⟨S_, .f32⟩
  | 110 => ⟨S_, .f32⟩
  | 111 => ⟨S32x10x1, .f32⟩
  | 112 => ⟨S32x10x1, .f32⟩
  | 113 => ⟨S1x1x100000, .f32⟩
  | 114 => ⟨S32x10x100000, .f32⟩
  | 115 => ⟨S32x10x100000, .f32⟩
  | 116 => ⟨S32x10x100000, .f32⟩
  | 117 => ⟨S_, .f32⟩
  | 118 => ⟨S32x10x100000, .f32⟩
  | 119 => ⟨S32x10x100000, .f32⟩
  | 120 => ⟨S_, .f32⟩
  | 121 => ⟨S_, .f32⟩
  | 122 => ⟨S32x10x100000, .f32⟩
  | 123 => ⟨S32x10x100000, .f32⟩
  | 124 => ⟨S32x10x100000, .i32⟩
  | 125 => ⟨S_, .i32⟩
  | 126 => ⟨S32x10x100000, .i32⟩
  | 127 => ⟨S32x10x100000, .i32⟩
  | _ => ⟨S32, .i32⟩

abbrev hbmTy0_7 (i : Nat) : BufTy := match i % 128 with
  | 0 => ⟨S32x10x100000, .i32⟩
  | 1 => ⟨S_, .i32⟩
  | 2 => ⟨S32x10x100000, .i32⟩
  | 3 => ⟨S32x10x100000, .i32⟩
  | 4 => ⟨S32x10x100000, .i32⟩
  | 5 => ⟨S32x10x100000, .i32⟩
  | 6 => ⟨S32x10x100000, .i32⟩
  | 7 => ⟨S_, .i32⟩
  | 8 => ⟨S32x10x100000, .i32⟩
  | 9 => ⟨S_, .i32⟩
  | 10 => ⟨S_, .i32⟩
  | 11 => ⟨S_, .i32⟩
  | 12 => ⟨S32x10x100000, .i32⟩
  | 13 => ⟨S32x10x100000, .i32⟩
  | 14 => ⟨S32x10x100000, .i32⟩
  | 15 => ⟨S32x10x100000, .i32⟩
  | 16 => ⟨S32x10x100000, .i32⟩
  | 17 => ⟨S_, .i32⟩
  | 18 => ⟨S32x10x100000, .i32⟩
  | 19 => ⟨S32x10x100000, .i32⟩
  | 20 => ⟨S_, .i32⟩
  | 21 => ⟨S32x10x100000, .i32⟩
  | 22 => ⟨S32x10x100000, .i32⟩
  | 23 => ⟨S32x10x100000, .i32⟩
  | 24 => ⟨S32x10x100000, .i32⟩
  | 25 => ⟨S32x10x100000, .i32⟩
  | 26 => ⟨S_, .i32⟩
  | 27 => ⟨S32x10x100000, .i32⟩
  | 28 => ⟨S32x10x100000, .i32⟩
  | 29 => ⟨S_, .i32⟩
  | 30 => ⟨S32x10x100000, .i32⟩
  | 31 => ⟨S32x10x100000, .i32⟩
  | 32 => ⟨S32x10x100000, .i32⟩
  | 33 => ⟨S32x10x100000, .i32⟩
  | 34 => ⟨S32x10x100000, .i32⟩
  | 35 => ⟨S_, .i32⟩
  | 36 => ⟨S32x10x100000, .i32⟩
  | 37 => ⟨S32x10x100000, .i32⟩
  | 38 => ⟨S_, .i32⟩
  | 39 => ⟨S32x10x100000, .i32⟩
  | 40 => ⟨S32x10x100000, .i32⟩
  | 41 => ⟨S32x10x100000, .i32⟩
  | 42 => ⟨S32x10x100000, .i32⟩
  | 43 => ⟨S32x10x100000, .i32⟩
  | 44 => ⟨S_, .i32⟩
  | 45 => ⟨S32x10x100000, .i32⟩
  | 46 => ⟨S32x10x100000, .i32⟩
  | 47 => ⟨S_, .i32⟩
  | 48 => ⟨S32x10x100000, .i32⟩
  | 49 => ⟨S32x10x100000, .i32⟩
  | 50 => ⟨S32x10x100000, .i32⟩
  | 51 => ⟨S32x10x100000, .i32⟩
  | 52 => ⟨S32x10x100000, .i32⟩
  | 53 => ⟨S32x10x100000, .i32⟩
  | 54 => ⟨S_, .i32⟩
  | 55 => ⟨S_, .i32⟩
  | 56 => ⟨S32x10x100000, .i32⟩
  | 57 => ⟨S32x10x100000, .i32⟩
  | 58 => ⟨S32x10x100000, .i32⟩
  | 59 => ⟨S_, .i32⟩
  | 60 => ⟨S32x10x100000, .i32⟩
  | 61 => ⟨S32x10x100000, .i32⟩
  | 62 => ⟨S_, .i32⟩
  | 63 => ⟨S32x10x100000, .i32⟩
  | 64 => ⟨S32x10x100000, .i32⟩
  | 65 => ⟨S32x10x100000, .i32⟩
  | 66 => ⟨S32x10x100000, .i32⟩
  | 67 => ⟨S32x10x100000, .i32⟩
  | 68 => ⟨S_, .i32⟩
  | 69 => ⟨S32x10x100000, .i32⟩
  | 70 => ⟨S32x10x100000, .i32⟩
  | 71 => ⟨S_, .i32⟩
  | 72 => ⟨S32x10x100000, .i32⟩
  | 73 => ⟨S32x10x100000, .i32⟩
  | 74 => ⟨S32x10x100000, .i32⟩
  | 75 => ⟨S32x10x100000, .i32⟩
  | 76 => ⟨S32x10x100000, .i32⟩
  | 77 => ⟨S_, .i32⟩
  | 78 => ⟨S32x10x100000, .i32⟩
  | 79 => ⟨S32x10x100000, .i32⟩
  | 80 => ⟨S_, .i32⟩
  | 81 => ⟨S32x10x100000, .i32⟩
  | 82 => ⟨S32x10x100000, .i32⟩
  | 83 => ⟨S32x10x100000, .i32⟩
  | 84 => ⟨S32x10x100000, .i32⟩
  | 85 => ⟨S32x10x100000, .i32⟩
  | 86 => ⟨S_, .i32⟩
  | 87 => ⟨S32x10x100000, .i32⟩
  | 88 => ⟨S32x10x100000, .i32⟩
  | 89 => ⟨S_, .i32⟩
  | 90 => ⟨S32x10x100000, .i32⟩
  | 91 => ⟨S32x10x100000, .i32⟩
  | 92 => ⟨S32x10x100000, .i32⟩
  | 93 => ⟨S32x10x100000, .i32⟩
  | 94 => ⟨S32x10x100000, .i32⟩
  | 95 => ⟨S32x10x100000, .i32⟩
  | 96 => ⟨S_, .i32⟩
  | 97 => ⟨S_, .i32⟩
  | 98 => ⟨S32x10x100000, .i32⟩
  | 99 => ⟨S32x10x100000, .i32⟩
  | 100 => ⟨S32x10x100000, .i32⟩
  | 101 => ⟨S_, .i32⟩
  | 102 => ⟨S32x10x100000, .i32⟩
  | 103 => ⟨S32x10x100000, .i32⟩
  | 104 => ⟨S_, .i32⟩
  | 105 => ⟨S32x10x100000, .i32⟩
  | 106 => ⟨S32x10x100000, .i32⟩
  | 107 => ⟨S32x10x100000, .i32⟩
  | 108 => ⟨S32x10x100000, .i32⟩
  | 109 => ⟨S32x10x100000, .i32⟩
  | 110 => ⟨S_, .i32⟩
  | 111 => ⟨S32x10x100000, .i32⟩
  | 112 => ⟨S32x10x100000, .i32⟩
  | 113 => ⟨S_, .i32⟩
  | 114 => ⟨S32x10x100000, .i32⟩
  | 115 => ⟨S32x10x100000, .i32⟩
  | 116 => ⟨S32x10x100000, .i32⟩
  | 117 => ⟨S32x10x100000, .i32⟩
  | 118 => ⟨S32x10x100000, .i32⟩
  | 119 => ⟨S_, .i32⟩
  | 120 => ⟨S32x10x100000, .i32⟩
  | 121 => ⟨S32x10x100000, .i32⟩
  | 122 => ⟨S_, .i32⟩
  | 123 => ⟨S32x10x100000, .i32⟩
  | 124 => ⟨S32x10x100000, .i32⟩
  | 125 => ⟨S32x10x100000, .i32⟩
  | 126 => ⟨S32x10x100000, .i32⟩
  | 127 => ⟨S32x10x100000, .i32⟩
  | _ => ⟨S32, .i32⟩

abbrev hbmTy0_8 (i : Nat) : BufTy := match i % 128 with
  | 0 => ⟨S_, .i32⟩
  | 1 => ⟨S32x10x100000, .i32⟩
  | 2 => ⟨S32x10x100000, .i32⟩
  | 3 => ⟨S_, .i32⟩
  | 4 => ⟨S32x10x100000, .i32⟩
  | 5 => ⟨S32x10x100000, .i32⟩
  | 6 => ⟨S32x10x100000, .i32⟩
  | 7 => ⟨S32x10x100000, .i32⟩
  | 8 => ⟨S32x10x100000, .i32⟩
  | 9 => ⟨S32x10x100000, .i32⟩
  | 10 => ⟨S_, .i32⟩
  | 11 => ⟨S_, .i32⟩
  | 12 => ⟨S32x10x100000, .i32⟩
  | 13 => ⟨S32x10x100000, .i32⟩
  | 14 => ⟨S32x10x100000, .i32⟩
  | 15 => ⟨S_, .i32⟩
  | 16 => ⟨S32x10x100000, .i32⟩
  | 17 => ⟨S32x10x100000, .i32⟩
  | 18 => ⟨S_, .i32⟩
  | 19 => ⟨S32x10x100000, .i32⟩
  | 20 => ⟨S32x10x100000, .i32⟩
  | 21 => ⟨S32x10x100000, .i32⟩
  | 22 => ⟨S32x10x100000, .i32⟩
  | 23 => ⟨S32x10x100000, .i32⟩
  | 24 => ⟨S_, .i32⟩
  | 25 => ⟨S32x10x100000, .i32⟩
  | 26 => ⟨S32x10x100000, .i32⟩
  | 27 => ⟨S_, .i32⟩
  | 28 => ⟨S32x10x100000, .i32⟩
  | 29 => ⟨S32x10x100000, .i32⟩
  | 30 => ⟨S32x10x100000, .i32⟩
  | 31 => ⟨S32x10x100000, .i32⟩
  | 32 => ⟨S32x10x100000, .i32⟩
  | 33 => ⟨S_, .i32⟩
  | 34 => ⟨S32x10x100000, .i32⟩
  | 35 => ⟨S32x10x100000, .i32⟩
  | 36 => ⟨S_, .i32⟩
  | 37 => ⟨S32x10x100000, .i32⟩
  | 38 => ⟨S32x10x100000, .i32⟩
  | 39 => ⟨S32x10x100000, .i32⟩
  | 40 => ⟨S32x10x100000, .i32⟩
  | 41 => ⟨S32x10x100000, .i32⟩
  | 42 => ⟨S_, .i32⟩
  | 43 => ⟨S32x10x100000, .i32⟩
  | 44 => ⟨S32x10x100000, .i32⟩
  | 45 => ⟨S_, .i32⟩
  | 46 => ⟨S32x10x100000, .i32⟩
  | 47 => ⟨S32x10x100000, .i32⟩
  | 48 => ⟨S32x10x100000, .i32⟩
  | 49 => ⟨S32x10x100000, .i32⟩
  | 50 => ⟨S32x10x100000, .i32⟩
  | 51 => ⟨S32x10x100000, .i32⟩
  | 52 => ⟨S_, .i32⟩
  | 53 => ⟨S_, .i32⟩
  | 54 => ⟨S32x10x100000, .i32⟩
  | 55 => ⟨S32x10x100000, .i32⟩
  | 56 => ⟨S32x10x100000, .i32⟩
  | 57 => ⟨S_, .i32⟩
  | 58 => ⟨S32x10x100000, .i32⟩
  | 59 => ⟨S32x10x100000, .i32⟩
  | 60 => ⟨S_, .i32⟩
  | 61 => ⟨S32x10x100000, .i32⟩
  | 62 => ⟨S32x10x100000, .i32⟩
  | 63 => ⟨S32x10x100000, .i32⟩
  | 64 => ⟨S32x10x100000, .i32⟩
  | 65 => ⟨S32x10x100000, .i32⟩
  | 66 => ⟨S_, .i32⟩
  | 67 => ⟨S32x10x100000, .i32⟩
  | 68 => ⟨S32x10x100000, .i32⟩
  | 69 => ⟨S_, .i32⟩
  | 70 => ⟨S32x10x100000, .i32⟩
  | 71 => ⟨S32x10x100000, .i32⟩
  | 72 => ⟨S32x10x100000, .i32⟩
  | 73 => ⟨S32x10x100000, .i32⟩
  | 74 => ⟨S32x10x100000, .i32⟩
  | 75 => ⟨S_, .i32⟩
  | 76 => ⟨S32x10x100000, .i32⟩
  | 77 => ⟨S32x10x100000, .i32⟩
  | 78 => ⟨S_, .i32⟩
  | 79 => ⟨S32x10x100000, .i32⟩
  | 80 => ⟨S32x10x100000, .i32⟩
  | 81 => ⟨S32x10x100000, .i32⟩
  | 82 => ⟨S32x10x100000, .i32⟩
  | 83 => ⟨S32x10x100000, .i32⟩
  | 84 => ⟨S_, .i32⟩
  | 85 => ⟨S32x10x100000, .i32⟩
  | 86 => ⟨S32x10x100000, .i32⟩
  | 87 => ⟨S_, .i32⟩
  | 88 => ⟨S32x10x100000, .i32⟩
  | 89 => ⟨S32x10x100000, .i32⟩
  | 90 => ⟨S32x10x100000, .i32⟩
  | 91 => ⟨S32x10x100000, .i32⟩
  | 92 => ⟨S32x10x100000, .i32⟩
  | 93 => ⟨S32x10x100000, .i32⟩
  | 94 => ⟨S_, .i32⟩
  | 95 => ⟨S_, .i32⟩
  | 96 => ⟨S32x10x100000, .i32⟩
  | 97 => ⟨S32x10x100000, .i32⟩
  | 98 => ⟨S32x10x100000, .i32⟩
  | 99 => ⟨S_, .i32⟩
  | 100 => ⟨S32x10x100000, .i32⟩
  | 101 => ⟨S32x10x100000, .i32⟩
  | 102 => ⟨S_, .i32⟩
  | 103 => ⟨S32x10x100000, .i32⟩
  | 104 => ⟨S32x10x100000, .i32⟩
  | 105 => ⟨S32x10x100000, .f32⟩
  | 106 => ⟨S_, .f32⟩
  | 107 => ⟨S32x10x100000, .f32⟩
  | 108 => ⟨S32x10x100000, .f32⟩
  | 109 => ⟨S_, .f32⟩
  | 110 => ⟨S_, .f32⟩
  | 111 => ⟨S_, .f32⟩
  | 112 => ⟨S32x10x100000, .f32⟩
  | 113 => ⟨S32x10x100000, .f32⟩
  | 114 => ⟨S_, .f32⟩
  | 115 => ⟨S32x10x100000, .f32⟩
  | 116 => ⟨S32x10x100000, .f32⟩
  | 117 => ⟨S_, .f32⟩
  | 118 => ⟨S32x10x100000, .f32⟩
  | 119 => ⟨S32x10x100000, .f32⟩
  | 120 => ⟨S32x10x100000, .f32⟩
  | 121 => ⟨S32x10x100000, .f32⟩
  | 122 => ⟨S32x10x100000, .f32⟩
  | 123 => ⟨S32x10x100000, .f32⟩
  | 124 => ⟨S32x10x100000, .f32⟩
  | 125 => ⟨S32x10x100000, .i32⟩
  | 126 => ⟨S_, .f32⟩
  | 127 => ⟨S32x10, .f32⟩
  | _ => ⟨S32, .i32⟩

abbrev hbmTy0_9 (i : Nat) : BufTy := match i % 128 with
  | 0 => ⟨S32x10x1, .f32⟩
  | 1 => ⟨S32x10x100000, .f32⟩
  | 2 => ⟨S32x10x100000, .i1⟩
  | 3 => ⟨S_, .i32⟩
  | 4 => ⟨S32x10x100000, .i32⟩
  | 5 => ⟨S32x10x100000, .i32⟩
  | 6 => ⟨S_, .i32⟩
  | 7 => ⟨S32x10, .i32⟩
  | 8 => ⟨S_, .i1⟩
  | 9 => ⟨S32x10, .i1⟩
  | 10 => ⟨S_, .i32⟩
  | 11 => ⟨S32x10, .i32⟩
  | 12 => ⟨S32x10, .i1⟩
  | 13 => ⟨S_, .i32⟩
  | 14 => ⟨S32x10, .i32⟩
  | 15 => ⟨S32x10, .i32⟩
  | 16 => ⟨S32x10, .i32⟩
  | 17 => ⟨S32x10x1, .i32⟩
  | 18 => ⟨S1, .i32⟩
  | 19 => ⟨S_, .i32⟩
  | 20 => ⟨S32x10x1, .i32⟩
  | 21 => ⟨S32x10x1, .i1⟩
  | 22 => ⟨S1x1x1, .i32⟩
  | 23 => ⟨S32x10x1, .i32⟩
  | 24 => ⟨S32x10x1, .i1⟩
  | 25 => ⟨S32x10x1, .i1⟩
  | 26 => ⟨S_, .i1⟩
  | 27 => ⟨S32x10, .i1⟩
  | 28 => ⟨S32x10, .i32⟩
  | 29 => ⟨S_, .i32⟩
  | 30 => ⟨S32x10, .i32⟩
  | 31 => ⟨S32x10, .i32⟩
  | 32 => ⟨S_, .i32⟩
  | 33 => ⟨S32x10, .i32⟩
  | 34 => ⟨S32x10, .i1⟩
  | 35 => ⟨S_, .i32⟩
  | 36 => ⟨S32x10, .i32⟩
  | 37 => ⟨S32x10, .i32⟩
  | 38 => ⟨S32x10, .i32⟩
  | 39 => ⟨S32x10x1, .i32⟩
  | 40 => ⟨S1, .i32⟩
  | 41 => ⟨S_, .i32⟩
  | 42 => ⟨S32x10x1, .i32⟩
  | 43 => ⟨S32x10x1, .i1⟩
  | 44 => ⟨S1x1x1, .i32⟩
  | 45 => ⟨S32x10x1, .i32⟩
  | 46 => ⟨S32x10x1, .i1⟩
  | 47 => ⟨S32x10x1, .i1⟩
  | 48 => ⟨S_, .i1⟩
  | 49 => ⟨S32x10, .i1⟩
  | 50 => ⟨S32x10, .f32⟩
  | 51 => ⟨S_, .f32⟩
  | 52 => ⟨S32x10, .f32⟩
  | 53 => ⟨S32x10, .f32⟩
  | 54 => ⟨S32x10, .i1⟩
  | 55 => ⟨S32x10, .i32⟩
  | 56 => ⟨S32x10, .f32⟩
  | 57 => ⟨S_, .i32⟩
  | 58 => ⟨S_, .i32⟩
  | 59 => ⟨S32x10, .i32⟩
  | 60 => ⟨S32x10, .i32⟩
  | 61 => ⟨S_, .f32⟩
  | 62 => ⟨S_, .f32⟩
  | 63 => ⟨S32x10, .f32⟩
  | 64 => ⟨S32x10, .f32⟩
  | 65 => ⟨S32x10, .f32⟩
  | 66 => ⟨S32x10x1, .i32⟩
  | 67 => ⟨S32x10x1, .i32⟩
  | 68 => ⟨S32x10x1, .i32⟩
  | 69 => ⟨S32x10x3, .i32⟩
  | 70 => ⟨S32x10x1, .f32⟩
  | 71 => ⟨S32x10x1, .f32⟩
  | 72 => ⟨S32x10x1, .f32⟩
  | 73 => ⟨S32x10x3, .f32⟩
  | 74 => ⟨S32x10x1, .f32⟩
  | 75 => ⟨S32x10x1, .f32⟩
  | 76 => ⟨S32x10x1, .f32⟩
  | 77 => ⟨S32x10x3, .f32⟩
  | 78 => ⟨S40x8x3, .i32⟩
  | 79 => ⟨S40x8x3, .f32⟩
  | 80 => ⟨S40x8x3, .f32⟩
  | _ => ⟨S32, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_c_2 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_c_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_10 : Ref sig .tc := ⟨.hbm, 55, rfl⟩
abbrev main_v40 : Ref sig .tc := ⟨.hbm, 56, rfl⟩
abbrev main_v41 : Ref sig .tc := ⟨.hbm, 57, rfl⟩
abbrev main_c_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_c_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_14 : Ref sig .tc := ⟨.hbm, 72, rfl⟩
abbrev main_v53 : Ref sig .tc := ⟨.hbm, 73, rfl⟩
abbrev main_v54 : Ref sig .tc := ⟨.hbm, 74, rfl⟩
abbrev main_c_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_16 : Ref sig .tc := ⟨.hbm, 80, rfl⟩
abbrev main_v59 : Ref sig .tc := ⟨.hbm, 81, rfl⟩
abbrev main_v60 : Ref sig .tc := ⟨.hbm, 82, rfl⟩
abbrev main_c_17 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_18 : Ref sig .tc := ⟨.hbm, 89, rfl⟩
abbrev main_v66 : Ref sig .tc := ⟨.hbm, 90, rfl⟩
abbrev main_v67 : Ref sig .tc := ⟨.hbm, 91, rfl⟩
abbrev main_c_19 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_20 : Ref sig .tc := ⟨.hbm, 98, rfl⟩
abbrev main_v73 : Ref sig .tc := ⟨.hbm, 99, rfl⟩
abbrev main_v74 : Ref sig .tc := ⟨.hbm, 100, rfl⟩
abbrev main_c_21 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_22 : Ref sig .tc := ⟨.hbm, 107, rfl⟩
abbrev main_v80 : Ref sig .tc := ⟨.hbm, 108, rfl⟩
abbrev main_v81 : Ref sig .tc := ⟨.hbm, 109, rfl⟩
abbrev main_c_23 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_24 : Ref sig .tc := ⟨.hbm, 117, rfl⟩
abbrev main_c_25 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_26 : Ref sig .tc := ⟨.hbm, 123, rfl⟩
abbrev main_v92 : Ref sig .tc := ⟨.hbm, 124, rfl⟩
abbrev main_v93 : Ref sig .tc := ⟨.hbm, 125, rfl⟩
abbrev main_c_27 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_28 : Ref sig .tc := ⟨.hbm, 132, rfl⟩
abbrev main_v99 : Ref sig .tc := ⟨.hbm, 133, rfl⟩
abbrev main_v100 : Ref sig .tc := ⟨.hbm, 134, rfl⟩
abbrev main_c_29 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_30 : Ref sig .tc := ⟨.hbm, 141, rfl⟩
abbrev main_v106 : Ref sig .tc := ⟨.hbm, 142, rfl⟩
abbrev main_v107 : Ref sig .tc := ⟨.hbm, 143, rfl⟩
abbrev main_c_31 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_c_32 : Ref sig .tc := ⟨.hbm, 150, rfl⟩
abbrev main_v113 : Ref sig .tc := ⟨.hbm, 151, rfl⟩
abbrev main_v114 : Ref sig .tc := ⟨.hbm, 152, rfl⟩
abbrev main_c_33 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_c_34 : Ref sig .tc := ⟨.hbm, 158, rfl⟩
abbrev main_v119 : Ref sig .tc := ⟨.hbm, 159, rfl⟩
abbrev main_v120 : Ref sig .tc := ⟨.hbm, 160, rfl⟩
abbrev main_c_35 : Ref sig .tc := ⟨.hbm, 161, rfl⟩
abbrev main_c_36 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_37 : Ref sig .tc := ⟨.hbm, 167, rfl⟩
abbrev main_v125 : Ref sig .tc := ⟨.hbm, 168, rfl⟩
abbrev main_v126 : Ref sig .tc := ⟨.hbm, 169, rfl⟩
abbrev main_c_38 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_39 : Ref sig .tc := ⟨.hbm, 176, rfl⟩
abbrev main_v132 : Ref sig .tc := ⟨.hbm, 177, rfl⟩
abbrev main_v133 : Ref sig .tc := ⟨.hbm, 178, rfl⟩
abbrev main_c_40 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_c_41 : Ref sig .tc := ⟨.hbm, 185, rfl⟩
abbrev main_v139 : Ref sig .tc := ⟨.hbm, 186, rfl⟩
abbrev main_v140 : Ref sig .tc := ⟨.hbm, 187, rfl⟩
abbrev main_c_42 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_c_43 : Ref sig .tc := ⟨.hbm, 194, rfl⟩
abbrev main_v146 : Ref sig .tc := ⟨.hbm, 195, rfl⟩
abbrev main_v147 : Ref sig .tc := ⟨.hbm, 196, rfl⟩
abbrev main_c_44 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_c_45 : Ref sig .tc := ⟨.hbm, 202, rfl⟩
abbrev main_v152 : Ref sig .tc := ⟨.hbm, 203, rfl⟩
abbrev main_v153 : Ref sig .tc := ⟨.hbm, 204, rfl⟩
abbrev main_c_46 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_47 : Ref sig .tc := ⟨.hbm, 210, rfl⟩
abbrev main_v158 : Ref sig .tc := ⟨.hbm, 211, rfl⟩
abbrev main_v159 : Ref sig .tc := ⟨.hbm, 212, rfl⟩
abbrev main_c_48 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_c_49 : Ref sig .tc := ⟨.hbm, 219, rfl⟩
abbrev main_v165 : Ref sig .tc := ⟨.hbm, 220, rfl⟩
abbrev main_v166 : Ref sig .tc := ⟨.hbm, 221, rfl⟩
abbrev main_c_50 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_c_51 : Ref sig .tc := ⟨.hbm, 228, rfl⟩
abbrev main_v172 : Ref sig .tc := ⟨.hbm, 229, rfl⟩
abbrev main_v173 : Ref sig .tc := ⟨.hbm, 230, rfl⟩
abbrev main_c_52 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_c_53 : Ref sig .tc := ⟨.hbm, 237, rfl⟩
abbrev main_v179 : Ref sig .tc := ⟨.hbm, 238, rfl⟩
abbrev main_v180 : Ref sig .tc := ⟨.hbm, 239, rfl⟩
abbrev main_c_54 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_c_55 : Ref sig .tc := ⟨.hbm, 247, rfl⟩
abbrev main_c_56 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_cst : Ref sig .tc := ⟨.hbm, 272, rfl⟩
abbrev main_call0_v0 : Ref sig .tc := ⟨.hbm, 273, rfl⟩
abbrev main_call0_v1 : Ref sig .tc := ⟨.hbm, 274, rfl⟩
abbrev main_call0_v2 : Ref sig .tc := ⟨.hbm, 275, rfl⟩
abbrev main_v210 : Ref sig .tc := ⟨.hbm, 276, rfl⟩
abbrev main_cst_57 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_cst_58 : Ref sig .tc := ⟨.hbm, 281, rfl⟩
abbrev main_v214 : Ref sig .tc := ⟨.hbm, 282, rfl⟩
abbrev main_v215 : Ref sig .tc := ⟨.hbm, 283, rfl⟩
abbrev main_cst_59 : Ref sig .tc := ⟨.hbm, 284, rfl⟩
abbrev main_call1_v0 : Ref sig .tc := ⟨.hbm, 285, rfl⟩
abbrev main_call1_v1 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_cst_60 : Ref sig .tc := ⟨.hbm, 292, rfl⟩
abbrev main_v221 : Ref sig .tc := ⟨.hbm, 293, rfl⟩
abbrev main_v222 : Ref sig .tc := ⟨.hbm, 294, rfl⟩
abbrev main_cst_61 : Ref sig .tc := ⟨.hbm, 295, rfl⟩
abbrev main_call2_v0 : Ref sig .tc := ⟨.hbm, 296, rfl⟩
abbrev main_call2_v1 : Ref sig .tc := ⟨.hbm, 297, rfl⟩
abbrev main_v223 : Ref sig .tc := ⟨.hbm, 298, rfl⟩
abbrev main_v224 : Ref sig .tc := ⟨.hbm, 299, rfl⟩
abbrev main_c_62 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_c_63 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_c_64 : Ref sig .tc := ⟨.hbm, 310, rfl⟩
abbrev main_v233 : Ref sig .tc := ⟨.hbm, 311, rfl⟩
abbrev main_v234 : Ref sig .tc := ⟨.hbm, 312, rfl⟩
abbrev main_c_65 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_c_66 : Ref sig .tc := ⟨.hbm, 320, rfl⟩
abbrev main_v241 : Ref sig .tc := ⟨.hbm, 321, rfl⟩
abbrev main_v242 : Ref sig .tc := ⟨.hbm, 322, rfl⟩
abbrev main_c_67 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_v247 : Ref sig .tc := ⟨.hbm, 328, rfl⟩
abbrev main_c_68 : Ref sig .tc := ⟨.hbm, 329, rfl⟩
abbrev main_v248 : Ref sig .tc := ⟨.hbm, 330, rfl⟩
abbrev main_v249 : Ref sig .tc := ⟨.hbm, 331, rfl⟩
abbrev main_c_69 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_c_70 : Ref sig .tc := ⟨.hbm, 338, rfl⟩
abbrev main_v255 : Ref sig .tc := ⟨.hbm, 339, rfl⟩
abbrev main_v256 : Ref sig .tc := ⟨.hbm, 340, rfl⟩
abbrev main_c_71 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_c_72 : Ref sig .tc := ⟨.hbm, 347, rfl⟩
abbrev main_v262 : Ref sig .tc := ⟨.hbm, 348, rfl⟩
abbrev main_v263 : Ref sig .tc := ⟨.hbm, 349, rfl⟩
abbrev main_c_73 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_v269 : Ref sig .tc := ⟨.hbm, 356, rfl⟩
abbrev main_c_74 : Ref sig .tc := ⟨.hbm, 357, rfl⟩
abbrev main_v270 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_c_75 : Ref sig .tc := ⟨.hbm, 362, rfl⟩
abbrev main_v274 : Ref sig .tc := ⟨.hbm, 363, rfl⟩
abbrev main_v275 : Ref sig .tc := ⟨.hbm, 364, rfl⟩
abbrev main_c_76 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_c_77 : Ref sig .tc := ⟨.hbm, 371, rfl⟩
abbrev main_v281 : Ref sig .tc := ⟨.hbm, 372, rfl⟩
abbrev main_v282 : Ref sig .tc := ⟨.hbm, 373, rfl⟩
abbrev main_c_78 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_c_79 : Ref sig .tc := ⟨.hbm, 380, rfl⟩
abbrev main_v288 : Ref sig .tc := ⟨.hbm, 381, rfl⟩
abbrev main_v289 : Ref sig .tc := ⟨.hbm, 382, rfl⟩
abbrev main_c_80 : Ref sig .tc := ⟨.hbm, 383, rfl⟩
abbrev main_v290 : Ref sig .tc := ⟨.hbm, 384, rfl⟩
abbrev main_v291 : Ref sig .tc := ⟨.hbm, 385, rfl⟩
abbrev main_v292 : Ref sig .tc := ⟨.hbm, 386, rfl⟩
abbrev main_v293 : Ref sig .tc := ⟨.hbm, 387, rfl⟩
abbrev main_v294 : Ref sig .tc := ⟨.hbm, 388, rfl⟩
abbrev main_c_81 : Ref sig .tc := ⟨.hbm, 389, rfl⟩
abbrev main_v295 : Ref sig .tc := ⟨.hbm, 390, rfl⟩
abbrev main_v296 : Ref sig .tc := ⟨.hbm, 391, rfl⟩
abbrev main_c_82 : Ref sig .tc := ⟨.hbm, 392, rfl⟩
abbrev main_v297 : Ref sig .tc := ⟨.hbm, 393, rfl⟩
abbrev main_v298 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_c_83 : Ref sig .tc := ⟨.hbm, 399, rfl⟩
abbrev main_v303 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩
abbrev main_c_84 : Ref sig .tc := ⟨.hbm, 404, rfl⟩
abbrev main_v307 : Ref sig .tc := ⟨.hbm, 405, rfl⟩
abbrev main_v308 : Ref sig .tc := ⟨.hbm, 406, rfl⟩
abbrev main_c_85 : Ref sig .tc := ⟨.hbm, 407, rfl⟩
abbrev main_v309 : Ref sig .tc := ⟨.hbm, 408, rfl⟩
abbrev main_v310 : Ref sig .tc := ⟨.hbm, 409, rfl⟩
abbrev main_v311 : Ref sig .tc := ⟨.hbm, 410, rfl⟩
abbrev main_v312 : Ref sig .tc := ⟨.hbm, 411, rfl⟩
abbrev main_v313 : Ref sig .tc := ⟨.hbm, 412, rfl⟩
abbrev main_c_86 : Ref sig .tc := ⟨.hbm, 413, rfl⟩
abbrev main_v314 : Ref sig .tc := ⟨.hbm, 414, rfl⟩
abbrev main_v315 : Ref sig .tc := ⟨.hbm, 415, rfl⟩
abbrev main_c_87 : Ref sig .tc := ⟨.hbm, 416, rfl⟩
abbrev main_v316 : Ref sig .tc := ⟨.hbm, 417, rfl⟩
abbrev main_v317 : Ref sig .tc := ⟨.hbm, 418, rfl⟩
abbrev main_v318 : Ref sig .tc := ⟨.hbm, 419, rfl⟩
abbrev main_v319 : Ref sig .tc := ⟨.hbm, 420, rfl⟩
abbrev main_v320 : Ref sig .tc := ⟨.hbm, 421, rfl⟩
abbrev main_c_88 : Ref sig .tc := ⟨.hbm, 422, rfl⟩
abbrev main_v321 : Ref sig .tc := ⟨.hbm, 423, rfl⟩
abbrev main_v322 : Ref sig .tc := ⟨.hbm, 424, rfl⟩
abbrev main_c_89 : Ref sig .tc := ⟨.hbm, 425, rfl⟩
abbrev main_v323 : Ref sig .tc := ⟨.hbm, 426, rfl⟩
abbrev main_v324 : Ref sig .tc := ⟨.hbm, 427, rfl⟩
abbrev main_v325 : Ref sig .tc := ⟨.hbm, 428, rfl⟩
abbrev main_v326 : Ref sig .tc := ⟨.hbm, 429, rfl⟩
abbrev main_v327 : Ref sig .tc := ⟨.hbm, 430, rfl⟩
abbrev main_c_90 : Ref sig .tc := ⟨.hbm, 431, rfl⟩
abbrev main_v328 : Ref sig .tc := ⟨.hbm, 432, rfl⟩
abbrev main_v329 : Ref sig .tc := ⟨.hbm, 433, rfl⟩
abbrev main_c_91 : Ref sig .tc := ⟨.hbm, 434, rfl⟩
abbrev main_v330 : Ref sig .tc := ⟨.hbm, 435, rfl⟩
abbrev main_v331 : Ref sig .tc := ⟨.hbm, 436, rfl⟩
abbrev main_v332 : Ref sig .tc := ⟨.hbm, 437, rfl⟩
abbrev main_v333 : Ref sig .tc := ⟨.hbm, 438, rfl⟩
abbrev main_v334 : Ref sig .tc := ⟨.hbm, 439, rfl⟩
abbrev main_v335 : Ref sig .tc := ⟨.hbm, 440, rfl⟩
abbrev main_c_92 : Ref sig .tc := ⟨.hbm, 441, rfl⟩
abbrev main_v336 : Ref sig .tc := ⟨.hbm, 442, rfl⟩
abbrev main_v337 : Ref sig .tc := ⟨.hbm, 443, rfl⟩
abbrev main_v338 : Ref sig .tc := ⟨.hbm, 444, rfl⟩
abbrev main_v339 : Ref sig .tc := ⟨.hbm, 445, rfl⟩
abbrev main_c_93 : Ref sig .tc := ⟨.hbm, 446, rfl⟩
abbrev main_v340 : Ref sig .tc := ⟨.hbm, 447, rfl⟩
abbrev main_v341 : Ref sig .tc := ⟨.hbm, 448, rfl⟩
abbrev main_c_94 : Ref sig .tc := ⟨.hbm, 449, rfl⟩
abbrev main_v342 : Ref sig .tc := ⟨.hbm, 450, rfl⟩
abbrev main_v343 : Ref sig .tc := ⟨.hbm, 451, rfl⟩
abbrev main_v344 : Ref sig .tc := ⟨.hbm, 452, rfl⟩
abbrev main_v345 : Ref sig .tc := ⟨.hbm, 453, rfl⟩
abbrev main_v346 : Ref sig .tc := ⟨.hbm, 454, rfl⟩
abbrev main_c_95 : Ref sig .tc := ⟨.hbm, 455, rfl⟩
abbrev main_v347 : Ref sig .tc := ⟨.hbm, 456, rfl⟩
abbrev main_v348 : Ref sig .tc := ⟨.hbm, 457, rfl⟩
abbrev main_c_96 : Ref sig .tc := ⟨.hbm, 458, rfl⟩
abbrev main_v349 : Ref sig .tc := ⟨.hbm, 459, rfl⟩
abbrev main_v350 : Ref sig .tc := ⟨.hbm, 460, rfl⟩
abbrev main_v351 : Ref sig .tc := ⟨.hbm, 461, rfl⟩
abbrev main_v352 : Ref sig .tc := ⟨.hbm, 462, rfl⟩
abbrev main_v353 : Ref sig .tc := ⟨.hbm, 463, rfl⟩
abbrev main_c_97 : Ref sig .tc := ⟨.hbm, 464, rfl⟩
abbrev main_v354 : Ref sig .tc := ⟨.hbm, 465, rfl⟩
abbrev main_v355 : Ref sig .tc := ⟨.hbm, 466, rfl⟩
abbrev main_c_98 : Ref sig .tc := ⟨.hbm, 467, rfl⟩
abbrev main_v356 : Ref sig .tc := ⟨.hbm, 468, rfl⟩
abbrev main_v357 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_c_99 : Ref sig .tc := ⟨.hbm, 473, rfl⟩
abbrev main_v361 : Ref sig .tc := ⟨.hbm, 474, rfl⟩
abbrev main_v362 : Ref sig .tc := ⟨.hbm, 475, rfl⟩
abbrev main_c_100 : Ref sig .tc := ⟨.hbm, 476, rfl⟩
abbrev main_v363 : Ref sig .tc := ⟨.hbm, 477, rfl⟩
abbrev main_v364 : Ref sig .tc := ⟨.hbm, 478, rfl⟩
abbrev main_v365 : Ref sig .tc := ⟨.hbm, 479, rfl⟩
abbrev main_v366 : Ref sig .tc := ⟨.hbm, 480, rfl⟩
abbrev main_v367 : Ref sig .tc := ⟨.hbm, 481, rfl⟩
abbrev main_v368 : Ref sig .tc := ⟨.hbm, 482, rfl⟩
abbrev main_c_101 : Ref sig .tc := ⟨.hbm, 483, rfl⟩
abbrev main_v369 : Ref sig .tc := ⟨.hbm, 484, rfl⟩
abbrev main_v370 : Ref sig .tc := ⟨.hbm, 485, rfl⟩
abbrev main_v371 : Ref sig .tc := ⟨.hbm, 486, rfl⟩
abbrev main_v372 : Ref sig .tc := ⟨.hbm, 487, rfl⟩
abbrev main_c_102 : Ref sig .tc := ⟨.hbm, 488, rfl⟩
abbrev main_v373 : Ref sig .tc := ⟨.hbm, 489, rfl⟩
abbrev main_v374 : Ref sig .tc := ⟨.hbm, 490, rfl⟩
abbrev main_c_103 : Ref sig .tc := ⟨.hbm, 491, rfl⟩
abbrev main_v375 : Ref sig .tc := ⟨.hbm, 492, rfl⟩
abbrev main_v376 : Ref sig .tc := ⟨.hbm, 493, rfl⟩
abbrev main_v377 : Ref sig .tc := ⟨.hbm, 494, rfl⟩
abbrev main_v378 : Ref sig .tc := ⟨.hbm, 495, rfl⟩
abbrev main_v379 : Ref sig .tc := ⟨.hbm, 496, rfl⟩
abbrev main_c_104 : Ref sig .tc := ⟨.hbm, 497, rfl⟩
abbrev main_v380 : Ref sig .tc := ⟨.hbm, 498, rfl⟩
abbrev main_v381 : Ref sig .tc := ⟨.hbm, 499, rfl⟩
abbrev main_c_105 : Ref sig .tc := ⟨.hbm, 500, rfl⟩
abbrev main_v382 : Ref sig .tc := ⟨.hbm, 501, rfl⟩
abbrev main_v383 : Ref sig .tc := ⟨.hbm, 502, rfl⟩
abbrev main_v384 : Ref sig .tc := ⟨.hbm, 503, rfl⟩
abbrev main_v385 : Ref sig .tc := ⟨.hbm, 504, rfl⟩
abbrev main_v386 : Ref sig .tc := ⟨.hbm, 505, rfl⟩
abbrev main_c_106 : Ref sig .tc := ⟨.hbm, 506, rfl⟩
abbrev main_v387 : Ref sig .tc := ⟨.hbm, 507, rfl⟩
abbrev main_v388 : Ref sig .tc := ⟨.hbm, 508, rfl⟩
abbrev main_c_107 : Ref sig .tc := ⟨.hbm, 509, rfl⟩
abbrev main_v389 : Ref sig .tc := ⟨.hbm, 510, rfl⟩
abbrev main_v390 : Ref sig .tc := ⟨.hbm, 511, rfl⟩
abbrev main_v391 : Ref sig .tc := ⟨.hbm, 512, rfl⟩
abbrev main_v392 : Ref sig .tc := ⟨.hbm, 513, rfl⟩
abbrev main_v393 : Ref sig .tc := ⟨.hbm, 514, rfl⟩
abbrev main_c_108 : Ref sig .tc := ⟨.hbm, 515, rfl⟩
abbrev main_v394 : Ref sig .tc := ⟨.hbm, 516, rfl⟩
abbrev main_v395 : Ref sig .tc := ⟨.hbm, 517, rfl⟩
abbrev main_c_109 : Ref sig .tc := ⟨.hbm, 518, rfl⟩
abbrev main_v396 : Ref sig .tc := ⟨.hbm, 519, rfl⟩
abbrev main_v397 : Ref sig .tc := ⟨.hbm, 520, rfl⟩
abbrev main_v398 : Ref sig .tc := ⟨.hbm, 521, rfl⟩
abbrev main_v399 : Ref sig .tc := ⟨.hbm, 522, rfl⟩
abbrev main_v400 : Ref sig .tc := ⟨.hbm, 523, rfl⟩
abbrev main_v401 : Ref sig .tc := ⟨.hbm, 524, rfl⟩
abbrev main_c_110 : Ref sig .tc := ⟨.hbm, 525, rfl⟩
abbrev main_v402 : Ref sig .tc := ⟨.hbm, 526, rfl⟩
abbrev main_v403 : Ref sig .tc := ⟨.hbm, 527, rfl⟩
abbrev main_v404 : Ref sig .tc := ⟨.hbm, 528, rfl⟩
abbrev main_v405 : Ref sig .tc := ⟨.hbm, 529, rfl⟩
abbrev main_c_111 : Ref sig .tc := ⟨.hbm, 530, rfl⟩
abbrev main_v406 : Ref sig .tc := ⟨.hbm, 531, rfl⟩
abbrev main_v407 : Ref sig .tc := ⟨.hbm, 532, rfl⟩
abbrev main_c_112 : Ref sig .tc := ⟨.hbm, 533, rfl⟩
abbrev main_v408 : Ref sig .tc := ⟨.hbm, 534, rfl⟩
abbrev main_v409 : Ref sig .tc := ⟨.hbm, 535, rfl⟩
abbrev main_v410 : Ref sig .tc := ⟨.hbm, 536, rfl⟩
abbrev main_cst_113 : Ref sig .tc := ⟨.hbm, 537, rfl⟩
abbrev main_v411 : Ref sig .tc := ⟨.hbm, 538, rfl⟩
abbrev main_v412 : Ref sig .tc := ⟨.hbm, 539, rfl⟩
abbrev main_cst_114 : Ref sig .tc := ⟨.hbm, 540, rfl⟩
abbrev main_cst_115 : Ref sig .tc := ⟨.hbm, 541, rfl⟩
abbrev main_v413 : Ref sig .tc := ⟨.hbm, 542, rfl⟩
abbrev main_v414 : Ref sig .tc := ⟨.hbm, 543, rfl⟩
abbrev main_v415 : Ref sig .tc := ⟨.hbm, 544, rfl⟩
abbrev main_cst_116 : Ref sig .tc := ⟨.hbm, 545, rfl⟩
abbrev main_v416 : Ref sig .tc := ⟨.hbm, 546, rfl⟩
abbrev main_v417 : Ref sig .tc := ⟨.hbm, 547, rfl⟩
abbrev main_cst_117 : Ref sig .tc := ⟨.hbm, 548, rfl⟩
abbrev main_v418 : Ref sig .tc := ⟨.hbm, 549, rfl⟩
abbrev main_v419 : Ref sig .tc := ⟨.hbm, 550, rfl⟩
abbrev main_v420 : Ref sig .tc := ⟨.hbm, 551, rfl⟩
abbrev main_v421 : Ref sig .tc := ⟨.hbm, 552, rfl⟩
abbrev main_v422 : Ref sig .tc := ⟨.hbm, 553, rfl⟩
abbrev main_v423 : Ref sig .tc := ⟨.hbm, 554, rfl⟩
abbrev main_v424 : Ref sig .tc := ⟨.hbm, 555, rfl⟩
abbrev main_v425 : Ref sig .tc := ⟨.hbm, 556, rfl⟩
abbrev main_cst_118 : Ref sig .tc := ⟨.hbm, 557, rfl⟩
abbrev main_v426 : Ref sig .tc := ⟨.hbm, 558, rfl⟩
abbrev main_v427 : Ref sig .tc := ⟨.hbm, 559, rfl⟩
abbrev main_v428 : Ref sig .tc := ⟨.hbm, 560, rfl⟩
abbrev main_v429 : Ref sig .tc := ⟨.hbm, 561, rfl⟩
abbrev main_c_119 : Ref sig .tc := ⟨.hbm, 562, rfl⟩
abbrev main_call3_v0 : Ref sig .tc := ⟨.hbm, 563, rfl⟩
abbrev main_v430 : Ref sig .tc := ⟨.hbm, 564, rfl⟩
abbrev main_c_120 : Ref sig .tc := ⟨.hbm, 565, rfl⟩
abbrev main_v431 : Ref sig .tc := ⟨.hbm, 566, rfl⟩
abbrev main_c_121 : Ref sig .tc := ⟨.hbm, 567, rfl⟩
abbrev main_v432 : Ref sig .tc := ⟨.hbm, 568, rfl⟩
abbrev main_call4_c : Ref sig .tc := ⟨.hbm, 569, rfl⟩
abbrev main_call4_v0 : Ref sig .tc := ⟨.hbm, 570, rfl⟩
abbrev main_call4_v1 : Ref sig .tc := ⟨.hbm, 571, rfl⟩
abbrev main_call4_c_0 : Ref sig .tc := ⟨.hbm, 572, rfl⟩
abbrev main_call4_v2 : Ref sig .tc := ⟨.hbm, 573, rfl⟩
abbrev main_call4_v3 : Ref sig .tc := ⟨.hbm, 574, rfl⟩
abbrev main_call4_v4 : Ref sig .tc := ⟨.hbm, 575, rfl⟩
abbrev main_call4_v5 : Ref sig .tc := ⟨.hbm, 576, rfl⟩
abbrev main_call4_c_1 : Ref sig .tc := ⟨.hbm, 577, rfl⟩
abbrev main_call4_c_2 : Ref sig .tc := ⟨.hbm, 578, rfl⟩
abbrev main_call4_v6 : Ref sig .tc := ⟨.hbm, 579, rfl⟩
abbrev main_call4_v7 : Ref sig .tc := ⟨.hbm, 580, rfl⟩
abbrev main_call4_v8 : Ref sig .tc := ⟨.hbm, 581, rfl⟩
abbrev main_call4_v9 : Ref sig .tc := ⟨.hbm, 582, rfl⟩
abbrev main_call4_v10 : Ref sig .tc := ⟨.hbm, 583, rfl⟩
abbrev main_call4_v11 : Ref sig .tc := ⟨.hbm, 584, rfl⟩
abbrev main_call4_c_3 : Ref sig .tc := ⟨.hbm, 585, rfl⟩
abbrev main_call4_v12 : Ref sig .tc := ⟨.hbm, 586, rfl⟩
abbrev main_call4_v13 : Ref sig .tc := ⟨.hbm, 587, rfl⟩
abbrev main_call4_c_4 : Ref sig .tc := ⟨.hbm, 588, rfl⟩
abbrev main_call4_v14 : Ref sig .tc := ⟨.hbm, 589, rfl⟩
abbrev main_v433 : Ref sig .tc := ⟨.hbm, 590, rfl⟩
abbrev main_call5_c : Ref sig .tc := ⟨.hbm, 591, rfl⟩
abbrev main_call5_v0 : Ref sig .tc := ⟨.hbm, 592, rfl⟩
abbrev main_call5_v1 : Ref sig .tc := ⟨.hbm, 593, rfl⟩
abbrev main_call5_c_0 : Ref sig .tc := ⟨.hbm, 594, rfl⟩
abbrev main_call5_v2 : Ref sig .tc := ⟨.hbm, 595, rfl⟩
abbrev main_call5_v3 : Ref sig .tc := ⟨.hbm, 596, rfl⟩
abbrev main_call5_v4 : Ref sig .tc := ⟨.hbm, 597, rfl⟩
abbrev main_call5_v5 : Ref sig .tc := ⟨.hbm, 598, rfl⟩
abbrev main_call5_c_1 : Ref sig .tc := ⟨.hbm, 599, rfl⟩
abbrev main_call5_c_2 : Ref sig .tc := ⟨.hbm, 600, rfl⟩
abbrev main_call5_v6 : Ref sig .tc := ⟨.hbm, 601, rfl⟩
abbrev main_call5_v7 : Ref sig .tc := ⟨.hbm, 602, rfl⟩
abbrev main_call5_v8 : Ref sig .tc := ⟨.hbm, 603, rfl⟩
abbrev main_call5_v9 : Ref sig .tc := ⟨.hbm, 604, rfl⟩
abbrev main_call5_v10 : Ref sig .tc := ⟨.hbm, 605, rfl⟩
abbrev main_call5_v11 : Ref sig .tc := ⟨.hbm, 606, rfl⟩
abbrev main_call5_c_3 : Ref sig .tc := ⟨.hbm, 607, rfl⟩
abbrev main_call5_v12 : Ref sig .tc := ⟨.hbm, 608, rfl⟩
abbrev main_call5_v13 : Ref sig .tc := ⟨.hbm, 609, rfl⟩
abbrev main_call5_cst : Ref sig .tc := ⟨.hbm, 610, rfl⟩
abbrev main_call5_v14 : Ref sig .tc := ⟨.hbm, 611, rfl⟩
abbrev main_v434 : Ref sig .tc := ⟨.hbm, 612, rfl⟩
abbrev main_v435 : Ref sig .tc := ⟨.hbm, 613, rfl⟩
abbrev main_v436 : Ref sig .tc := ⟨.hbm, 614, rfl⟩
abbrev main_v437 : Ref sig .tc := ⟨.hbm, 615, rfl⟩
abbrev main_c_122 : Ref sig .tc := ⟨.hbm, 616, rfl⟩
abbrev main_call8_v0 : Ref sig .tc := ⟨.hbm, 617, rfl⟩
abbrev main_call8_v1 : Ref sig .tc := ⟨.hbm, 618, rfl⟩
abbrev main_v438 : Ref sig .tc := ⟨.hbm, 619, rfl⟩
abbrev main_cst_123 : Ref sig .tc := ⟨.hbm, 620, rfl⟩
abbrev main_call9_v0 : Ref sig .tc := ⟨.hbm, 621, rfl⟩
abbrev main_call9_v1 : Ref sig .tc := ⟨.hbm, 622, rfl⟩
abbrev main_v439 : Ref sig .tc := ⟨.hbm, 623, rfl⟩
abbrev main_v440 : Ref sig .tc := ⟨.hbm, 624, rfl⟩
abbrev main_c_124 : Ref sig .tc := ⟨.hbm, 625, rfl⟩
abbrev main_v441 : Ref sig .tc := ⟨.hbm, 626, rfl⟩
abbrev main_v442 : Ref sig .tc := ⟨.hbm, 627, rfl⟩
abbrev main_v443 : Ref sig .tc := ⟨.hbm, 628, rfl⟩
abbrev main_c_125 : Ref sig .tc := ⟨.hbm, 629, rfl⟩
abbrev main_v444 : Ref sig .tc := ⟨.hbm, 630, rfl⟩
abbrev main_v445 : Ref sig .tc := ⟨.hbm, 631, rfl⟩
abbrev main_v446 : Ref sig .tc := ⟨.hbm, 632, rfl⟩
abbrev main_v447 : Ref sig .tc := ⟨.hbm, 633, rfl⟩
abbrev main_v448 : Ref sig .tc := ⟨.hbm, 634, rfl⟩
abbrev main_v449 : Ref sig .tc := ⟨.hbm, 635, rfl⟩
abbrev main_c_126 : Ref sig .tc := ⟨.hbm, 636, rfl⟩
abbrev main_v450 : Ref sig .tc := ⟨.hbm, 637, rfl⟩
abbrev main_v451 : Ref sig .tc := ⟨.hbm, 638, rfl⟩
abbrev main_c_127 : Ref sig .tc := ⟨.hbm, 639, rfl⟩
abbrev main_v452 : Ref sig .tc := ⟨.hbm, 640, rfl⟩
abbrev main_v453 : Ref sig .tc := ⟨.hbm, 641, rfl⟩
abbrev main_v454 : Ref sig .tc := ⟨.hbm, 642, rfl⟩
abbrev main_v455 : Ref sig .tc := ⟨.hbm, 643, rfl⟩
abbrev main_v456 : Ref sig .tc := ⟨.hbm, 644, rfl⟩
abbrev main_c_128 : Ref sig .tc := ⟨.hbm, 645, rfl⟩
abbrev main_v457 : Ref sig .tc := ⟨.hbm, 646, rfl⟩
abbrev main_v458 : Ref sig .tc := ⟨.hbm, 647, rfl⟩
abbrev main_c_129 : Ref sig .tc := ⟨.hbm, 648, rfl⟩
abbrev main_v459 : Ref sig .tc := ⟨.hbm, 649, rfl⟩
abbrev main_v460 : Ref sig .tc := ⟨.hbm, 650, rfl⟩
abbrev main_v461 : Ref sig .tc := ⟨.hbm, 651, rfl⟩
abbrev main_v462 : Ref sig .tc := ⟨.hbm, 652, rfl⟩
abbrev main_v463 : Ref sig .tc := ⟨.hbm, 653, rfl⟩
abbrev main_c_130 : Ref sig .tc := ⟨.hbm, 654, rfl⟩
abbrev main_v464 : Ref sig .tc := ⟨.hbm, 655, rfl⟩
abbrev main_v465 : Ref sig .tc := ⟨.hbm, 656, rfl⟩
abbrev main_c_131 : Ref sig .tc := ⟨.hbm, 657, rfl⟩
abbrev main_v466 : Ref sig .tc := ⟨.hbm, 658, rfl⟩
abbrev main_v467 : Ref sig .tc := ⟨.hbm, 659, rfl⟩
abbrev main_v468 : Ref sig .tc := ⟨.hbm, 660, rfl⟩
abbrev main_v469 : Ref sig .tc := ⟨.hbm, 661, rfl⟩
abbrev main_v470 : Ref sig .tc := ⟨.hbm, 662, rfl⟩
abbrev main_c_132 : Ref sig .tc := ⟨.hbm, 663, rfl⟩
abbrev main_v471 : Ref sig .tc := ⟨.hbm, 664, rfl⟩
abbrev main_v472 : Ref sig .tc := ⟨.hbm, 665, rfl⟩
abbrev main_c_133 : Ref sig .tc := ⟨.hbm, 666, rfl⟩
abbrev main_v473 : Ref sig .tc := ⟨.hbm, 667, rfl⟩
abbrev main_v474 : Ref sig .tc := ⟨.hbm, 668, rfl⟩
abbrev main_v475 : Ref sig .tc := ⟨.hbm, 669, rfl⟩
abbrev main_v476 : Ref sig .tc := ⟨.hbm, 670, rfl⟩
abbrev main_v477 : Ref sig .tc := ⟨.hbm, 671, rfl⟩
abbrev main_v478 : Ref sig .tc := ⟨.hbm, 672, rfl⟩
abbrev main_c_134 : Ref sig .tc := ⟨.hbm, 673, rfl⟩
abbrev main_v479 : Ref sig .tc := ⟨.hbm, 674, rfl⟩
abbrev main_v480 : Ref sig .tc := ⟨.hbm, 675, rfl⟩
abbrev main_v481 : Ref sig .tc := ⟨.hbm, 676, rfl⟩
abbrev main_v482 : Ref sig .tc := ⟨.hbm, 677, rfl⟩
abbrev main_c_135 : Ref sig .tc := ⟨.hbm, 678, rfl⟩
abbrev main_v483 : Ref sig .tc := ⟨.hbm, 679, rfl⟩
abbrev main_v484 : Ref sig .tc := ⟨.hbm, 680, rfl⟩
abbrev main_c_136 : Ref sig .tc := ⟨.hbm, 681, rfl⟩
abbrev main_v485 : Ref sig .tc := ⟨.hbm, 682, rfl⟩
abbrev main_v486 : Ref sig .tc := ⟨.hbm, 683, rfl⟩
abbrev main_v487 : Ref sig .tc := ⟨.hbm, 684, rfl⟩
abbrev main_v488 : Ref sig .tc := ⟨.hbm, 685, rfl⟩
abbrev main_v489 : Ref sig .tc := ⟨.hbm, 686, rfl⟩
abbrev main_c_137 : Ref sig .tc := ⟨.hbm, 687, rfl⟩
abbrev main_v490 : Ref sig .tc := ⟨.hbm, 688, rfl⟩
abbrev main_v491 : Ref sig .tc := ⟨.hbm, 689, rfl⟩
abbrev main_c_138 : Ref sig .tc := ⟨.hbm, 690, rfl⟩
abbrev main_v492 : Ref sig .tc := ⟨.hbm, 691, rfl⟩
abbrev main_v493 : Ref sig .tc := ⟨.hbm, 692, rfl⟩
abbrev main_v494 : Ref sig .tc := ⟨.hbm, 693, rfl⟩
abbrev main_v495 : Ref sig .tc := ⟨.hbm, 694, rfl⟩
abbrev main_v496 : Ref sig .tc := ⟨.hbm, 695, rfl⟩
abbrev main_c_139 : Ref sig .tc := ⟨.hbm, 696, rfl⟩
abbrev main_v497 : Ref sig .tc := ⟨.hbm, 697, rfl⟩
abbrev main_v498 : Ref sig .tc := ⟨.hbm, 698, rfl⟩
abbrev main_c_140 : Ref sig .tc := ⟨.hbm, 699, rfl⟩
abbrev main_v499 : Ref sig .tc := ⟨.hbm, 700, rfl⟩
abbrev main_v500 : Ref sig .tc := ⟨.hbm, 701, rfl⟩
abbrev main_v501 : Ref sig .tc := ⟨.hbm, 702, rfl⟩
abbrev main_v502 : Ref sig .tc := ⟨.hbm, 703, rfl⟩
abbrev main_v503 : Ref sig .tc := ⟨.hbm, 704, rfl⟩
abbrev main_c_141 : Ref sig .tc := ⟨.hbm, 705, rfl⟩
abbrev main_v504 : Ref sig .tc := ⟨.hbm, 706, rfl⟩
abbrev main_v505 : Ref sig .tc := ⟨.hbm, 707, rfl⟩
abbrev main_c_142 : Ref sig .tc := ⟨.hbm, 708, rfl⟩
abbrev main_v506 : Ref sig .tc := ⟨.hbm, 709, rfl⟩
abbrev main_v507 : Ref sig .tc := ⟨.hbm, 710, rfl⟩
abbrev main_v508 : Ref sig .tc := ⟨.hbm, 711, rfl⟩
abbrev main_v509 : Ref sig .tc := ⟨.hbm, 712, rfl⟩
abbrev main_v510 : Ref sig .tc := ⟨.hbm, 713, rfl⟩
abbrev main_v511 : Ref sig .tc := ⟨.hbm, 714, rfl⟩
abbrev main_c_143 : Ref sig .tc := ⟨.hbm, 715, rfl⟩
abbrev main_v512 : Ref sig .tc := ⟨.hbm, 716, rfl⟩
abbrev main_v513 : Ref sig .tc := ⟨.hbm, 717, rfl⟩
abbrev main_v514 : Ref sig .tc := ⟨.hbm, 718, rfl⟩
abbrev main_v515 : Ref sig .tc := ⟨.hbm, 719, rfl⟩
abbrev main_c_144 : Ref sig .tc := ⟨.hbm, 720, rfl⟩
abbrev main_v516 : Ref sig .tc := ⟨.hbm, 721, rfl⟩
abbrev main_v517 : Ref sig .tc := ⟨.hbm, 722, rfl⟩
abbrev main_c_145 : Ref sig .tc := ⟨.hbm, 723, rfl⟩
abbrev main_v518 : Ref sig .tc := ⟨.hbm, 724, rfl⟩
abbrev main_v519 : Ref sig .tc := ⟨.hbm, 725, rfl⟩
abbrev main_v520 : Ref sig .tc := ⟨.hbm, 726, rfl⟩
abbrev main_v521 : Ref sig .tc := ⟨.hbm, 727, rfl⟩
abbrev main_v522 : Ref sig .tc := ⟨.hbm, 728, rfl⟩
abbrev main_c_146 : Ref sig .tc := ⟨.hbm, 729, rfl⟩
abbrev main_v523 : Ref sig .tc := ⟨.hbm, 730, rfl⟩
abbrev main_v524 : Ref sig .tc := ⟨.hbm, 731, rfl⟩
abbrev main_c_147 : Ref sig .tc := ⟨.hbm, 732, rfl⟩
abbrev main_v525 : Ref sig .tc := ⟨.hbm, 733, rfl⟩
abbrev main_v526 : Ref sig .tc := ⟨.hbm, 734, rfl⟩
abbrev main_v527 : Ref sig .tc := ⟨.hbm, 735, rfl⟩
abbrev main_v528 : Ref sig .tc := ⟨.hbm, 736, rfl⟩
abbrev main_v529 : Ref sig .tc := ⟨.hbm, 737, rfl⟩
abbrev main_c_148 : Ref sig .tc := ⟨.hbm, 738, rfl⟩
abbrev main_v530 : Ref sig .tc := ⟨.hbm, 739, rfl⟩
abbrev main_v531 : Ref sig .tc := ⟨.hbm, 740, rfl⟩
abbrev main_c_149 : Ref sig .tc := ⟨.hbm, 741, rfl⟩
abbrev main_v532 : Ref sig .tc := ⟨.hbm, 742, rfl⟩
abbrev main_v533 : Ref sig .tc := ⟨.hbm, 743, rfl⟩
abbrev main_v534 : Ref sig .tc := ⟨.hbm, 744, rfl⟩
abbrev main_v535 : Ref sig .tc := ⟨.hbm, 745, rfl⟩
abbrev main_v536 : Ref sig .tc := ⟨.hbm, 746, rfl⟩
abbrev main_c_150 : Ref sig .tc := ⟨.hbm, 747, rfl⟩
abbrev main_v537 : Ref sig .tc := ⟨.hbm, 748, rfl⟩
abbrev main_v538 : Ref sig .tc := ⟨.hbm, 749, rfl⟩
abbrev main_c_151 : Ref sig .tc := ⟨.hbm, 750, rfl⟩
abbrev main_v539 : Ref sig .tc := ⟨.hbm, 751, rfl⟩
abbrev main_v540 : Ref sig .tc := ⟨.hbm, 752, rfl⟩
abbrev main_v541 : Ref sig .tc := ⟨.hbm, 753, rfl⟩
abbrev main_v542 : Ref sig .tc := ⟨.hbm, 754, rfl⟩
abbrev main_v543 : Ref sig .tc := ⟨.hbm, 755, rfl⟩
abbrev main_v544 : Ref sig .tc := ⟨.hbm, 756, rfl⟩
abbrev main_c_152 : Ref sig .tc := ⟨.hbm, 757, rfl⟩
abbrev main_v545 : Ref sig .tc := ⟨.hbm, 758, rfl⟩
abbrev main_v546 : Ref sig .tc := ⟨.hbm, 759, rfl⟩
abbrev main_v547 : Ref sig .tc := ⟨.hbm, 760, rfl⟩
abbrev main_v548 : Ref sig .tc := ⟨.hbm, 761, rfl⟩
abbrev main_c_153 : Ref sig .tc := ⟨.hbm, 762, rfl⟩
abbrev main_v549 : Ref sig .tc := ⟨.hbm, 763, rfl⟩
abbrev main_v550 : Ref sig .tc := ⟨.hbm, 764, rfl⟩
abbrev main_c_154 : Ref sig .tc := ⟨.hbm, 765, rfl⟩
abbrev main_v551 : Ref sig .tc := ⟨.hbm, 766, rfl⟩
abbrev main_v552 : Ref sig .tc := ⟨.hbm, 767, rfl⟩
abbrev main_v553 : Ref sig .tc := ⟨.hbm, 768, rfl⟩
abbrev main_v554 : Ref sig .tc := ⟨.hbm, 769, rfl⟩
abbrev main_v555 : Ref sig .tc := ⟨.hbm, 770, rfl⟩
abbrev main_c_155 : Ref sig .tc := ⟨.hbm, 771, rfl⟩
abbrev main_v556 : Ref sig .tc := ⟨.hbm, 772, rfl⟩
abbrev main_v557 : Ref sig .tc := ⟨.hbm, 773, rfl⟩
abbrev main_c_156 : Ref sig .tc := ⟨.hbm, 774, rfl⟩
abbrev main_v558 : Ref sig .tc := ⟨.hbm, 775, rfl⟩
abbrev main_v559 : Ref sig .tc := ⟨.hbm, 776, rfl⟩
abbrev main_v560 : Ref sig .tc := ⟨.hbm, 777, rfl⟩
abbrev main_v561 : Ref sig .tc := ⟨.hbm, 778, rfl⟩
abbrev main_v562 : Ref sig .tc := ⟨.hbm, 779, rfl⟩
abbrev main_c_157 : Ref sig .tc := ⟨.hbm, 780, rfl⟩
abbrev main_v563 : Ref sig .tc := ⟨.hbm, 781, rfl⟩
abbrev main_v564 : Ref sig .tc := ⟨.hbm, 782, rfl⟩
abbrev main_c_158 : Ref sig .tc := ⟨.hbm, 783, rfl⟩
abbrev main_v565 : Ref sig .tc := ⟨.hbm, 784, rfl⟩
abbrev main_v566 : Ref sig .tc := ⟨.hbm, 785, rfl⟩
abbrev main_v567 : Ref sig .tc := ⟨.hbm, 786, rfl⟩
abbrev main_v568 : Ref sig .tc := ⟨.hbm, 787, rfl⟩
abbrev main_v569 : Ref sig .tc := ⟨.hbm, 788, rfl⟩
abbrev main_c_159 : Ref sig .tc := ⟨.hbm, 789, rfl⟩
abbrev main_v570 : Ref sig .tc := ⟨.hbm, 790, rfl⟩
abbrev main_v571 : Ref sig .tc := ⟨.hbm, 791, rfl⟩
abbrev main_c_160 : Ref sig .tc := ⟨.hbm, 792, rfl⟩
abbrev main_v572 : Ref sig .tc := ⟨.hbm, 793, rfl⟩
abbrev main_v573 : Ref sig .tc := ⟨.hbm, 794, rfl⟩
abbrev main_v574 : Ref sig .tc := ⟨.hbm, 795, rfl⟩
abbrev main_v575 : Ref sig .tc := ⟨.hbm, 796, rfl⟩
abbrev main_v576 : Ref sig .tc := ⟨.hbm, 797, rfl⟩
abbrev main_v577 : Ref sig .tc := ⟨.hbm, 798, rfl⟩
abbrev main_c_161 : Ref sig .tc := ⟨.hbm, 799, rfl⟩
abbrev main_v578 : Ref sig .tc := ⟨.hbm, 800, rfl⟩
abbrev main_v579 : Ref sig .tc := ⟨.hbm, 801, rfl⟩
abbrev main_v580 : Ref sig .tc := ⟨.hbm, 802, rfl⟩
abbrev main_v581 : Ref sig .tc := ⟨.hbm, 803, rfl⟩
abbrev main_c_162 : Ref sig .tc := ⟨.hbm, 804, rfl⟩
abbrev main_v582 : Ref sig .tc := ⟨.hbm, 805, rfl⟩
abbrev main_v583 : Ref sig .tc := ⟨.hbm, 806, rfl⟩
abbrev main_c_163 : Ref sig .tc := ⟨.hbm, 807, rfl⟩
abbrev main_v584 : Ref sig .tc := ⟨.hbm, 808, rfl⟩
abbrev main_v585 : Ref sig .tc := ⟨.hbm, 809, rfl⟩
abbrev main_v586 : Ref sig .tc := ⟨.hbm, 810, rfl⟩
abbrev main_v587 : Ref sig .tc := ⟨.hbm, 811, rfl⟩
abbrev main_v588 : Ref sig .tc := ⟨.hbm, 812, rfl⟩
abbrev main_c_164 : Ref sig .tc := ⟨.hbm, 813, rfl⟩
abbrev main_v589 : Ref sig .tc := ⟨.hbm, 814, rfl⟩
abbrev main_v590 : Ref sig .tc := ⟨.hbm, 815, rfl⟩
abbrev main_c_165 : Ref sig .tc := ⟨.hbm, 816, rfl⟩
abbrev main_v591 : Ref sig .tc := ⟨.hbm, 817, rfl⟩
abbrev main_v592 : Ref sig .tc := ⟨.hbm, 818, rfl⟩
abbrev main_v593 : Ref sig .tc := ⟨.hbm, 819, rfl⟩
abbrev main_v594 : Ref sig .tc := ⟨.hbm, 820, rfl⟩
abbrev main_v595 : Ref sig .tc := ⟨.hbm, 821, rfl⟩
abbrev main_c_166 : Ref sig .tc := ⟨.hbm, 822, rfl⟩
abbrev main_v596 : Ref sig .tc := ⟨.hbm, 823, rfl⟩
abbrev main_v597 : Ref sig .tc := ⟨.hbm, 824, rfl⟩
abbrev main_c_167 : Ref sig .tc := ⟨.hbm, 825, rfl⟩
abbrev main_v598 : Ref sig .tc := ⟨.hbm, 826, rfl⟩
abbrev main_v599 : Ref sig .tc := ⟨.hbm, 827, rfl⟩
abbrev main_v600 : Ref sig .tc := ⟨.hbm, 828, rfl⟩
abbrev main_v601 : Ref sig .tc := ⟨.hbm, 829, rfl⟩
abbrev main_v602 : Ref sig .tc := ⟨.hbm, 830, rfl⟩
abbrev main_c_168 : Ref sig .tc := ⟨.hbm, 831, rfl⟩
abbrev main_v603 : Ref sig .tc := ⟨.hbm, 832, rfl⟩
abbrev main_v604 : Ref sig .tc := ⟨.hbm, 833, rfl⟩
abbrev main_c_169 : Ref sig .tc := ⟨.hbm, 834, rfl⟩
abbrev main_v605 : Ref sig .tc := ⟨.hbm, 835, rfl⟩
abbrev main_v606 : Ref sig .tc := ⟨.hbm, 836, rfl⟩
abbrev main_v607 : Ref sig .tc := ⟨.hbm, 837, rfl⟩
abbrev main_v608 : Ref sig .tc := ⟨.hbm, 838, rfl⟩
abbrev main_v609 : Ref sig .tc := ⟨.hbm, 839, rfl⟩
abbrev main_v610 : Ref sig .tc := ⟨.hbm, 840, rfl⟩
abbrev main_c_170 : Ref sig .tc := ⟨.hbm, 841, rfl⟩
abbrev main_v611 : Ref sig .tc := ⟨.hbm, 842, rfl⟩
abbrev main_v612 : Ref sig .tc := ⟨.hbm, 843, rfl⟩
abbrev main_v613 : Ref sig .tc := ⟨.hbm, 844, rfl⟩
abbrev main_v614 : Ref sig .tc := ⟨.hbm, 845, rfl⟩
abbrev main_v615 : Ref sig .tc := ⟨.hbm, 846, rfl⟩
abbrev main_v616 : Ref sig .tc := ⟨.hbm, 847, rfl⟩
abbrev main_v617 : Ref sig .tc := ⟨.hbm, 848, rfl⟩
abbrev main_v618 : Ref sig .tc := ⟨.hbm, 849, rfl⟩
abbrev main_v619 : Ref sig .tc := ⟨.hbm, 850, rfl⟩
abbrev main_v620 : Ref sig .tc := ⟨.hbm, 851, rfl⟩
abbrev main_v621 : Ref sig .tc := ⟨.hbm, 852, rfl⟩
abbrev main_v622 : Ref sig .tc := ⟨.hbm, 853, rfl⟩
abbrev main_v623 : Ref sig .tc := ⟨.hbm, 854, rfl⟩
abbrev main_v624 : Ref sig .tc := ⟨.hbm, 855, rfl⟩
abbrev main_v625 : Ref sig .tc := ⟨.hbm, 856, rfl⟩
abbrev main_v626 : Ref sig .tc := ⟨.hbm, 857, rfl⟩
abbrev main_v627 : Ref sig .tc := ⟨.hbm, 858, rfl⟩
abbrev main_v628 : Ref sig .tc := ⟨.hbm, 859, rfl⟩
abbrev main_v629 : Ref sig .tc := ⟨.hbm, 860, rfl⟩
abbrev main_v630 : Ref sig .tc := ⟨.hbm, 861, rfl⟩
abbrev main_v631 : Ref sig .tc := ⟨.hbm, 862, rfl⟩
abbrev main_v632 : Ref sig .tc := ⟨.hbm, 863, rfl⟩
abbrev main_v633 : Ref sig .tc := ⟨.hbm, 864, rfl⟩
abbrev main_cst_171 : Ref sig .tc := ⟨.hbm, 865, rfl⟩
abbrev main_call10_v0 : Ref sig .tc := ⟨.hbm, 866, rfl⟩
abbrev main_call10_v1 : Ref sig .tc := ⟨.hbm, 867, rfl⟩
abbrev main_call10_v2 : Ref sig .tc := ⟨.hbm, 868, rfl⟩
abbrev main_v634 : Ref sig .tc := ⟨.hbm, 869, rfl⟩
abbrev main_cst_172 : Ref sig .tc := ⟨.hbm, 870, rfl⟩
abbrev main_v635 : Ref sig .tc := ⟨.hbm, 871, rfl⟩
abbrev main_v636 : Ref sig .tc := ⟨.hbm, 872, rfl⟩
abbrev main_v637 : Ref sig .tc := ⟨.hbm, 873, rfl⟩
abbrev main_cst_173 : Ref sig .tc := ⟨.hbm, 874, rfl⟩
abbrev main_v638 : Ref sig .tc := ⟨.hbm, 875, rfl⟩
abbrev main_v639 : Ref sig .tc := ⟨.hbm, 876, rfl⟩
abbrev main_cst_174 : Ref sig .tc := ⟨.hbm, 877, rfl⟩
abbrev main_call11_v0 : Ref sig .tc := ⟨.hbm, 878, rfl⟩
abbrev main_call11_v1 : Ref sig .tc := ⟨.hbm, 879, rfl⟩
abbrev main_v640 : Ref sig .tc := ⟨.hbm, 880, rfl⟩
abbrev main_v641 : Ref sig .tc := ⟨.hbm, 881, rfl⟩
abbrev main_v642 : Ref sig .tc := ⟨.hbm, 882, rfl⟩
abbrev main_v643 : Ref sig .tc := ⟨.hbm, 883, rfl⟩
abbrev main_v644 : Ref sig .tc := ⟨.hbm, 884, rfl⟩
abbrev main_cst_175 : Ref sig .tc := ⟨.hbm, 885, rfl⟩
abbrev main_v645 : Ref sig .tc := ⟨.hbm, 886, rfl⟩
abbrev main_v646 : Ref sig .tc := ⟨.hbm, 887, rfl⟩
abbrev main_cst_176 : Ref sig .tc := ⟨.hbm, 888, rfl⟩
abbrev main_call12_v0 : Ref sig .tc := ⟨.hbm, 889, rfl⟩
abbrev main_call12_v1 : Ref sig .tc := ⟨.hbm, 890, rfl⟩
abbrev main_v647 : Ref sig .tc := ⟨.hbm, 891, rfl⟩
abbrev main_v648 : Ref sig .tc := ⟨.hbm, 892, rfl⟩
abbrev main_c_177 : Ref sig .tc := ⟨.hbm, 893, rfl⟩
abbrev main_v649 : Ref sig .tc := ⟨.hbm, 894, rfl⟩
abbrev main_v650 : Ref sig .tc := ⟨.hbm, 895, rfl⟩
abbrev main_v651 : Ref sig .tc := ⟨.hbm, 896, rfl⟩
abbrev main_c_178 : Ref sig .tc := ⟨.hbm, 897, rfl⟩
abbrev main_v652 : Ref sig .tc := ⟨.hbm, 898, rfl⟩
abbrev main_v653 : Ref sig .tc := ⟨.hbm, 899, rfl⟩
abbrev main_v654 : Ref sig .tc := ⟨.hbm, 900, rfl⟩
abbrev main_v655 : Ref sig .tc := ⟨.hbm, 901, rfl⟩
abbrev main_v656 : Ref sig .tc := ⟨.hbm, 902, rfl⟩
abbrev main_c_179 : Ref sig .tc := ⟨.hbm, 903, rfl⟩
abbrev main_v657 : Ref sig .tc := ⟨.hbm, 904, rfl⟩
abbrev main_v658 : Ref sig .tc := ⟨.hbm, 905, rfl⟩
abbrev main_c_180 : Ref sig .tc := ⟨.hbm, 906, rfl⟩
abbrev main_v659 : Ref sig .tc := ⟨.hbm, 907, rfl⟩
abbrev main_v660 : Ref sig .tc := ⟨.hbm, 908, rfl⟩
abbrev main_v661 : Ref sig .tc := ⟨.hbm, 909, rfl⟩
abbrev main_v662 : Ref sig .tc := ⟨.hbm, 910, rfl⟩
abbrev main_v663 : Ref sig .tc := ⟨.hbm, 911, rfl⟩
abbrev main_v664 : Ref sig .tc := ⟨.hbm, 912, rfl⟩
abbrev main_c_181 : Ref sig .tc := ⟨.hbm, 913, rfl⟩
abbrev main_v665 : Ref sig .tc := ⟨.hbm, 914, rfl⟩
abbrev main_v666 : Ref sig .tc := ⟨.hbm, 915, rfl⟩
abbrev main_c_182 : Ref sig .tc := ⟨.hbm, 916, rfl⟩
abbrev main_v667 : Ref sig .tc := ⟨.hbm, 917, rfl⟩
abbrev main_v668 : Ref sig .tc := ⟨.hbm, 918, rfl⟩
abbrev main_v669 : Ref sig .tc := ⟨.hbm, 919, rfl⟩
abbrev main_v670 : Ref sig .tc := ⟨.hbm, 920, rfl⟩
abbrev main_v671 : Ref sig .tc := ⟨.hbm, 921, rfl⟩
abbrev main_c_183 : Ref sig .tc := ⟨.hbm, 922, rfl⟩
abbrev main_v672 : Ref sig .tc := ⟨.hbm, 923, rfl⟩
abbrev main_v673 : Ref sig .tc := ⟨.hbm, 924, rfl⟩
abbrev main_c_184 : Ref sig .tc := ⟨.hbm, 925, rfl⟩
abbrev main_v674 : Ref sig .tc := ⟨.hbm, 926, rfl⟩
abbrev main_v675 : Ref sig .tc := ⟨.hbm, 927, rfl⟩
abbrev main_v676 : Ref sig .tc := ⟨.hbm, 928, rfl⟩
abbrev main_v677 : Ref sig .tc := ⟨.hbm, 929, rfl⟩
abbrev main_v678 : Ref sig .tc := ⟨.hbm, 930, rfl⟩
abbrev main_c_185 : Ref sig .tc := ⟨.hbm, 931, rfl⟩
abbrev main_v679 : Ref sig .tc := ⟨.hbm, 932, rfl⟩
abbrev main_v680 : Ref sig .tc := ⟨.hbm, 933, rfl⟩
abbrev main_c_186 : Ref sig .tc := ⟨.hbm, 934, rfl⟩
abbrev main_v681 : Ref sig .tc := ⟨.hbm, 935, rfl⟩
abbrev main_v682 : Ref sig .tc := ⟨.hbm, 936, rfl⟩
abbrev main_v683 : Ref sig .tc := ⟨.hbm, 937, rfl⟩
abbrev main_v684 : Ref sig .tc := ⟨.hbm, 938, rfl⟩
abbrev main_v685 : Ref sig .tc := ⟨.hbm, 939, rfl⟩
abbrev main_c_187 : Ref sig .tc := ⟨.hbm, 940, rfl⟩
abbrev main_v686 : Ref sig .tc := ⟨.hbm, 941, rfl⟩
abbrev main_v687 : Ref sig .tc := ⟨.hbm, 942, rfl⟩
abbrev main_c_188 : Ref sig .tc := ⟨.hbm, 943, rfl⟩
abbrev main_v688 : Ref sig .tc := ⟨.hbm, 944, rfl⟩
abbrev main_v689 : Ref sig .tc := ⟨.hbm, 945, rfl⟩
abbrev main_v690 : Ref sig .tc := ⟨.hbm, 946, rfl⟩
abbrev main_v691 : Ref sig .tc := ⟨.hbm, 947, rfl⟩
abbrev main_v692 : Ref sig .tc := ⟨.hbm, 948, rfl⟩
abbrev main_v693 : Ref sig .tc := ⟨.hbm, 949, rfl⟩
abbrev main_c_189 : Ref sig .tc := ⟨.hbm, 950, rfl⟩
abbrev main_v694 : Ref sig .tc := ⟨.hbm, 951, rfl⟩
abbrev main_v695 : Ref sig .tc := ⟨.hbm, 952, rfl⟩
abbrev main_v696 : Ref sig .tc := ⟨.hbm, 953, rfl⟩
abbrev main_v697 : Ref sig .tc := ⟨.hbm, 954, rfl⟩
abbrev main_c_190 : Ref sig .tc := ⟨.hbm, 955, rfl⟩
abbrev main_v698 : Ref sig .tc := ⟨.hbm, 956, rfl⟩
abbrev main_v699 : Ref sig .tc := ⟨.hbm, 957, rfl⟩
abbrev main_c_191 : Ref sig .tc := ⟨.hbm, 958, rfl⟩
abbrev main_v700 : Ref sig .tc := ⟨.hbm, 959, rfl⟩
abbrev main_v701 : Ref sig .tc := ⟨.hbm, 960, rfl⟩
abbrev main_v702 : Ref sig .tc := ⟨.hbm, 961, rfl⟩
abbrev main_v703 : Ref sig .tc := ⟨.hbm, 962, rfl⟩
abbrev main_v704 : Ref sig .tc := ⟨.hbm, 963, rfl⟩
abbrev main_c_192 : Ref sig .tc := ⟨.hbm, 964, rfl⟩
abbrev main_v705 : Ref sig .tc := ⟨.hbm, 965, rfl⟩
abbrev main_v706 : Ref sig .tc := ⟨.hbm, 966, rfl⟩
abbrev main_c_193 : Ref sig .tc := ⟨.hbm, 967, rfl⟩
abbrev main_v707 : Ref sig .tc := ⟨.hbm, 968, rfl⟩
abbrev main_v708 : Ref sig .tc := ⟨.hbm, 969, rfl⟩
abbrev main_v709 : Ref sig .tc := ⟨.hbm, 970, rfl⟩
abbrev main_v710 : Ref sig .tc := ⟨.hbm, 971, rfl⟩
abbrev main_v711 : Ref sig .tc := ⟨.hbm, 972, rfl⟩
abbrev main_c_194 : Ref sig .tc := ⟨.hbm, 973, rfl⟩
abbrev main_v712 : Ref sig .tc := ⟨.hbm, 974, rfl⟩
abbrev main_v713 : Ref sig .tc := ⟨.hbm, 975, rfl⟩
abbrev main_c_195 : Ref sig .tc := ⟨.hbm, 976, rfl⟩
abbrev main_v714 : Ref sig .tc := ⟨.hbm, 977, rfl⟩
abbrev main_v715 : Ref sig .tc := ⟨.hbm, 978, rfl⟩
abbrev main_v716 : Ref sig .tc := ⟨.hbm, 979, rfl⟩
abbrev main_v717 : Ref sig .tc := ⟨.hbm, 980, rfl⟩
abbrev main_v718 : Ref sig .tc := ⟨.hbm, 981, rfl⟩
abbrev main_c_196 : Ref sig .tc := ⟨.hbm, 982, rfl⟩
abbrev main_v719 : Ref sig .tc := ⟨.hbm, 983, rfl⟩
abbrev main_v720 : Ref sig .tc := ⟨.hbm, 984, rfl⟩
abbrev main_c_197 : Ref sig .tc := ⟨.hbm, 985, rfl⟩
abbrev main_v721 : Ref sig .tc := ⟨.hbm, 986, rfl⟩
abbrev main_v722 : Ref sig .tc := ⟨.hbm, 987, rfl⟩
abbrev main_v723 : Ref sig .tc := ⟨.hbm, 988, rfl⟩
abbrev main_v724 : Ref sig .tc := ⟨.hbm, 989, rfl⟩
abbrev main_v725 : Ref sig .tc := ⟨.hbm, 990, rfl⟩
abbrev main_v726 : Ref sig .tc := ⟨.hbm, 991, rfl⟩
abbrev main_c_198 : Ref sig .tc := ⟨.hbm, 992, rfl⟩
abbrev main_v727 : Ref sig .tc := ⟨.hbm, 993, rfl⟩
abbrev main_v728 : Ref sig .tc := ⟨.hbm, 994, rfl⟩
abbrev main_v729 : Ref sig .tc := ⟨.hbm, 995, rfl⟩
abbrev main_v730 : Ref sig .tc := ⟨.hbm, 996, rfl⟩
abbrev main_c_199 : Ref sig .tc := ⟨.hbm, 997, rfl⟩
abbrev main_v731 : Ref sig .tc := ⟨.hbm, 998, rfl⟩
abbrev main_v732 : Ref sig .tc := ⟨.hbm, 999, rfl⟩
abbrev main_c_200 : Ref sig .tc := ⟨.hbm, 1000, rfl⟩
abbrev main_v733 : Ref sig .tc := ⟨.hbm, 1001, rfl⟩
abbrev main_v734 : Ref sig .tc := ⟨.hbm, 1002, rfl⟩
abbrev main_v735 : Ref sig .tc := ⟨.hbm, 1003, rfl⟩
abbrev main_v736 : Ref sig .tc := ⟨.hbm, 1004, rfl⟩
abbrev main_v737 : Ref sig .tc := ⟨.hbm, 1005, rfl⟩
abbrev main_c_201 : Ref sig .tc := ⟨.hbm, 1006, rfl⟩
abbrev main_v738 : Ref sig .tc := ⟨.hbm, 1007, rfl⟩
abbrev main_v739 : Ref sig .tc := ⟨.hbm, 1008, rfl⟩
abbrev main_c_202 : Ref sig .tc := ⟨.hbm, 1009, rfl⟩
abbrev main_v740 : Ref sig .tc := ⟨.hbm, 1010, rfl⟩
abbrev main_v741 : Ref sig .tc := ⟨.hbm, 1011, rfl⟩
abbrev main_v742 : Ref sig .tc := ⟨.hbm, 1012, rfl⟩
abbrev main_v743 : Ref sig .tc := ⟨.hbm, 1013, rfl⟩
abbrev main_v744 : Ref sig .tc := ⟨.hbm, 1014, rfl⟩
abbrev main_c_203 : Ref sig .tc := ⟨.hbm, 1015, rfl⟩
abbrev main_v745 : Ref sig .tc := ⟨.hbm, 1016, rfl⟩
abbrev main_v746 : Ref sig .tc := ⟨.hbm, 1017, rfl⟩
abbrev main_c_204 : Ref sig .tc := ⟨.hbm, 1018, rfl⟩
abbrev main_v747 : Ref sig .tc := ⟨.hbm, 1019, rfl⟩
abbrev main_v748 : Ref sig .tc := ⟨.hbm, 1020, rfl⟩
abbrev main_v749 : Ref sig .tc := ⟨.hbm, 1021, rfl⟩
abbrev main_v750 : Ref sig .tc := ⟨.hbm, 1022, rfl⟩
abbrev main_v751 : Ref sig .tc := ⟨.hbm, 1023, rfl⟩
abbrev main_c_205 : Ref sig .tc := ⟨.hbm, 1024, rfl⟩
abbrev main_v752 : Ref sig .tc := ⟨.hbm, 1025, rfl⟩
abbrev main_v753 : Ref sig .tc := ⟨.hbm, 1026, rfl⟩
abbrev main_c_206 : Ref sig .tc := ⟨.hbm, 1027, rfl⟩
abbrev main_v754 : Ref sig .tc := ⟨.hbm, 1028, rfl⟩
abbrev main_v755 : Ref sig .tc := ⟨.hbm, 1029, rfl⟩
abbrev main_v756 : Ref sig .tc := ⟨.hbm, 1030, rfl⟩
abbrev main_v757 : Ref sig .tc := ⟨.hbm, 1031, rfl⟩
abbrev main_v758 : Ref sig .tc := ⟨.hbm, 1032, rfl⟩
abbrev main_v759 : Ref sig .tc := ⟨.hbm, 1033, rfl⟩
abbrev main_c_207 : Ref sig .tc := ⟨.hbm, 1034, rfl⟩
abbrev main_v760 : Ref sig .tc := ⟨.hbm, 1035, rfl⟩
abbrev main_v761 : Ref sig .tc := ⟨.hbm, 1036, rfl⟩
abbrev main_v762 : Ref sig .tc := ⟨.hbm, 1037, rfl⟩
abbrev main_v763 : Ref sig .tc := ⟨.hbm, 1038, rfl⟩
abbrev main_c_208 : Ref sig .tc := ⟨.hbm, 1039, rfl⟩
abbrev main_v764 : Ref sig .tc := ⟨.hbm, 1040, rfl⟩
abbrev main_v765 : Ref sig .tc := ⟨.hbm, 1041, rfl⟩
abbrev main_c_209 : Ref sig .tc := ⟨.hbm, 1042, rfl⟩
abbrev main_v766 : Ref sig .tc := ⟨.hbm, 1043, rfl⟩
abbrev main_v767 : Ref sig .tc := ⟨.hbm, 1044, rfl⟩
abbrev main_v768 : Ref sig .tc := ⟨.hbm, 1045, rfl⟩
abbrev main_v769 : Ref sig .tc := ⟨.hbm, 1046, rfl⟩
abbrev main_v770 : Ref sig .tc := ⟨.hbm, 1047, rfl⟩
abbrev main_c_210 : Ref sig .tc := ⟨.hbm, 1048, rfl⟩
abbrev main_v771 : Ref sig .tc := ⟨.hbm, 1049, rfl⟩
abbrev main_v772 : Ref sig .tc := ⟨.hbm, 1050, rfl⟩
abbrev main_c_211 : Ref sig .tc := ⟨.hbm, 1051, rfl⟩
abbrev main_v773 : Ref sig .tc := ⟨.hbm, 1052, rfl⟩
abbrev main_v774 : Ref sig .tc := ⟨.hbm, 1053, rfl⟩
abbrev main_v775 : Ref sig .tc := ⟨.hbm, 1054, rfl⟩
abbrev main_v776 : Ref sig .tc := ⟨.hbm, 1055, rfl⟩
abbrev main_v777 : Ref sig .tc := ⟨.hbm, 1056, rfl⟩
abbrev main_c_212 : Ref sig .tc := ⟨.hbm, 1057, rfl⟩
abbrev main_v778 : Ref sig .tc := ⟨.hbm, 1058, rfl⟩
abbrev main_v779 : Ref sig .tc := ⟨.hbm, 1059, rfl⟩
abbrev main_c_213 : Ref sig .tc := ⟨.hbm, 1060, rfl⟩
abbrev main_v780 : Ref sig .tc := ⟨.hbm, 1061, rfl⟩
abbrev main_v781 : Ref sig .tc := ⟨.hbm, 1062, rfl⟩
abbrev main_v782 : Ref sig .tc := ⟨.hbm, 1063, rfl⟩
abbrev main_v783 : Ref sig .tc := ⟨.hbm, 1064, rfl⟩
abbrev main_v784 : Ref sig .tc := ⟨.hbm, 1065, rfl⟩
abbrev main_c_214 : Ref sig .tc := ⟨.hbm, 1066, rfl⟩
abbrev main_v785 : Ref sig .tc := ⟨.hbm, 1067, rfl⟩
abbrev main_v786 : Ref sig .tc := ⟨.hbm, 1068, rfl⟩
abbrev main_c_215 : Ref sig .tc := ⟨.hbm, 1069, rfl⟩
abbrev main_v787 : Ref sig .tc := ⟨.hbm, 1070, rfl⟩
abbrev main_v788 : Ref sig .tc := ⟨.hbm, 1071, rfl⟩
abbrev main_v789 : Ref sig .tc := ⟨.hbm, 1072, rfl⟩
abbrev main_v790 : Ref sig .tc := ⟨.hbm, 1073, rfl⟩
abbrev main_v791 : Ref sig .tc := ⟨.hbm, 1074, rfl⟩
abbrev main_v792 : Ref sig .tc := ⟨.hbm, 1075, rfl⟩
abbrev main_c_216 : Ref sig .tc := ⟨.hbm, 1076, rfl⟩
abbrev main_v793 : Ref sig .tc := ⟨.hbm, 1077, rfl⟩
abbrev main_v794 : Ref sig .tc := ⟨.hbm, 1078, rfl⟩
abbrev main_v795 : Ref sig .tc := ⟨.hbm, 1079, rfl⟩
abbrev main_v796 : Ref sig .tc := ⟨.hbm, 1080, rfl⟩
abbrev main_c_217 : Ref sig .tc := ⟨.hbm, 1081, rfl⟩
abbrev main_v797 : Ref sig .tc := ⟨.hbm, 1082, rfl⟩
abbrev main_v798 : Ref sig .tc := ⟨.hbm, 1083, rfl⟩
abbrev main_c_218 : Ref sig .tc := ⟨.hbm, 1084, rfl⟩
abbrev main_v799 : Ref sig .tc := ⟨.hbm, 1085, rfl⟩
abbrev main_v800 : Ref sig .tc := ⟨.hbm, 1086, rfl⟩
abbrev main_v801 : Ref sig .tc := ⟨.hbm, 1087, rfl⟩
abbrev main_v802 : Ref sig .tc := ⟨.hbm, 1088, rfl⟩
abbrev main_v803 : Ref sig .tc := ⟨.hbm, 1089, rfl⟩
abbrev main_c_219 : Ref sig .tc := ⟨.hbm, 1090, rfl⟩
abbrev main_v804 : Ref sig .tc := ⟨.hbm, 1091, rfl⟩
abbrev main_v805 : Ref sig .tc := ⟨.hbm, 1092, rfl⟩
abbrev main_c_220 : Ref sig .tc := ⟨.hbm, 1093, rfl⟩
abbrev main_v806 : Ref sig .tc := ⟨.hbm, 1094, rfl⟩
abbrev main_v807 : Ref sig .tc := ⟨.hbm, 1095, rfl⟩
abbrev main_v808 : Ref sig .tc := ⟨.hbm, 1096, rfl⟩
abbrev main_v809 : Ref sig .tc := ⟨.hbm, 1097, rfl⟩
abbrev main_v810 : Ref sig .tc := ⟨.hbm, 1098, rfl⟩
abbrev main_c_221 : Ref sig .tc := ⟨.hbm, 1099, rfl⟩
abbrev main_v811 : Ref sig .tc := ⟨.hbm, 1100, rfl⟩
abbrev main_v812 : Ref sig .tc := ⟨.hbm, 1101, rfl⟩
abbrev main_c_222 : Ref sig .tc := ⟨.hbm, 1102, rfl⟩
abbrev main_v813 : Ref sig .tc := ⟨.hbm, 1103, rfl⟩
abbrev main_v814 : Ref sig .tc := ⟨.hbm, 1104, rfl⟩
abbrev main_v815 : Ref sig .tc := ⟨.hbm, 1105, rfl⟩
abbrev main_v816 : Ref sig .tc := ⟨.hbm, 1106, rfl⟩
abbrev main_v817 : Ref sig .tc := ⟨.hbm, 1107, rfl⟩
abbrev main_c_223 : Ref sig .tc := ⟨.hbm, 1108, rfl⟩
abbrev main_v818 : Ref sig .tc := ⟨.hbm, 1109, rfl⟩
abbrev main_v819 : Ref sig .tc := ⟨.hbm, 1110, rfl⟩
abbrev main_c_224 : Ref sig .tc := ⟨.hbm, 1111, rfl⟩
abbrev main_v820 : Ref sig .tc := ⟨.hbm, 1112, rfl⟩
abbrev main_v821 : Ref sig .tc := ⟨.hbm, 1113, rfl⟩
abbrev main_v822 : Ref sig .tc := ⟨.hbm, 1114, rfl⟩
abbrev main_v823 : Ref sig .tc := ⟨.hbm, 1115, rfl⟩
abbrev main_v824 : Ref sig .tc := ⟨.hbm, 1116, rfl⟩
abbrev main_v825 : Ref sig .tc := ⟨.hbm, 1117, rfl⟩
abbrev main_c_225 : Ref sig .tc := ⟨.hbm, 1118, rfl⟩
abbrev main_v826 : Ref sig .tc := ⟨.hbm, 1119, rfl⟩
abbrev main_v827 : Ref sig .tc := ⟨.hbm, 1120, rfl⟩
abbrev main_v828 : Ref sig .tc := ⟨.hbm, 1121, rfl⟩
abbrev main_v829 : Ref sig .tc := ⟨.hbm, 1122, rfl⟩
abbrev main_c_226 : Ref sig .tc := ⟨.hbm, 1123, rfl⟩
abbrev main_v830 : Ref sig .tc := ⟨.hbm, 1124, rfl⟩
abbrev main_v831 : Ref sig .tc := ⟨.hbm, 1125, rfl⟩
abbrev main_c_227 : Ref sig .tc := ⟨.hbm, 1126, rfl⟩
abbrev main_v832 : Ref sig .tc := ⟨.hbm, 1127, rfl⟩
abbrev main_v833 : Ref sig .tc := ⟨.hbm, 1128, rfl⟩
abbrev main_v834 : Ref sig .tc := ⟨.hbm, 1129, rfl⟩
abbrev main_cst_228 : Ref sig .tc := ⟨.hbm, 1130, rfl⟩
abbrev main_v835 : Ref sig .tc := ⟨.hbm, 1131, rfl⟩
abbrev main_v836 : Ref sig .tc := ⟨.hbm, 1132, rfl⟩
abbrev main_cst_229 : Ref sig .tc := ⟨.hbm, 1133, rfl⟩
abbrev main_cst_230 : Ref sig .tc := ⟨.hbm, 1134, rfl⟩
abbrev main_v837 : Ref sig .tc := ⟨.hbm, 1135, rfl⟩
abbrev main_v838 : Ref sig .tc := ⟨.hbm, 1136, rfl⟩
abbrev main_v839 : Ref sig .tc := ⟨.hbm, 1137, rfl⟩
abbrev main_cst_231 : Ref sig .tc := ⟨.hbm, 1138, rfl⟩
abbrev main_v840 : Ref sig .tc := ⟨.hbm, 1139, rfl⟩
abbrev main_v841 : Ref sig .tc := ⟨.hbm, 1140, rfl⟩
abbrev main_cst_232 : Ref sig .tc := ⟨.hbm, 1141, rfl⟩
abbrev main_v842 : Ref sig .tc := ⟨.hbm, 1142, rfl⟩
abbrev main_v843 : Ref sig .tc := ⟨.hbm, 1143, rfl⟩
abbrev main_v844 : Ref sig .tc := ⟨.hbm, 1144, rfl⟩
abbrev main_v845 : Ref sig .tc := ⟨.hbm, 1145, rfl⟩
abbrev main_v846 : Ref sig .tc := ⟨.hbm, 1146, rfl⟩
abbrev main_v847 : Ref sig .tc := ⟨.hbm, 1147, rfl⟩
abbrev main_v848 : Ref sig .tc := ⟨.hbm, 1148, rfl⟩
abbrev main_v849 : Ref sig .tc := ⟨.hbm, 1149, rfl⟩
abbrev main_cst_233 : Ref sig .tc := ⟨.hbm, 1150, rfl⟩
abbrev main_v850 : Ref sig .tc := ⟨.hbm, 1151, rfl⟩
abbrev main_v851 : Ref sig .tc := ⟨.hbm, 1152, rfl⟩
abbrev main_v852 : Ref sig .tc := ⟨.hbm, 1153, rfl⟩
abbrev main_v853 : Ref sig .tc := ⟨.hbm, 1154, rfl⟩
abbrev main_c_234 : Ref sig .tc := ⟨.hbm, 1155, rfl⟩
abbrev main_call13_v0 : Ref sig .tc := ⟨.hbm, 1156, rfl⟩
abbrev main_v854 : Ref sig .tc := ⟨.hbm, 1157, rfl⟩
abbrev main_c_235 : Ref sig .tc := ⟨.hbm, 1158, rfl⟩
abbrev main_v855 : Ref sig .tc := ⟨.hbm, 1159, rfl⟩
abbrev main_c_236 : Ref sig .tc := ⟨.hbm, 1160, rfl⟩
abbrev main_v856 : Ref sig .tc := ⟨.hbm, 1161, rfl⟩
abbrev main_call14_c : Ref sig .tc := ⟨.hbm, 1162, rfl⟩
abbrev main_call14_v0 : Ref sig .tc := ⟨.hbm, 1163, rfl⟩
abbrev main_call14_v1 : Ref sig .tc := ⟨.hbm, 1164, rfl⟩
abbrev main_call14_c_0 : Ref sig .tc := ⟨.hbm, 1165, rfl⟩
abbrev main_call14_v2 : Ref sig .tc := ⟨.hbm, 1166, rfl⟩
abbrev main_call14_v3 : Ref sig .tc := ⟨.hbm, 1167, rfl⟩
abbrev main_call14_v4 : Ref sig .tc := ⟨.hbm, 1168, rfl⟩
abbrev main_call14_v5 : Ref sig .tc := ⟨.hbm, 1169, rfl⟩
abbrev main_call14_c_1 : Ref sig .tc := ⟨.hbm, 1170, rfl⟩
abbrev main_call14_c_2 : Ref sig .tc := ⟨.hbm, 1171, rfl⟩
abbrev main_call14_v6 : Ref sig .tc := ⟨.hbm, 1172, rfl⟩
abbrev main_call14_v7 : Ref sig .tc := ⟨.hbm, 1173, rfl⟩
abbrev main_call14_v8 : Ref sig .tc := ⟨.hbm, 1174, rfl⟩
abbrev main_call14_v9 : Ref sig .tc := ⟨.hbm, 1175, rfl⟩
abbrev main_call14_v10 : Ref sig .tc := ⟨.hbm, 1176, rfl⟩
abbrev main_call14_v11 : Ref sig .tc := ⟨.hbm, 1177, rfl⟩
abbrev main_call14_c_3 : Ref sig .tc := ⟨.hbm, 1178, rfl⟩
abbrev main_call14_v12 : Ref sig .tc := ⟨.hbm, 1179, rfl⟩
abbrev main_call14_v13 : Ref sig .tc := ⟨.hbm, 1180, rfl⟩
abbrev main_call14_c_4 : Ref sig .tc := ⟨.hbm, 1181, rfl⟩
abbrev main_call14_v14 : Ref sig .tc := ⟨.hbm, 1182, rfl⟩
abbrev main_v857 : Ref sig .tc := ⟨.hbm, 1183, rfl⟩
abbrev main_call15_c : Ref sig .tc := ⟨.hbm, 1184, rfl⟩
abbrev main_call15_v0 : Ref sig .tc := ⟨.hbm, 1185, rfl⟩
abbrev main_call15_v1 : Ref sig .tc := ⟨.hbm, 1186, rfl⟩
abbrev main_call15_c_0 : Ref sig .tc := ⟨.hbm, 1187, rfl⟩
abbrev main_call15_v2 : Ref sig .tc := ⟨.hbm, 1188, rfl⟩
abbrev main_call15_v3 : Ref sig .tc := ⟨.hbm, 1189, rfl⟩
abbrev main_call15_v4 : Ref sig .tc := ⟨.hbm, 1190, rfl⟩
abbrev main_call15_v5 : Ref sig .tc := ⟨.hbm, 1191, rfl⟩
abbrev main_call15_c_1 : Ref sig .tc := ⟨.hbm, 1192, rfl⟩
abbrev main_call15_c_2 : Ref sig .tc := ⟨.hbm, 1193, rfl⟩
abbrev main_call15_v6 : Ref sig .tc := ⟨.hbm, 1194, rfl⟩
abbrev main_call15_v7 : Ref sig .tc := ⟨.hbm, 1195, rfl⟩
abbrev main_call15_v8 : Ref sig .tc := ⟨.hbm, 1196, rfl⟩
abbrev main_call15_v9 : Ref sig .tc := ⟨.hbm, 1197, rfl⟩
abbrev main_call15_v10 : Ref sig .tc := ⟨.hbm, 1198, rfl⟩
abbrev main_call15_v11 : Ref sig .tc := ⟨.hbm, 1199, rfl⟩
abbrev main_call15_c_3 : Ref sig .tc := ⟨.hbm, 1200, rfl⟩
abbrev main_call15_v12 : Ref sig .tc := ⟨.hbm, 1201, rfl⟩
abbrev main_call15_v13 : Ref sig .tc := ⟨.hbm, 1202, rfl⟩
abbrev main_call15_cst : Ref sig .tc := ⟨.hbm, 1203, rfl⟩
abbrev main_call15_v14 : Ref sig .tc := ⟨.hbm, 1204, rfl⟩
abbrev main_v858 : Ref sig .tc := ⟨.hbm, 1205, rfl⟩
abbrev main_v859 : Ref sig .tc := ⟨.hbm, 1206, rfl⟩
abbrev main_v860 : Ref sig .tc := ⟨.hbm, 1207, rfl⟩
abbrev main_v861 : Ref sig .tc := ⟨.hbm, 1208, rfl⟩
abbrev main_c_237 : Ref sig .tc := ⟨.hbm, 1209, rfl⟩
abbrev main_call18_v0 : Ref sig .tc := ⟨.hbm, 1210, rfl⟩
abbrev main_call18_v1 : Ref sig .tc := ⟨.hbm, 1211, rfl⟩
abbrev main_v862 : Ref sig .tc := ⟨.hbm, 1212, rfl⟩
abbrev main_cst_238 : Ref sig .tc := ⟨.hbm, 1213, rfl⟩
abbrev main_call19_v0 : Ref sig .tc := ⟨.hbm, 1214, rfl⟩
abbrev main_call19_v1 : Ref sig .tc := ⟨.hbm, 1215, rfl⟩
abbrev main_v863 : Ref sig .tc := ⟨.hbm, 1216, rfl⟩
abbrev main_v864 : Ref sig .tc := ⟨.hbm, 1217, rfl⟩
abbrev main_v865 : Ref sig .tc := ⟨.hbm, 1218, rfl⟩
abbrev main_v866 : Ref sig .tc := ⟨.hbm, 1219, rfl⟩
abbrev main_v867 : Ref sig .tc := ⟨.hbm, 1220, rfl⟩
abbrev main_v868 : Ref sig .tc := ⟨.hbm, 1221, rfl⟩
abbrev main_v869 : Ref sig .tc := ⟨.hbm, 1222, rfl⟩
abbrev main_v870 : Ref sig .tc := ⟨.hbm, 1223, rfl⟩
abbrev main_v871 : Ref sig .tc := ⟨.hbm, 1224, rfl⟩
abbrev main_v872 : Ref sig .tc := ⟨.hbm, 1225, rfl⟩
abbrev main_v873 : Ref sig .tc := ⟨.hbm, 1226, rfl⟩
abbrev main_v874 : Ref sig .tc := ⟨.hbm, 1227, rfl⟩
abbrev main_v875 : Ref sig .tc := ⟨.hbm, 1228, rfl⟩
abbrev main_v876 : Ref sig .tc := ⟨.hbm, 1229, rfl⟩
abbrev main_v877 : Ref sig .tc := ⟨.hbm, 1230, rfl⟩
abbrev main_v878 : Ref sig .tc := ⟨.hbm, 1231, rfl⟩
abbrev main_v879 : Ref sig .tc := ⟨.hbm, 1232, rfl⟩

abbrev nD : Nat := 1
abbrev τ : Topo := Topo.v7x

variable {F : FTy → Type} [FloatOps F]
-- ==== Kernel2.lean ====
abbrev S32 : Shape := ⟨1, ![32]⟩
abbrev S10000x128 : Shape := ⟨2, ![10000, 128]⟩
abbrev S192x1 : Shape := ⟨2, ![192, 1]⟩
abbrev S1 : Shape := ⟨1, ![1]⟩
abbrev S64 : Shape := ⟨1, ![64]⟩
abbrev S32x1 : Shape := ⟨2, ![32, 1]⟩
abbrev S1x192 : Shape := ⟨2, ![1, 192]⟩
abbrev S1x1 : Shape := ⟨2, ![1, 1]⟩
abbrev S1x64 : Shape := ⟨2, ![1, 64]⟩
abbrev S32x128 : Shape := ⟨2, ![32, 128]⟩
abbrev S1x128 : Shape := ⟨2, ![1, 128]⟩
abbrev S32x64 : Shape := ⟨2, ![32, 64]⟩

abbrev nBuf : Space → Nat
  | .hbm => 13
  | .vmem => 8
  | .smem => 1
  | _ => 0

abbrev bufTy : (tb : Table) → Fin (tcTables nBuf tb) → BufTy
  | .hbm, ⟨0, _⟩ => ⟨S32, .i32⟩
  | .hbm, ⟨1, _⟩ => ⟨S32, .f32⟩
  | .hbm, ⟨2, _⟩ => ⟨S10000x128, .f32⟩
  | .hbm, ⟨3, _⟩ => ⟨S192x1, .f32⟩
  | .hbm, ⟨4, _⟩ => ⟨S1, .f32⟩
  | .hbm, ⟨5, _⟩ => ⟨S64, .f32⟩
  | .hbm, ⟨6, _⟩ => ⟨S64, .f32⟩
  | .hbm, ⟨7, _⟩ => ⟨S32x1, .f32⟩
  | .hbm, ⟨8, _⟩ => ⟨S1x192, .f32⟩
  | .hbm, ⟨9, _⟩ => ⟨S1x1, .f32⟩
  | .hbm, ⟨10, _⟩ => ⟨S1x64, .f32⟩
  | .hbm, ⟨11, _⟩ => ⟨S1x64, .f32⟩
  | .hbm, ⟨12, _⟩ => ⟨S32x1, .f32⟩
  | .local _ .vmem, ⟨0, _⟩ => ⟨S32x1, .f32⟩
  | .local _ .vmem, ⟨1, _⟩ => ⟨S10000x128, .f32⟩
  | .local _ .vmem, ⟨2, _⟩ => ⟨S1x192, .f32⟩
  | .local _ .vmem, ⟨3, _⟩ => ⟨S1x1, .f32⟩
  | .local _ .vmem, ⟨4, _⟩ => ⟨S1x64, .f32⟩
  | .local _ .vmem, ⟨5, _⟩ => ⟨S1x64, .f32⟩
  | .local _ .vmem, ⟨6, _⟩ => ⟨S32x1, .f32⟩
  | .local _ .vmem, ⟨7, _⟩ => ⟨S32x128, .f32⟩
  | .local _ .smem, ⟨0, _⟩ => ⟨S32, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let v33 : Index := Scalar.indexCast arg9
  ![v33.toNat]
def k0_off2 (v34 : BitVec 32) : Fin 2 → Nat :=
  let v35 : Index := Scalar.indexCast v34
  let c0_16 : Index := 0#32
  ![v35.toNat, 0]

def k0_chk1 (v34 : BitVec 32) : Prop :=
  (∀ a, (k0_off2 v34) a + S1x128.size a ≤ S10000x128.size a)
theorem k0_off2_inb : ∀ (v34 : BitVec 32) (k0_hw1 : k0_chk1 v34), ∀ a, (k0_off2 v34) a + S1x128.size a ≤ S10000x128.size a := fun v34 k0_hw1 => k0_hw1

def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let v37 : Index := Scalar.indexCast arg9
  let c0_17 : Index := 0#32
  ![v37.toNat, 0]
abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference2Ideal.lean ====
abbrev S32 : Shape := ⟨1, ![32]⟩
abbrev S10000x128 : Shape := ⟨2, ![10000, 128]⟩
abbrev S192x1 : Shape := ⟨2, ![192, 1]⟩
abbrev S1 : Shape := ⟨1, ![1]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S_ : Shape := ⟨0, ![]⟩
abbrev S1x1 : Shape := ⟨2, ![1, 1]⟩
abbrev S32x128 : Shape := ⟨2, ![32, 128]⟩
abbrev S32x192 : Shape := ⟨2, ![32, 192]⟩

abbrev nBuf : Space → Nat
  | .hbm => 52
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .f32⟩
  | .hbm, ⟨2, _⟩ => ⟨S10000x128, .f32⟩
  | .hbm, ⟨3, _⟩ => ⟨S192x1, .f32⟩
  | .hbm, ⟨4, _⟩ => ⟨S1, .f32⟩
  | .hbm, ⟨5, _⟩ => ⟨S64, .f32⟩
  | .hbm, ⟨6, _⟩ => ⟨S64, .f32⟩
  | .hbm, ⟨7, _⟩ => ⟨S32x1, .f32⟩
  | .hbm, ⟨8, _⟩ => ⟨S1x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S1x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S1, .i32⟩
  | .hbm, ⟨25, _⟩ => ⟨S_, .i32⟩
  | .hbm, ⟨26, _⟩ => ⟨S32x1, .i32⟩
  | .hbm, ⟨27, _⟩ => ⟨S32x1, .i1⟩
  | .hbm, ⟨28, _⟩ => ⟨S1x1, .i32⟩
  | .hbm, ⟨29, _⟩ => ⟨S32x1, .i32⟩
  | .hbm, ⟨30, _⟩ => ⟨S32x1, .i1⟩
  | .hbm, ⟨31, _⟩ => ⟨S32x1, .i1⟩
  | .hbm, ⟨32, _⟩ => ⟨S_, .i1⟩
  | .hbm, ⟨33, _⟩ => ⟨S32, .i1⟩
  | .hbm, ⟨34, _⟩ => ⟨S32x128, .f32⟩
  | .hbm, ⟨35, _⟩ => ⟨S32x128, .i1⟩
  | .hbm, ⟨36, _⟩ => ⟨S_, .f32⟩
  | .hbm, ⟨37, _⟩ => ⟨S32x128, .f32⟩
  | .hbm, ⟨38, _⟩ => ⟨S32x128, .f32⟩
  | .hbm, ⟨39, _⟩ => ⟨S32x192, .f32⟩
  | .hbm, ⟨40, _⟩ => ⟨S32x1, .f32⟩
  | .hbm, ⟨41, _⟩ => ⟨S1x1, .f32⟩
  | .hbm, ⟨42, _⟩ => ⟨S32x1, .f32⟩
  | .hbm, ⟨43, _⟩ => ⟨S32x1, .f32⟩
  | .hbm, ⟨44, _⟩ => ⟨S32x1, .f32⟩
  | .hbm, ⟨45, _⟩ => ⟨S32x1, .f32⟩
  | .hbm, ⟨46, _⟩ => ⟨S_, .f32⟩
  | .hbm, ⟨47, _⟩ => ⟨S32x1, .f32⟩
  | .hbm, ⟨48, _⟩ => ⟨S32x1, .f32⟩
  | .hbm, ⟨49, _⟩ => ⟨S_, .f32⟩
  | .hbm, ⟨50, _⟩ => ⟨S32x1, .f32⟩
  | .hbm, ⟨51, _⟩ => ⟨S32x1, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_cst_0 : Ref sig .tc := ⟨.hbm, 49, rfl⟩
abbrev main_v19 : Ref sig .tc := ⟨.hbm, 50, rfl⟩
abbrev main_v20 : Ref sig .tc := ⟨.hbm, 51, rfl⟩

abbrev nD : Nat := 1
abbrev τ : Topo := Topo.v7x

variable {F : FTy → Type} [FloatOps F]
-- ==== Proof.Walk.lean ====
/- What one grid step of the walks kernel computes, as functions of the blocks it reads: the scan for the latest
   admissible edge, the check whether a second edge is near enough to matter, and the draw among the near ones. -/
module

public import proofs.«01_k».proof.Defs

@[expose] public section

namespace Cert.Walks

open Idealize.ShloMosaic

abbrev Sh (n m : Nat) : Shape := ⟨2, ![n, m]⟩
abbrev Sv (n : Nat) : Shape := ⟨1, ![n]⟩
abbrev Sb (n m : Nat) : Shape := ⟨3, ![1, n, m]⟩

/-- What the operations on `n` rows of `m` columns ask of the shapes. -/
structure Rows (n m : Nat) : Prop where
  row : (Sh 1 m).Broadcasts (Sh n m)
  col : (Sh n 1).Broadcasts (Sh n m)
  red : (Sh n m).Reduces [1] (Sv n)
  stand : (Sv n).ShapeCasts (Sh n 1)
  self : (Sh 1 m).ShapeCasts (Sh 1 m)
  iota : (Sh 1 m).Iotas .tc 32 [1]

/-- What the test "any of the block" asks of the shapes. -/
structure Any (m : Nat) : Prop where
  lift : (Sh 8 m).ShapeCasts (Sb 8 m)
  red : (Sb 8 m).Reduces [1, 2] (Sv 1)
  stand : (Sv 1).ShapeCasts ⟨3, ![1, 1, 1]⟩
  pos : ∀ a, (![0, 0, 0] : Fin 3 → Nat) a < (⟨3, ![1, 1, 1]⟩ : Shape).size a

/-- What the choice between the two scanned rows asks of the shapes. -/
structure Pick : Prop where
  top : (Sh 2 1).Slices ![0, 0] (Sh 1 1)
  bot : (Sh 2 1).Slices ![1, 0] (Sh 1 1)
  self : (Sh 1 1).ShapeCasts (Sh 1 1)
  col : (Sh 1 1).Broadcasts (Sh 8 1)
  first : (Sh 8 1).Slices ![0, 0] (Sh 1 1)
  last : (Sh 8 1).Slices ![7, 0] (Sh 1 1)
  pair : Shape.Concatenates [Sh 1 1, Sh 1 1] (Sh 2 1) 0
  iota : (Sh 8 1).Iotas .tc 32 [0]
  ext : 1 < 32

variable {F : FTy → Type} [FloatOps F]

/-- Negative infinity in every cell. -/
def bottom (s : Shape) : FVec F s .f32 := broadcast s (Scalar.ofBits .f32 0xFF800000#32)

/-- A run of edges: the two ends and the time. -/
abbrev Edges (F : FTy → Type) (m : Nat) := IVec (Sh 1 m) 32 × IVec (Sh 1 m) 32 × FVec F (Sh 1 m) .f32

/-- Per row: the latest admissible time, the second latest, and where the latest edge leads. -/
abbrev Top (F : FTy → Type) (n : Nat) := FVec F (Sh n 1) .f32 × FVec F (Sh n 1) .f32 × IVec (Sh n 1) 32

/-- The two ends match, and the time is early enough. -/
def mFwd {n m : Nat} (R : Rows n m) (E : Edges F m) (cn : IVec (Sh n 1) 32) : IVec (Sh n m) 1 :=
  cmpi .eq (broadcastTo (Sh n m) E.1 R.row) (broadcastTo (Sh n m) cn R.col)
def mBwd {n m : Nat} (R : Rows n m) (E : Edges F m) (cn : IVec (Sh n 1) 32) : IVec (Sh n m) 1 :=
  cmpi .eq (broadcastTo (Sh n m) E.2.1 R.row) (broadcastTo (Sh n m) cn R.col)
def early {n m : Nat} (R : Rows n m) (E : Edges F m) (ct : FVec F (Sh n 1) .f32) : IVec (Sh n m) 1 :=
  cmpf .olt (broadcastTo (Sh n m) E.2.2 R.row) (broadcastTo (Sh n m) ct R.col)

/-- The admissible times. -/
def cand {n m : Nat} (R : Rows n m) (E : Edges F m) (cn : IVec (Sh n 1) 32) (ct : FVec F (Sh n 1) .f32) : FVec F (Sh n m) .f32 :=
  select (andi (ori (mFwd R E cn) (mBwd R E cn)) (early R E ct))
    (broadcastTo (Sh n m) (shapeCast (Sh 1 m) E.2.2 R.self) R.row) (bottom (Sh n m))

/-- The largest of each row. -/
def rowMax {n m : Nat} (R : Rows n m) (x : FVec F (Sh n m) .f32) : FVec F (Sh n 1) .f32 :=
  shapeCast (Sh n 1) (multiReduction .maximumf [1] (Sv n) x 0xFF800000#32 R.red (.inl rfl) rfl) R.stand
/-- The smallest of each row, and the sum of each row, of words. -/
def rowMin {n m : Nat} (R : Rows n m) (x : IVec (Sh n m) 32) : IVec (Sh n 1) 32 :=
  shapeCast (Sh n 1) (multiReductionI .minsi [1] (Sv n) x 2147483647#32 R.red rfl) R.stand
def rowSum {n m : Nat} (R : Rows n m) (x : IVec (Sh n m) 32) : IVec (Sh n 1) 32 :=
  shapeCast (Sh n 1) (multiReductionI .add [1] (Sv n) x 0#32 R.red rfl) R.stand
def rowSumF {n m : Nat} (R : Rows n m) (x : FVec F (Sh n m) .f32) : FVec F (Sh n 1) .f32 :=
  shapeCast (Sh n 1) (multiReduction .add [1] (Sv n) x 0x00000000#32 R.red (.inl rfl) rfl) R.stand

/-- The first column of the largest. -/
def firstAt {n m : Nat} (R : Rows n m) (x : FVec F (Sh n m) .f32) : IVec (Sh n m) 1 :=
  cmpi .eq (broadcastTo (Sh n m) (iota .tc (Sh 1 m) 32 [1] R.iota) R.row)
    (broadcastTo (Sh n m)
      (rowMin R (select (cmpf .oeq x (broadcastTo (Sh n m) (rowMax R x) R.col))
        (broadcastTo (Sh n m) (shapeCast (Sh 1 m) (iota .tc (Sh 1 m) 32 [1] R.iota) R.self) R.row)
        (broadcast (Sh n m) 2147483647#32))) R.col)

/-- The scan of one run of edges, from the values `z` and `z0`. -/
def chunk {n m : Nat} (R : Rows n m) (z : FVec F (Sh n 1) .f32) (z0 : IVec (Sh n 1) 32) (E : Edges F m) (cn : IVec (Sh n 1) 32) (ct : FVec F (Sh n 1) .f32) : Top F n :=
  let x := cand R E cn ct
  let hot := firstAt R x
  let big := rowMax R x
  let dst := rowSum R (select hot (select (mFwd R E cn)
    (broadcastTo (Sh n m) (shapeCast (Sh 1 m) E.2.1 R.self) R.row)
    (broadcastTo (Sh n m) (shapeCast (Sh 1 m) E.1 R.self) R.row)) (broadcast (Sh n m) 0#32))
  let big2 := rowMax R (select hot (bottom (Sh n m)) x)
  (maximumf z big, maximumf (minimumf z big) (maximumf z big2), select (cmpf .ogt big z) dst z0)

/-- Two scans put together. -/
def merge {n : Nat} (a b : Top F n) : Top F n :=
  (maximumf a.1 b.1, maximumf (minimumf a.1 b.1) (maximumf a.2.1 b.2.1), select (cmpf .oge a.1 b.1) a.2.2 b.2.2)

/-- Neighbours put together, halving the list. -/
def halve {n : Nat} : List (Top F n) → List (Top F n)
  | a :: b :: l => merge a b :: halve l
  | l => l

/-- The scan of sixteen runs. -/
def scan {n m : Nat} (R : Rows n m) (z : FVec F (Sh n 1) .f32) (z0 : IVec (Sh n 1) 32) (cn : IVec (Sh n 1) 32)
    (ct : FVec F (Sh n 1) .f32) (E : Edges F m) (Es : List (Edges F m)) : Top F n :=
  (halve (halve (halve (halve (chunk R z z0 E cn ct :: Es.map fun E => chunk R z z0 E cn ct))))).headD
    (bottom _, bottom _, broadcast _ 0#32)

/-- Floor division by ten, of words and of one word. -/
def tenth (P : Pick) (x : IVec (Sh 8 1) 32) : IVec (Sh 8 1) 32 :=
  select (andi
      (cmpi .ne (subi (extui 32 (cmpi .sgt x (broadcast (Sh 8 1) 0#32)) P.ext) (extui 32 (cmpi .slt x (broadcast (Sh 8 1) 0#32)) P.ext))
        (broadcast (Sh 8 1) (Scalar.subi (Scalar.extui (Scalar.cmpi .sgt 10#32 0#32)) (Scalar.extui (Scalar.cmpi .slt 10#32 0#32)))))
      (cmpi .ne (remsi x (broadcast (Sh 8 1) 10#32)) (broadcast (Sh 8 1) 0#32)))
    (subi (divsi x (broadcast (Sh 8 1) 10#32)) (broadcast (Sh 8 1) 1#32)) (divsi x (broadcast (Sh 8 1) 10#32))
def tenthS (x : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt 10#32 0#32)) (Scalar.extui (Scalar.cmpi .slt 10#32 0#32))))
      (Scalar.cmpi .ne (Scalar.remsi x 10#32) 0#32))
    (Scalar.subi (Scalar.divsi x 10#32) 1#32) (Scalar.divsi x 10#32)

/-- The walk number of each row, for grid step `g`. -/
def walkNo (P : Pick) (g : BitVec 32) : IVec (Sh 8 1) 32 :=
  addi (iota .tc (Sh 8 1) 32 [0] P.iota) (broadcast (Sh 8 1) (Scalar.muli 8#32 g))

/-- The first and the last row. -/
def ends {α : Type} (P : Pick) (x : (Sh 8 1).Idx → α) : (Sh 2 1).Idx → α :=
  concatenate (Sh 2 1) 0 [⟨Sh 1 1, extractStridedSlice (Sh 1 1) ![0, 0] x P.first⟩,
    ⟨Sh 1 1, extractStridedSlice (Sh 1 1) ![7, 0] x P.last⟩] P.pair

/-- The rows of the source of the first row take the first value, the others the second. -/
def spread {α : Type} (P : Pick) (g : BitVec 32) (x : (Sh 2 1).Idx → α) : (Sh 8 1).Idx → α :=
  select (cmpi .eq (tenth P (walkNo P g)) (broadcast (Sh 8 1) (tenthS (Scalar.muli 8#32 g))))
    (broadcastTo (Sh 8 1) (shapeCast (Sh 1 1) (extractStridedSlice (Sh 1 1) ![0, 0] x P.top) P.self) P.col)
    (broadcastTo (Sh 8 1) (shapeCast (Sh 1 1) (extractStridedSlice (Sh 1 1) ![1, 0] x P.bot) P.self) P.col)
def spreadTop (P : Pick) (g : BitVec 32) (x : Top F 2) : Top F 8 :=
  (spread P g x.1, spread P g x.2.1, spread P g x.2.2)

/-- Whether any cell of the block is set: one word. -/
def anySet {m : Nat} (A : Any m) (x : IVec (Sh 8 m) 1) : BitVec 32 :=
  Scalar.extui (Scalar.cmpf .ogt (extractAt ![0, 0, 0] (shapeCast ⟨3, ![1, 1, 1]⟩
    (multiReduction .maximumf [1, 2] (Sv 1)
      (shapeCast (Sb 8 m) (select x (broadcast (Sh 8 m) (Scalar.ofBits .f32 0x3F800000#32 : F .f32))
        (broadcast (Sh 8 m) (Scalar.ofBits .f32 0x00000000#32))) A.lift)
      0xFF800000#32 A.red (.inl rfl) rfl) A.stand) A.pos) (Scalar.ofBits .f32 0x00000000#32))

/-- The rows with an admissible edge. -/
def found (x : Top F 8) : IVec (Sh 8 1) 1 := cmpf .ogt x.1 (bottom (Sh 8 1))
/-- The latest admissible time, or zero. -/
def latest (x : Top F 8) : FVec F (Sh 8 1) .f32 := select (found x) x.1 (broadcast (Sh 8 1) (Scalar.ofBits .f32 0x00000000#32))
/-- The time from which an edge is near enough to matter. -/
def near (t : FVec F (Sh 8 1) .f32) : FVec F (Sh 8 1) .f32 := subf t (broadcast (Sh 8 1) (Scalar.ofBits .f32 0x40033333#32))
/-- The rows whose second edge is near. -/
def close (x : Top F 8) : IVec (Sh 8 1) 1 := andi (cmpf .oge x.2.1 (near x.1)) (cmpf .ogt x.2.1 (bottom (Sh 8 1)))

/-! ## The hash -/

/-- One round of the hash on a pair of words per cell. -/
def rnd {s : Shape} (r r' : BitVec 32) (x : IVec s 32 × IVec s 32) : IVec s 32 × IVec s 32 :=
  (addi x.1 x.2, xori (ori (shli x.2 (broadcast s r)) (shrui x.2 (broadcast s r'))) (addi x.1 x.2))
/-- A key word added to each half, the second with the group's number on top. -/
def inj {s : Shape} (a b n : BitVec 32) (x : IVec s 32 × IVec s 32) : IVec s 32 × IVec s 32 :=
  (addi x.1 (broadcast s a), addi (addi x.2 (broadcast s b)) (broadcast s n))
def four {s : Shape} (x : IVec s 32 × IVec s 32) : IVec s 32 × IVec s 32 :=
  rnd 6#32 26#32 (rnd 26#32 6#32 (rnd 15#32 17#32 (rnd 13#32 19#32 x)))
def four' {s : Shape} (x : IVec s 32 × IVec s 32) : IVec s 32 × IVec s 32 :=
  rnd 24#32 8#32 (rnd 16#32 16#32 (rnd 29#32 3#32 (rnd 17#32 15#32 x)))
/-- The hash of the counter `(0, c)` under the key `(k0, k1)`, whose third word is `k2`. -/
def hash {s : Shape} (k0 k1 k2 : BitVec 32) (c : IVec s 32) : IVec s 32 × IVec s 32 :=
  inj k2 k0 5#32 (four (inj k1 k2 4#32 (four' (inj k0 k1 3#32 (four (inj k2 k0 2#32 (four' (inj k1 k2 1#32
    (four (broadcast s k0, addi c (broadcast s k1)))))))))))

/-- The noise a counter draws. -/
def noise {s : Shape} (k0 k1 k2 : BitVec 32) (c : IVec s 32) : FVec F s .f32 :=
  let bits := xori (hash k0 k1 k2 c).1 (hash k0 k1 k2 c).2
  let unit : FVec F s .f32 := subf (bitcastToFloat .f32 (ori (shrui bits (broadcast s 9#32)) (broadcast s 1065353216#32)))
    (broadcast s (Scalar.ofBits .f32 0x3F800000#32))
  let u := maximumf (broadcast s (Scalar.ofBits .f32 0x00800000#32))
    (addf (mulf unit (broadcast s (Scalar.subf (Scalar.ofBits .f32 0x3F800000#32) (Scalar.ofBits .f32 0x00800000#32))))
      (broadcast s (Scalar.ofBits .f32 0x00800000#32)))
  subf (broadcast s (Scalar.ofBits .f32 0x00000000#32)) (log (subf (broadcast s (Scalar.ofBits .f32 0x00000000#32)) (log u)))

/-! ## The draw -/

/-- Per row: the best score, where it leads, its time, its number. -/
abbrev Best (F : FTy → Type) := FVec F (Sh 8 1) .f32 × IVec (Sh 8 1) 32 × FVec F (Sh 8 1) .f32 × IVec (Sh 8 1) 32

def best0 : Best F := (bottom (Sh 8 1), broadcast (Sh 8 1) 0#32, broadcast (Sh 8 1) (Scalar.ofBits .f32 0x00000000#32),
  broadcast (Sh 8 1) 2147483647#32)

/-- The edges of a run near enough to matter. -/
def nearEdges (R : Rows 8 1024) (E : Edges F 1024) (cn : IVec (Sh 8 1) 32) (ct tm : FVec F (Sh 8 1) .f32) : IVec (Sh 8 1024) 1 :=
  andi (andi (ori (mFwd R E cn) (mBwd R E cn)) (early R E ct))
    (cmpf .oge (broadcastTo (Sh 8 1024) E.2.2 R.row) (broadcastTo (Sh 8 1024) (near tm) R.col))

/-- The edge number of each column of run `k`. -/
def edgeNo (R : Rows 8 1024) (k : BitVec 32) : IVec (Sh 1 1024) 32 :=
  addi (broadcast (Sh 1 1024) (Scalar.muli k 1024#32)) (iota .tc (Sh 1 1024) 32 [1] R.iota)
/-- The counter of each cell. -/
def counter (R : Rows 8 1024) (wk : IVec (Sh 8 1) 32) (k : BitVec 32) : IVec (Sh 8 1024) 32 :=
  addi (broadcastTo (Sh 8 1024) (muli wk (broadcast (Sh 8 1) 100000#32)) R.col) (broadcastTo (Sh 8 1024) (edgeNo R k) R.row)

/-- The scores of a run, forward and backward. -/
def scoreF (R : Rows 8 1024) (E : Edges F 1024) (k0 k1 k2 : BitVec 32) (wk : IVec (Sh 8 1) 32) (k : BitVec 32) (cn : IVec (Sh 8 1) 32)
    (ct tm : FVec F (Sh 8 1) .f32) : FVec F (Sh 8 1024) .f32 :=
  select (andi (mFwd R E cn) (early R E ct))
    (addf (divf (subf (broadcastTo (Sh 8 1024) E.2.2 R.row) (broadcastTo (Sh 8 1024) tm R.col)) (broadcast (Sh 8 1024) (Scalar.ofBits .f32 0x3DCCCCCD#32)))
      (noise k0 k1 k2 (counter R wk k))) (bottom (Sh 8 1024))
def scoreB (R : Rows 8 1024) (E : Edges F 1024) (k0 k1 k2 : BitVec 32) (wk : IVec (Sh 8 1) 32) (k : BitVec 32) (cn : IVec (Sh 8 1) 32)
    (ct tm : FVec F (Sh 8 1) .f32) : FVec F (Sh 8 1024) .f32 :=
  select (andi (mBwd R E cn) (early R E ct))
    (addf (divf (subf (broadcastTo (Sh 8 1024) E.2.2 R.row) (broadcastTo (Sh 8 1024) tm R.col)) (broadcast (Sh 8 1024) (Scalar.ofBits .f32 0x3DCCCCCD#32)))
      (noise k0 k1 k2 (addi (counter R wk k) (broadcast (Sh 8 1024) 50000#32)))) (bottom (Sh 8 1024))

/-- The run's scores `f` and `b` weighed against the best so far. -/
def weigh (R : Rows 8 1024) (E : Edges F 1024) (k : BitVec 32) (f b : FVec F (Sh 8 1024) .f32) (x : Best F) : Best F :=
  let fw := cmpf .oge f b
  let m := rowMax R (maximumf f b)
  let no := select (cmpf .oeq (maximumf f b) (broadcastTo (Sh 8 1024) m R.col))
    (select fw (broadcastTo (Sh 8 1024) (shapeCast (Sh 1 1024) (edgeNo R k) R.self) R.row)
      (broadcastTo (Sh 8 1024) (shapeCast (Sh 1 1024) (addi (edgeNo R k) (broadcast (Sh 1 1024) 50000#32)) R.self) R.row))
    (broadcast (Sh 8 1024) 2147483647#32)
  let j := rowMin R no
  let hot := cmpi .eq no (broadcastTo (Sh 8 1024) j R.col)
  let d := rowSum R (select hot (select fw (broadcastTo (Sh 8 1024) (shapeCast (Sh 1 1024) E.2.1 R.self) R.row)
    (broadcastTo (Sh 8 1024) (shapeCast (Sh 1 1024) E.1 R.self) R.row)) (broadcast (Sh 8 1024) 0#32))
  let t := rowSumF R (select hot (broadcastTo (Sh 8 1024) (shapeCast (Sh 1 1024) E.2.2 R.self) R.row)
    (broadcast (Sh 8 1024) (Scalar.ofBits .f32 0x00000000#32)))
  let win := ori (cmpf .ogt m x.1) (andi (cmpf .oeq m x.1) (cmpi .slt j x.2.2.2))
  (select win m x.1, select win d x.2.1, select win t x.2.2.1, select win j x.2.2.2)

/-- One trip of the draw. -/
def trip (R : Rows 8 1024) (A : Any 1024) (k0 k1 k2 : BitVec 32) (wk cn : IVec (Sh 8 1) 32) (ct tm : FVec F (Sh 8 1) .f32)
    (k : BitVec 32) (E : Edges F 1024) (x : Best F) : Best F :=
  if Scalar.cmpi .ne (anySet (F := F) A (nearEdges R E cn ct tm)) 0#32 = 1#1 then
    weigh R E k (scoreF R E k0 k1 k2 wk k cn ct tm) (scoreB R E k0 k1 k2 wk k cn ct tm) x
  else x

/-- The trips up to `k`. -/
def draw (R : Rows 8 1024) (A : Any 1024) (k0 k1 k2 : BitVec 32) (wk cn : IVec (Sh 8 1) 32) (ct tm : FVec F (Sh 8 1) .f32)
    (E : Nat → Edges F 1024) : Nat → Best F
  | 0 => best0
  | k + 1 => trip R A k0 k1 k2 wk cn ct tm (BitVec.ofNat 32 k) (E k) (draw R A k0 k1 k2 wk cn ct tm E k)

/-- Whether the draw is needed. -/
def needed (A : Any 1) (x : Top F 8) : BitVec 1 := Scalar.cmpi .ne (anySet (F := F) A (close x)) 0#32

/-- Where the walk goes next, and when. -/
def next (R : Rows 8 1024) (A : Any 1024) (A1 : Any 1) (k0 k1 k2 : BitVec 32) (wk cn : IVec (Sh 8 1) 32) (ct : FVec F (Sh 8 1) .f32)
    (E : Nat → Edges F 1024) (x : Top F 8) : IVec (Sh 8 1) 32 × FVec F (Sh 8 1) .f32 :=
  if needed A1 x = 1#1 then
    ((draw R A k0 k1 k2 wk cn ct (latest x) E 50).2.1, (draw R A k0 k1 k2 wk cn ct (latest x) E 50).2.2.1)
  else (x.2.2, x.1)

def zeroF : FVec F (Sh 8 1) .f32 := broadcast (Sh 8 1) (Scalar.ofBits .f32 0x00000000#32)
def zeroI : IVec (Sh 8 1) 32 := broadcast (Sh 8 1) 0#32
def yes : IVec (Sh 8 1) 1 := broadcast (Sh 8 1) 1#1

end Cert.Walks
-- ==== Proof.IdealBody.lean ====
/- The walks kernel's body as a short program over the functions of `Walk`, and that it is the printed one. -/
module

public import proofs.«01_k».proof.Defs
public import proofs.«01_k».proof.Proof.Gen.KernelIdeal.Skeleton
public import proofs.«01_k».proof.Proof.Gen.KernelIdeal.Loops
public import proofs.«01_k».proof.Proof.Walk

@[expose] public section

set_option maxRecDepth 16384

namespace Cert.KernelIdeal

open Idealize.ShloMosaic Idealize.SL.Sem
open Cert.Walks (Edges Top Best Rows Any Pick)

variable [Facts]
open Facts₀ Facts

theorem rows2 : Rows 2 3200 := ⟨broadcasts_S1x3200_S2x3200, broadcasts_S2x1_S2x3200, reduces_S2x3200_S2, shapeCasts_S2_S2x1,
  shapeCasts_S1x3200_S1x3200, iota_S1x3200_d1_w32⟩
theorem rows8 : Rows 8 3200 := ⟨broadcasts_S1x3200_S8x3200, broadcasts_S8x1_S8x3200, reduces_S8x3200_S8, shapeCasts_S8_S8x1,
  shapeCasts_S1x3200_S1x3200, iota_S1x3200_d1_w32⟩
theorem rowsD : Rows 8 1024 := ⟨broadcasts_S1x1024_S8x1024, broadcasts_S8x1_S8x1024, reduces_S8x1024_S8, shapeCasts_S8_S8x1,
  shapeCasts_S1x1024_S1x1024, iota_S1x1024_d1_w32⟩
theorem anyD : Any 1024 := ⟨shapeCasts_S8x1024_S1x8x1024, reduces_S1x8x1024_S1, shapeCasts_S1_S1x1x1, inpos_S1x1x1_p0_0_0⟩
theorem any1 : Any 1 := ⟨shapeCasts_S8x1_S1x8x1, reduces_S1x8x1_S1, shapeCasts_S1_S1x1x1, inpos_S1x1x1_p0_0_0⟩
theorem pick : Pick := ⟨slices_S2x1_o0_0_S1x1, slices_S2x1_o1_0_S1x1, shapeCasts_S1x1_S1x1, broadcasts_S1x1_S8x1,
  slices_S8x1_o0_0_S1x1, slices_S8x1_o7_0_S1x1, concatenates_S1x1_S1x1_S2x1_d0, iota_S8x1_d0_w32, natLt_1_32⟩

variable {F : FTy → Type} [FloatOps F]

/-- The device program's type. -/
abbrev Pr (F : FTy → Type) [FloatOps F] (α : Type) := Prog (TpuEff nD τ sig (Elt F) Λ₀ .tc) α

/-- The run of 3200 edges from `o`. -/
noncomputable def get (arg1 : Memref sig .tc .vmem S1x51200 .i32) (arg2 : Memref sig .tc .vmem S1x51200 .i32)
    (arg3 : Memref sig .tc .vmem S1x51200 .f32) (o : Nat)
    (h : ∀ a, (![0, o] : Fin 2 → Nat) a + S1x3200.size a ≤ S1x51200.size a) : Pr F (Edges F 3200) := do
  let u : Vec F S1x3200 .i32 ← Prog.lift (.load arg1 (Rect.unit (s := S1x51200) ![0, o] S1x3200.size h).toLoadRect (View.loadsAt_vmem h_S1x3200))
  let v : Vec F S1x3200 .i32 ← Prog.lift (.load arg2 (Rect.unit (s := S1x51200) ![0, o] S1x3200.size h).toLoadRect (View.loadsAt_vmem h_S1x3200))
  let t : Vec F S1x3200 .f32 ← Prog.lift (.load arg3 (Rect.unit (s := S1x51200) ![0, o] S1x3200.size h).toLoadRect (View.loadsAt_vmem h_S1x3200))
  pure (shapeCast S1x3200 u shapeCasts_S1x3200_S1x3200, shapeCast S1x3200 v shapeCasts_S1x3200_S1x3200, shapeCast S1x3200 t shapeCasts_S1x3200_S1x3200)

/-- The run of 1024 edges at the offsets `o`. -/
noncomputable def getD (arg1 : Memref sig .tc .vmem S1x51200 .i32) (arg2 : Memref sig .tc .vmem S1x51200 .i32)
    (arg3 : Memref sig .tc .vmem S1x51200 .f32) (o : Fin 2 → Nat)
    (h : ∀ a, o a + S1x1024.size a ≤ S1x51200.size a) : Pr F (Edges F 1024) := do
  let u : Vec F S1x1024 .i32 ← Prog.lift (.load arg1 (Rect.unit (s := S1x51200) o S1x1024.size h).toLoadRect (View.loadsAt_vmem h_S1x1024))
  let v : Vec F S1x1024 .i32 ← Prog.lift (.load arg2 (Rect.unit (s := S1x51200) o S1x1024.size h).toLoadRect (View.loadsAt_vmem h_S1x1024))
  let t : Vec F S1x1024 .f32 ← Prog.lift (.load arg3 (Rect.unit (s := S1x51200) o S1x1024.size h).toLoadRect (View.loadsAt_vmem h_S1x1024))
  pure (shapeCast S1x1024 u shapeCasts_S1x1024_S1x1024, shapeCast S1x1024 v shapeCasts_S1x1024_S1x1024, shapeCast S1x1024 t shapeCasts_S1x1024_S1x1024)

/-- Column `o` of a result block written (the kernel reads it first, and drops what it read). -/
noncomputable def putI (arg : Memref sig .tc .vmem S1x8x3 .i32) (o : Nat)
    (h : ∀ a, (![0, 0, o] : Fin 3 → Nat) a + S1x8x1.size a ≤ S1x8x3.size a) (x : IVec S8x1 32) : Pr F PUnit := do
  let _w : Vec F S1x8x1 .i32 ← Prog.lift (.load arg (Rect.unit (s := S1x8x3) ![0, 0, o] S1x8x1.size h).toLoadRect (View.loadsAt_vmem h_S1x8x1))
  Prog.lift (.store arg (Rect.unit (s := S1x8x3) ![0, 0, o] S1x8x1.size h) (shapeCast S1x8x1 x shapeCasts_S8x1_S1x8x1) Finset.univ (View.stores_vmem_bits_univ h_S1x8x1 rfl) (.inl rfl))
noncomputable def putF (arg : Memref sig .tc .vmem S1x8x3 .f32) (o : Nat)
    (h : ∀ a, (![0, 0, o] : Fin 3 → Nat) a + S1x8x1.size a ≤ S1x8x3.size a) (x : FVec F S8x1 .f32) : Pr F PUnit := do
  let _w : Vec F S1x8x1 .f32 ← Prog.lift (.load arg (Rect.unit (s := S1x8x3) ![0, 0, o] S1x8x1.size h).toLoadRect (View.loadsAt_vmem h_S1x8x1))
  Prog.lift (.store arg (Rect.unit (s := S1x8x3) ![0, 0, o] S1x8x1.size h) (shapeCast S1x8x1 x shapeCasts_S8x1_S1x8x1) Finset.univ (View.stores_vmem_bits_univ h_S1x8x1 rfl) (.inl rfl))

/-- The draw's loop. -/
noncomputable def drawLoop (L : Scf.Loop 32) (hL : L.OK) (off : Fin L.trips → Fin 2 → Nat)
    (hoff : ∀ k a, off k a + S1x1024.size a ≤ S1x51200.size a)
    (arg1 : Memref sig .tc .vmem S1x51200 .i32) (arg2 : Memref sig .tc .vmem S1x51200 .i32)
    (arg3 : Memref sig .tc .vmem S1x51200 .f32) (k0 k1 k2 : BitVec 32) (wk cn : IVec S8x1 32) (ct tm : FVec F S8x1 .f32) : Pr F (Best F) :=
  Scf.Loop.for L hL Walks.best0 fun k x => do
    let E ← getD arg1 arg2 arg3 (off k) (hoff k)
    if Scalar.cmpi .ne (Walks.anySet (F := F) anyD (Walks.nearEdges rowsD E cn ct tm)) 0#32 = 1#1 then
      pure (Walks.weigh rowsD E (Scf.iv 0#32 1#32 k) (Walks.scoreF rowsD E k0 k1 k2 wk (Scf.iv 0#32 1#32 k) cn ct tm)
        (Walks.scoreB rowsD E k0 k1 k2 wk (Scf.iv 0#32 1#32 k) cn ct tm) x)
    else pure x

/-- Where the walk goes next, handed on. -/
noncomputable def go {α : Type} (L : Scf.Loop 32) (hL : L.OK) (off : Fin L.trips → Fin 2 → Nat)
    (hoff : ∀ k a, off k a + S1x1024.size a ≤ S1x51200.size a)
    (arg1 : Memref sig .tc .vmem S1x51200 .i32) (arg2 : Memref sig .tc .vmem S1x51200 .i32)
    (arg3 : Memref sig .tc .vmem S1x51200 .f32) (k0 k1 k2 : BitVec 32) (wk cn : IVec S8x1 32) (ct : FVec F S8x1 .f32) (x : Top F 8)
    (k : IVec S8x1 32 × FVec F S8x1 .f32 → Pr F α) : Pr F α :=
  if Walks.needed any1 x = 1#1 then do
    let b ← drawLoop L hL off hoff arg1 arg2 arg3 k0 k1 k2 wk cn ct (Walks.latest x)
    k (b.2.1, b.2.2.1)
  else k (x.2.2, x.1)

/-- The far ends of the first run. -/
noncomputable def firstEnds (arg1 : Memref sig .tc .vmem S1x51200 .i32) : Pr F (IVec S1x3200 32) := do
  let u : Vec F S1x3200 .i32 ← Prog.lift (.load arg1 (Rect.unit (s := S1x51200) ![0, 0] S1x3200.size inb_S1x51200_S1x3200_0_0).toLoadRect (View.loadsAt_vmem h_S1x3200))
  pure (shapeCast S1x3200 u shapeCasts_S1x3200_S1x3200)

/-- The sixteen runs, the far ends of the first being `u`. -/
noncomputable def runs (u : IVec S1x3200 32) (arg1 : Memref sig .tc .vmem S1x51200 .i32) (arg2 : Memref sig .tc .vmem S1x51200 .i32)
    (arg3 : Memref sig .tc .vmem S1x51200 .f32) : Pr F (Edges F 3200 × List (Edges F 3200)) := do
  let v : Vec F S1x3200 .i32 ← Prog.lift (.load arg2 (Rect.unit (s := S1x51200) ![0, 0] S1x3200.size inb_S1x51200_S1x3200_0_0).toLoadRect (View.loadsAt_vmem h_S1x3200))
  let t : Vec F S1x3200 .f32 ← Prog.lift (.load arg3 (Rect.unit (s := S1x51200) ![0, 0] S1x3200.size inb_S1x51200_S1x3200_0_0).toLoadRect (View.loadsAt_vmem h_S1x3200))
  let e1 ← get arg1 arg2 arg3 3200 inb_S1x51200_S1x3200_0_3200
  let e2 ← get arg1 arg2 arg3 6400 inb_S1x51200_S1x3200_0_6400
  let e3 ← get arg1 arg2 arg3 9600 inb_S1x51200_S1x3200_0_9600
  let e4 ← get arg1 arg2 arg3 12800 inb_S1x51200_S1x3200_0_12800
  let e5 ← get arg1 arg2 arg3 16000 inb_S1x51200_S1x3200_0_16000
  let e6 ← get arg1 arg2 arg3 19200 inb_S1x51200_S1x3200_0_19200
  let e7 ← get arg1 arg2 arg3 22400 inb_S1x51200_S1x3200_0_22400
  let e8 ← get arg1 arg2 arg3 25600 inb_S1x51200_S1x3200_0_25600
  let e9 ← get arg1 arg2 arg3 28800 inb_S1x51200_S1x3200_0_28800
  let e10 ← get arg1 arg2 arg3 32000 inb_S1x51200_S1x3200_0_32000
  let e11 ← get arg1 arg2 arg3 35200 inb_S1x51200_S1x3200_0_35200
  let e12 ← get arg1 arg2 arg3 38400 inb_S1x51200_S1x3200_0_38400
  let e13 ← get arg1 arg2 arg3 41600 inb_S1x51200_S1x3200_0_41600
  let e14 ← get arg1 arg2 arg3 44800 inb_S1x51200_S1x3200_0_44800
  let e15 ← get arg1 arg2 arg3 48000 inb_S1x51200_S1x3200_0_48000
  pure ((u, shapeCast S1x3200 v shapeCasts_S1x3200_S1x3200, shapeCast S1x3200 t shapeCasts_S1x3200_S1x3200), [e1, e2, e3, e4, e5, e6, e7, e8, e9, e10, e11, e12, e13, e14, e15])

/-- What the first step hands to the second. -/
abbrev Mid (F : FTy → Type) := Σ' (_ : IVec S8x1 1) (_ : IVec S8x1 32) (_ : FVec F S8x1 .f32) (_ : FVec F S8x1 .f32) (_ : IVec S8x1 32), IVec S1x3200 32
/-- Its parts. -/
abbrev Mid.al (r : Mid F) := r.1
abbrev Mid.cn (r : Mid F) := r.2.1
abbrev Mid.ct (r : Mid F) := r.2.2.1
abbrev Mid.z (r : Mid F) := r.2.2.2.1
abbrev Mid.z0 (r : Mid F) := r.2.2.2.2.1
abbrev Mid.u (r : Mid F) := r.2.2.2.2.2

/-- The body up to the last two columns it writes. -/
noncomputable def bodyA (i : grid0.Coords) (arg1 : Memref sig .tc .vmem S1x51200 .i32) (arg2 : Memref sig .tc .vmem S1x51200 .i32)
    (arg3 : Memref sig .tc .vmem S1x51200 .f32) (arg4 : Memref sig .tc .vmem S1x8x1 .i32) (arg5 : Memref sig .tc .vmem S1x8x1 .f32)
    (arg6 : Memref sig .tc .vmem S1x8x3 .i32) (arg7 : Memref sig .tc .vmem S1x8x3 .f32) (arg8 : Memref sig .tc .vmem S1x8x3 .f32) : Pr F (Σ' (_ : IVec S8x1 1), FVec F S8x1 .f32) := do
  let a : Vec F S1x8x1 .i32 ← Prog.lift (.load arg4 (Rect.unit (s := S1x8x1) ![0, 0, 0] S1x8x1.size inb_S1x8x1_S1x8x1_0_0_0).toLoadRect (View.loadsAt_vmem h_S1x8x1))
  let b : Vec F S1x8x1 .f32 ← Prog.lift (.load arg5 (Rect.unit (s := S1x8x1) ![0, 0, 0] S1x8x1.size inb_S1x8x1_S1x8x1_0_0_0).toLoadRect (View.loadsAt_vmem h_S1x8x1))
  let g : BitVec 32 := BitVec.ofNat 32 (i 0).val
  let cn : IVec S8x1 32 := shapeCast S8x1 a shapeCasts_S1x8x1_S8x1
  let ct : FVec F S8x1 .f32 := shapeCast S8x1 b shapeCasts_S1x8x1_S8x1
  putI arg6 0 inb_S1x8x3_S1x8x1_0_0_0 cn
  putF arg7 0 inb_S1x8x3_S1x8x1_0_0_0 ct
  putF arg8 0 inb_S1x8x3_S1x8x1_0_0_0 (broadcast S8x1 (Scalar.ofBits .f32 0x3F800000#32))
  let u ← firstEnds arg1
  let Es ← runs u arg1 arg2 arg3
  let s := Walks.spreadTop pick g (Walks.scan rows2 (Walks.bottom _) (broadcast _ 0#32) (Walks.ends pick cn) (Walks.ends pick ct) Es.1 Es.2)
  let r ← go k0_t1_loop k0_t1_ok k0_off1 k0_off1_inb arg1 arg2 arg3 2877103387#32 1697627890#32 3582179379#32 (Walks.walkNo pick g) cn ct s fun d => do
    putI arg6 1 inb_S1x8x3_S1x8x1_0_0_1 (select (andi Walks.yes (Walks.found s)) d.1 Walks.zeroI)
    putF arg7 1 inb_S1x8x3_S1x8x1_0_0_1 (select (andi Walks.yes (Walks.found s)) d.2 Walks.zeroF)
    putF arg8 1 inb_S1x8x3_S1x8x1_0_0_1 (sitofp .f32 (extui 32 (andi Walks.yes (Walks.found s)) natLt_1_32))
    let u ← firstEnds arg1
    pure (⟨andi Walks.yes (Walks.found s), select (andi Walks.yes (Walks.found s)) d.1 cn, select (andi Walks.yes (Walks.found s)) d.2 ct, Walks.bottom _, broadcast _ 0#32, u⟩ : Mid F)
  let Es' ← runs (Mid.u r) arg1 arg2 arg3
  let s' := Walks.scan rows8 (Mid.z r) (Mid.z0 r) (Mid.cn r) (Mid.ct r) Es'.1 Es'.2
  let al' := andi (Mid.al r) (Walks.found s')
  go k0_t2_loop k0_t2_ok k0_off2 k0_off2_inb arg1 arg2 arg3 2352926074#32 781486348#32 3111870380#32 (Walks.walkNo pick g) (Mid.cn r) (Mid.ct r) s' fun d => do
    putI arg6 2 inb_S1x8x3_S1x8x1_0_0_2 (select al' d.1 Walks.zeroI)
    pure (⟨al', select al' d.2 Walks.zeroF⟩ : Σ' (_ : IVec S8x1 1), FVec F S8x1 .f32)

/-- The body. -/
noncomputable def body (i : grid0.Coords) (arg1 : Memref sig .tc .vmem S1x51200 .i32) (arg2 : Memref sig .tc .vmem S1x51200 .i32)
    (arg3 : Memref sig .tc .vmem S1x51200 .f32) (arg4 : Memref sig .tc .vmem S1x8x1 .i32) (arg5 : Memref sig .tc .vmem S1x8x1 .f32)
    (arg6 : Memref sig .tc .vmem S1x8x3 .i32) (arg7 : Memref sig .tc .vmem S1x8x3 .f32) (arg8 : Memref sig .tc .vmem S1x8x3 .f32) : Pr F PUnit := do
  let w ← bodyA i arg1 arg2 arg3 arg4 arg5 arg6 arg7 arg8
  putF arg7 2 inb_S1x8x3_S1x8x1_0_0_2 w.2
  putF arg8 2 inb_S1x8x3_S1x8x1_0_0_2 (sitofp .f32 (extui 32 w.1 natLt_1_32))

/-- The printed body is this one. -/
theorem body_eq (i : grid0.Coords) (arg1 : Memref sig .tc .vmem S1x51200 .i32) (harg1 : arg1.IsWhole) (arg2 : Memref sig .tc .vmem S1x51200 .i32) (harg2 : arg2.IsWhole)
    (arg3 : Memref sig .tc .vmem S1x51200 .f32) (harg3 : arg3.IsWhole) (arg4 : Memref sig .tc .vmem S1x8x1 .i32) (harg4 : arg4.IsWhole) (arg5 : Memref sig .tc .vmem S1x8x1 .f32) (harg5 : arg5.IsWhole)
    (arg6 : Memref sig .tc .vmem S1x8x3 .i32) (harg6 : arg6.IsWhole) (arg7 : Memref sig .tc .vmem S1x8x3 .f32) (harg7 : arg7.IsWhole) (arg8 : Memref sig .tc .vmem S1x8x3 .f32) (harg8 : arg8.IsWhole) :
    cc0__walks_kernel (F := F) i arg1 harg1 arg2 harg2 arg3 harg3 arg4 harg4 arg5 harg5 arg6 harg6 arg7 harg7 arg8 harg8
      = body i arg1 arg2 arg3 arg4 arg5 arg6 arg7 arg8 := by
  sl_kernel_rfl

end Cert.KernelIdeal
-- ==== Proof.IdealRun.lean ====
/- What the walks kernel's body leaves, and that it runs. -/
module

public import proofs.«01_k».proof.Proof.IdealBody
public import proofs.«01_k».proof.Proof.Gen.KernelIdeal.Frame
public import Idealize.ShloMosaic.Lib.Pipeline.ValueKit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
open Cert.Walks (Edges Top Best Rows Any Pick)

variable {F : FTy → Type} [FloatOps F]

local notation "𝕄" => MT nD τ sig Unit (Elt F) ℕ (UR sig nD τ) ℕ

/-- The edges as the kernel holds them. -/
structure In (F : FTy → Type) where
  u : IVec S1x51200 32
  v : IVec S1x51200 32
  t : FVec F S1x51200 .f32

/-- `n` entries of a row from `o`. -/
def cut {A : Type} (n : Nat) (x : S1x51200.Idx → A) (o : Nat) : (Walks.Sh 1 n).Idx → A :=
  fun i => x (ix2 (0 : Fin 1) ⟨(o + (i 1).val) % 51200, Nat.mod_lt _ (by decide)⟩)

/-- `n` edges from `o`. -/
def In.cut (x : In F) (n o : Nat) : Edges F n := (KernelIdeal.cut n x.u o, KernelIdeal.cut n x.v o, KernelIdeal.cut n x.t o)

/-- The sixteen runs. -/
def In.runs (x : In F) : List (Edges F 3200) :=
  [x.cut 3200 3200, x.cut 3200 6400, x.cut 3200 9600, x.cut 3200 12800, x.cut 3200 16000, x.cut 3200 19200, x.cut 3200 22400, x.cut 3200 25600,
   x.cut 3200 28800, x.cut 3200 32000, x.cut 3200 35200, x.cut 3200 38400, x.cut 3200 41600, x.cut 3200 44800, x.cut 3200 48000]

theorem cut_eq {A : Type} (n : Nat) (x : S1x51200.Idx → A) (o : Fin 2 → Nat) (h : ∀ a, o a + (Walks.Sh 1 n).size a ≤ S1x51200.size a) :
    (fun i => x ((Rect.unit (s := S1x51200) o (Walks.Sh 1 n).size h).toLoadRect.idx i)) = cut n x (o 1) := by
  funext i
  refine congrArg x (funext fun a => Fin.ext ?_)
  have h0 : o 0 + 1 ≤ 1 := h 0
  have h1 : o 1 + n ≤ 51200 := h 1
  have i0 : (i 0).val < 1 := (i 0).isLt
  have i1 : (i 1).val < n := (i 1).isLt
  fin_cases a
  · show o 0 + 1 * (i 0).val = 0; omega
  · show o 1 + 1 * (i 1).val = (o 1 + (i 1).val) % 51200
    rw [Nat.mod_eq_of_lt (by omega)]; omega

theorem entails_of_eq {P Q : sProp 𝕄} (h : P = Q) : P ⊢ Q := h ▸ .rfl

/-- The three memrefs of the edges at their contents. -/
def held (c : Dev nD) (a1 : Memref sig .tc .vmem S1x51200 .i32) (a2 : Memref sig .tc .vmem S1x51200 .i32) (a3 : Memref sig .tc .vmem S1x51200 .f32) (x : In F) : sProp 𝕄 :=
  iprop(owns (c : Thread nD τ) a1 fullShare x.u ∗ owns (c : Thread nD τ) a2 fullShare x.v ∗ owns (c : Thread nD τ) a3 fullShare x.t)

section
variable (c : Dev nD) (E : Set ℕ)
variable (a1 : Memref sig .tc .vmem S1x51200 .i32) (a2 : Memref sig .tc .vmem S1x51200 .i32) (a3 : Memref sig .tc .vmem S1x51200 .f32) (x : In F)

/-- One read of a memref held at `X`. -/
theorem wp_read {s : Shape} {e : EltTy} (a : Memref sig .tc .vmem s e) (r : LoadRect s) (hl : a.view.LoadsAt r) (X : s.Idx → Elt F e)
    (Q : (r.shape.Idx → Elt F e) → sProp 𝕄) :
    owns (c : Thread nD τ) a fullShare X ⊢ iprop((owns (c : Thread nD τ) a fullShare X -∗ Q fun i => X (r.idx i))
      -∗ wp frame (wpE (defs₀ (F := F)) Variants.none c none) E (Prog.lift (.load a r hl)) Q) := by
  unfold owns
  iintro ⟨%f, %hf, H⟩ HQ
  subst hf
  iapply (wp_load (defs := defs₀ (F := F)) Variants.none (c : Thread nD τ) none E (View.setOn_subset_set _ _)) $$ H
  iintro H
  rw [wp_ret, show View.readAt (Elt F) a.view r f = fun i => View.read (Elt F) a.view f (r.idx i) from rfl]
  imodintro
  iapply HQ
  iexists f
  isplitr
  · ipureintro; rfl
  iexact H

/-- Reading a run of edges. -/
theorem wp_get (o : Nat) (h : ∀ a, (![0, o] : Fin 2 → Nat) a + S1x3200.size a ≤ S1x51200.size a) (Q : Edges F 3200 → sProp 𝕄) :
    held c a1 a2 a3 x ⊢ iprop((held c a1 a2 a3 x -∗ Q (x.cut 3200 o))
      -∗ wp frame (wpE (defs₀ (F := F)) Variants.none c none) E (get a1 a2 a3 o h) Q) := by
  unfold held get In.cut
  simp only [wp_bind, shapeCast_self]
  iintro ⟨H1, H2, H3⟩ HQ
  iapply (wp_read c E a1 _ _ x.u) $$ H1
  iintro H1
  iapply (wp_read c E a2 _ _ x.v) $$ H2
  iintro H2
  iapply (wp_read c E a3 _ _ x.t) $$ H3
  iintro H3
  simp only [Bind.bind, Pure.pure, Prog.bind, wp_ret]
  imodintro
  have e1 : _ = cut 3200 x.u o := cut_eq 3200 x.u ![0, o] h
  have e2 : _ = cut 3200 x.v o := cut_eq 3200 x.v ![0, o] h
  have e3 : _ = cut 3200 x.t o := cut_eq 3200 x.t ![0, o] h
  erw [e1, e2, e3]
  iapply HQ
  isplitl [H1]; · iexact H1
  isplitl [H2]; · iexact H2
  iexact H3

theorem wp_getD (o : Fin 2 → Nat) (h : ∀ a, o a + S1x1024.size a ≤ S1x51200.size a) (Q : Edges F 1024 → sProp 𝕄) :
    held c a1 a2 a3 x ⊢ iprop((held c a1 a2 a3 x -∗ Q (x.cut 1024 (o 1)))
      -∗ wp frame (wpE (defs₀ (F := F)) Variants.none c none) E (getD a1 a2 a3 o h) Q) := by
  unfold held getD In.cut
  simp only [wp_bind, shapeCast_self]
  iintro ⟨H1, H2, H3⟩ HQ
  iapply (wp_read c E a1 _ _ x.u) $$ H1
  iintro H1
  iapply (wp_read c E a2 _ _ x.v) $$ H2
  iintro H2
  iapply (wp_read c E a3 _ _ x.t) $$ H3
  iintro H3
  simp only [Bind.bind, Pure.pure, Prog.bind, wp_ret]
  imodintro
  have e1 := cut_eq 1024 x.u o h
  have e2 := cut_eq 1024 x.v o h
  have e3 := cut_eq 1024 x.t o h
  erw [e1, e2, e3]
  iapply HQ
  isplitl [H1]; · iexact H1
  isplitl [H2]; · iexact H2
  iexact H3

/-- Reading the first run's far ends. -/
theorem wp_firstEnds (Q : IVec S1x3200 32 → sProp 𝕄) :
    held c a1 a2 a3 x ⊢ iprop((held c a1 a2 a3 x -∗ Q (x.cut 3200 0).1)
      -∗ wp frame (wpE (defs₀ (F := F)) Variants.none c none) E (firstEnds a1) Q) := by
  unfold held firstEnds In.cut
  simp only [wp_bind, shapeCast_self]
  iintro ⟨H1, H2, H3⟩ HQ
  iapply (wp_read c E a1 _ _ x.u) $$ H1
  iintro H1
  simp only [Bind.bind, Pure.pure, Prog.bind, wp_ret]
  imodintro
  have e1 : _ = cut 3200 x.u 0 := cut_eq 3200 x.u ![0, 0] inb_S1x51200_S1x3200_0_0
  erw [e1]
  iapply HQ
  isplitl [H1]; · iexact H1
  isplitl [H2]; · iexact H2
  iexact H3

/-- Reading the sixteen runs. -/
theorem wp_runs (Q : Edges F 3200 × List (Edges F 3200) → sProp 𝕄) :
    held c a1 a2 a3 x ⊢ iprop((held c a1 a2 a3 x -∗ Q (x.cut 3200 0, x.runs))
      -∗ wp frame (wpE (defs₀ (F := F)) Variants.none c none) E (runs (x.cut 3200 0).1 a1 a2 a3) Q) := by
  unfold runs In.runs
  simp only [wp_bind, shapeCast_self]
  iintro H HQ
  unfold held
  icases H with ⟨H1, H2, H3⟩
  iapply (wp_read c E a2 _ _ x.v) $$ H2
  iintro H2
  iapply (wp_read c E a3 _ _ x.t) $$ H3
  iintro H3
  ihave H : (held c a1 a2 a3 x) $$ [H1 H2 H3]
  · unfold held
    isplitl [H1]; · iexact H1
    isplitl [H2]; · iexact H2
    iexact H3
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  iapply (wp_get c E a1 a2 a3 x _ _ _) $$ H
  iintro H
  simp only [Bind.bind, Pure.pure, Prog.bind, wp_ret]
  imodintro
  have e2 : _ = cut 3200 x.v 0 := cut_eq 3200 x.v ![0, 0] inb_S1x51200_S1x3200_0_0
  have e3 : _ = cut 3200 x.t 0 := cut_eq 3200 x.t ![0, 0] inb_S1x51200_S1x3200_0_0
  erw [e2, e3]
  rw [show ((x.cut 3200 0).1, cut 3200 x.v 0, cut 3200 x.t 0) = x.cut 3200 0 from rfl]
  iapply HQ
  unfold held
  iexact H

/-- Writing a column of a block held as a list of writes. -/
theorem wp_putI (arg : Memref sig .tc .vmem S1x8x3 .i32) (o : Nat) (h : ∀ a, (![0, 0, o] : Fin 3 → Nat) a + S1x8x1.size a ≤ S1x8x3.size a)
    (y : IVec S8x1 32) (f : Buf (Elt F) (arg.view.loc (c : Thread nD τ))) (L : List (View.Piece (Elt F) S1x8x3 .i32)) (Q : PUnit → sProp 𝕄) :
    (arg.view.loc (c : Thread nD τ) ↦[arg.view.set]{fullShare} arg.view.writes (Elt F) f L)
      ⊢ iprop(((arg.view.loc (c : Thread nD τ) ↦[arg.view.set]{fullShare} arg.view.writes (Elt F) f
          (⟨Rect.unit (s := S1x8x3) ![0, 0, o] S1x8x1.size h, shapeCast S1x8x1 y shapeCasts_S8x1_S1x8x1⟩ :: L)) -∗ Q ⟨⟩)
        -∗ wp frame (wpE (defs₀ (F := F)) Variants.none c none) E (putI arg o h y) Q) := by
  unfold putI
  simp only [wp_bind]
  iintro H HQ
  iapply (wp_load (defs := defs₀ (F := F)) Variants.none (c : Thread nD τ) none E (View.setOn_subset_set _ _)) $$ H
  iintro H
  rw [wp_ret]; imodintro
  iapply (wp_store_writes (defs := defs₀ (F := F)) Variants.none (c : Thread nD τ) none E (View.set_slice_subset _ _)) $$ H
  iintro H
  rw [wp_ret]; imodintro
  iapply HQ
  iexact H

theorem wp_putF (arg : Memref sig .tc .vmem S1x8x3 .f32) (o : Nat) (h : ∀ a, (![0, 0, o] : Fin 3 → Nat) a + S1x8x1.size a ≤ S1x8x3.size a)
    (y : FVec F S8x1 .f32) (f : Buf (Elt F) (arg.view.loc (c : Thread nD τ))) (L : List (View.Piece (Elt F) S1x8x3 .f32)) (Q : PUnit → sProp 𝕄) :
    (arg.view.loc (c : Thread nD τ) ↦[arg.view.set]{fullShare} arg.view.writes (Elt F) f L)
      ⊢ iprop(((arg.view.loc (c : Thread nD τ) ↦[arg.view.set]{fullShare} arg.view.writes (Elt F) f
          (⟨Rect.unit (s := S1x8x3) ![0, 0, o] S1x8x1.size h, shapeCast S1x8x1 y shapeCasts_S8x1_S1x8x1⟩ :: L)) -∗ Q ⟨⟩)
        -∗ wp frame (wpE (defs₀ (F := F)) Variants.none c none) E (putF arg o h y) Q) := by
  unfold putF
  simp only [wp_bind]
  iintro H HQ
  iapply (wp_load (defs := defs₀ (F := F)) Variants.none (c : Thread nD τ) none E (View.setOn_subset_set _ _)) $$ H
  iintro H
  rw [wp_ret]; imodintro
  iapply (wp_store_writes (defs := defs₀ (F := F)) Variants.none (c : Thread nD τ) none E (View.set_slice_subset _ _)) $$ H
  iintro H
  rw [wp_ret]; imodintro
  iapply HQ
  iexact H

/-- The draw's loop runs to the fold `Walks.draw`. -/
theorem wp_drawLoop (L : Scf.Loop 32) (hL : L.OK) (off : Fin L.trips → Fin 2 → Nat)
    (hoff : ∀ k a, off k a + S1x1024.size a ≤ S1x51200.size a) (hN : L.trips = 50) (ho : ∀ k, off k 1 = 1024 * k.val)
    (hiv : ∀ k : Fin L.trips, Scf.iv 0#32 1#32 k = BitVec.ofNat 32 k.val)
    (k0 k1 k2 : BitVec 32) (wk cn : IVec S8x1 32) (ct tm : FVec F S8x1 .f32) (Q : Best F → sProp 𝕄) :
    held c a1 a2 a3 x
      ⊢ iprop((held c a1 a2 a3 x -∗ Q (Walks.draw rowsD anyD k0 k1 k2 wk cn ct tm (fun k => x.cut 1024 (1024 * k)) 50))
        -∗ wp frame (wpE (defs₀ (F := F)) Variants.none c none) E (drawLoop L hL off hoff a1 a2 a3 k0 k1 k2 wk cn ct tm) Q) := by
  unfold drawLoop
  iintro H HQ
  iapply (Scf.wp_for frame (wpE (defs₀ (F := F)) Variants.none c none) E _ _ _ hL Walks.best0 _
    (fun k acc => iprop(⌜acc = Walks.draw rowsD anyD k0 k1 k2 wk cn ct tm (fun k => x.cut 1024 (1024 * k)) k⌝ ∗ held c a1 a2 a3 x)) ?_)
  · intro k acc
    iintro ⟨%e, H⟩
    subst e
    simp only [wp_bind]
    iapply (wp_getD c E a1 a2 a3 x (off k) (hoff k) _) $$ H
    iintro H
    rw [ho k, hiv k]
    rw [show Walks.draw rowsD anyD k0 k1 k2 wk cn ct tm (fun k => x.cut 1024 (1024 * k)) (k.val + 1)
      = Walks.trip rowsD anyD k0 k1 k2 wk cn ct tm (BitVec.ofNat 32 k.val) (x.cut 1024 (1024 * k.val))
        (Walks.draw rowsD anyD k0 k1 k2 wk cn ct tm (fun k => x.cut 1024 (1024 * k)) k.val) from rfl]
    unfold Walks.trip
    split
    · simp only [Pure.pure, wp_ret]
      imodintro
      isplitr
      · ipureintro; trivial
      iexact H
    · simp only [Pure.pure, wp_ret]
      imodintro
      isplitr
      · ipureintro; trivial
      iexact H
  · isplitl [H]
    · isplitr
      · ipureintro; rfl
      iexact H
    · iintro %acc ⟨%e, H⟩
      subst e
      rw [show Scf.trips L.lb L.ub L.st = 50 from hN]
      iapply HQ
      iexact H

/-- Where the walk goes next, handed on. -/
theorem wp_go {α : Type} (L : Scf.Loop 32) (hL : L.OK) (off : Fin L.trips → Fin 2 → Nat)
    (hoff : ∀ k a, off k a + S1x1024.size a ≤ S1x51200.size a) (hN : L.trips = 50) (ho : ∀ k, off k 1 = 1024 * k.val)
    (hiv : ∀ k : Fin L.trips, Scf.iv 0#32 1#32 k = BitVec.ofNat 32 k.val)
    (k0 k1 k2 : BitVec 32) (wk cn : IVec S8x1 32) (ct : FVec F S8x1 .f32) (y : Top F 8) (kk : IVec S8x1 32 × FVec F S8x1 .f32 → Pr F α) (Q : α → sProp 𝕄) :
    held c a1 a2 a3 x
      ⊢ iprop((held c a1 a2 a3 x -∗ wp frame (wpE (defs₀ (F := F)) Variants.none c none) E
          (kk (Walks.next rowsD anyD any1 k0 k1 k2 wk cn ct (fun k => x.cut 1024 (1024 * k)) y)) Q)
        -∗ wp frame (wpE (defs₀ (F := F)) Variants.none c none) E (go L hL off hoff a1 a2 a3 k0 k1 k2 wk cn ct y kk) Q) := by
  unfold go Walks.next
  split
  · simp only [wp_bind]
    iintro H HQ
    iapply (wp_drawLoop c E a1 a2 a3 x L hL off hoff hN ho hiv k0 k1 k2 wk cn ct (Walks.latest y) _) $$ H
    iintro H
    iapply HQ
    iexact H
  · iintro H HQ
    iapply HQ
    iexact H

end

/-! ## What the body leaves -/

section
variable (i : grid0.Coords) (x : In F) (x4 : IVec S1x8x1 32) (x5 : FVec F S1x8x1 .f32)

/-- The eight walks' numbers, -/
def nos : IVec S8x1 32 := Walks.walkNo pick (BitVec.ofNat 32 (i 0).val)
/-- where they stand, and since when. -/
def cnA : IVec S8x1 32 := shapeCast S8x1 x4 shapeCasts_S1x8x1_S8x1
def ctA : FVec F S8x1 .f32 := shapeCast S8x1 x5 shapeCasts_S1x8x1_S8x1
/-- The first step's scan, -/
def sA : Top F 8 := Walks.spreadTop pick (BitVec.ofNat 32 (i 0).val)
  (Walks.scan rows2 (Walks.bottom _) (broadcast _ 0#32) (Walks.ends pick (cnA x4)) (Walks.ends pick (ctA x5)) (x.cut 3200 0) x.runs)
/-- where it leads, -/
def dA : IVec S8x1 32 × FVec F S8x1 .f32 := Walks.next rowsD anyD any1 2877103387#32 1697627890#32 3582179379#32 (nos i) (cnA x4) (ctA x5)
  (fun k => x.cut 1024 (1024 * k)) (sA i x x4 x5)
/-- whether it leads anywhere, -/
def alA : IVec S8x1 1 := andi Walks.yes (Walks.found (sA i x x4 x5))
/-- and where the walks stand then. -/
def cnB : IVec S8x1 32 := select (alA i x x4 x5) (dA i x x4 x5).1 (cnA x4)
def ctB : FVec F S8x1 .f32 := select (alA i x x4 x5) (dA i x x4 x5).2 (ctA x5)
/-- The second step's scan, -/
def sB : Top F 8 := Walks.scan rows8 (Walks.bottom _) (broadcast _ 0#32) (cnB i x x4 x5) (ctB i x x4 x5) (x.cut 3200 0) x.runs
/-- where it leads, -/
def dB : IVec S8x1 32 × FVec F S8x1 .f32 := Walks.next rowsD anyD any1 2352926074#32 781486348#32 3111870380#32 (nos i) (cnB i x x4 x5) (ctB i x x4 x5)
  (fun k => x.cut 1024 (1024 * k)) (sB i x x4 x5)
/-- and whether it leads anywhere. -/
def alB : IVec S8x1 1 := andi (alA i x x4 x5) (Walks.found (sB i x x4 x5))

/-- A column of a result block. -/
def colI (o : Nat) (h : ∀ a, (![0, 0, o] : Fin 3 → Nat) a + S1x8x1.size a ≤ S1x8x3.size a) (y : IVec S8x1 32) : View.Piece (Elt F) S1x8x3 .i32 :=
  ⟨Rect.unit (s := S1x8x3) ![0, 0, o] S1x8x1.size h, shapeCast S1x8x1 y shapeCasts_S8x1_S1x8x1⟩
def colF (o : Nat) (h : ∀ a, (![0, 0, o] : Fin 3 → Nat) a + S1x8x1.size a ≤ S1x8x3.size a) (y : FVec F S8x1 .f32) : View.Piece (Elt F) S1x8x3 .f32 :=
  ⟨Rect.unit (s := S1x8x3) ![0, 0, o] S1x8x1.size h, shapeCast S1x8x1 y shapeCasts_S8x1_S1x8x1⟩

/-- The columns of the three result blocks. -/
def cols6 : List (View.Piece (Elt F) S1x8x3 .i32) :=
  [colI 2 inb_S1x8x3_S1x8x1_0_0_2 (select (alB i x x4 x5) (dB i x x4 x5).1 Walks.zeroI),
   colI 1 inb_S1x8x3_S1x8x1_0_0_1 (select (alA i x x4 x5) (dA i x x4 x5).1 Walks.zeroI), colI 0 inb_S1x8x3_S1x8x1_0_0_0 (cnA x4)]
def cols7 : List (View.Piece (Elt F) S1x8x3 .f32) :=
  [colF 2 inb_S1x8x3_S1x8x1_0_0_2 (select (alB i x x4 x5) (dB i x x4 x5).2 Walks.zeroF),
   colF 1 inb_S1x8x3_S1x8x1_0_0_1 (select (alA i x x4 x5) (dA i x x4 x5).2 Walks.zeroF), colF 0 inb_S1x8x3_S1x8x1_0_0_0 (ctA x5)]
def cols8 : List (View.Piece (Elt F) S1x8x3 .f32) :=
  [colF 2 inb_S1x8x3_S1x8x1_0_0_2 (sitofp .f32 (extui 32 (alB i x x4 x5) natLt_1_32)),
   colF 1 inb_S1x8x3_S1x8x1_0_0_1 (sitofp .f32 (extui 32 (alA i x x4 x5) natLt_1_32)),
   colF 0 inb_S1x8x3_S1x8x1_0_0_0 (broadcast S8x1 (Scalar.ofBits .f32 0x3F800000#32))]
end

section
variable (c : Dev nD) (E : Set ℕ)
variable (a1 : Memref sig .tc .vmem S1x51200 .i32) (a2 : Memref sig .tc .vmem S1x51200 .i32) (a3 : Memref sig .tc .vmem S1x51200 .f32)
variable (a4 : Memref sig .tc .vmem S1x8x1 .i32) (a5 : Memref sig .tc .vmem S1x8x1 .f32)
variable (a6 : Memref sig .tc .vmem S1x8x3 .i32) (a7 : Memref sig .tc .vmem S1x8x3 .f32) (a8 : Memref sig .tc .vmem S1x8x3 .f32)
variable (i : grid0.Coords) (x : In F) (x4 : IVec S1x8x1 32) (x5 : FVec F S1x8x1 .f32)

theorem whole_idx : (fun j => x4 ((Rect.unit (s := S1x8x1) ![0, 0, 0] S1x8x1.size inb_S1x8x1_S1x8x1_0_0_0).toLoadRect.idx j)) = x4 := by
  funext j
  refine congrArg x4 (funext fun a => Fin.ext ?_)
  fin_cases a
  · show 0 + 1 * (j 0).val = (j 0).val; omega
  · show 0 + 1 * (j 1).val = (j 1).val; omega
  · show 0 + 1 * (j 2).val = (j 2).val; omega

theorem whole_idxF : (fun j => x5 ((Rect.unit (s := S1x8x1) ![0, 0, 0] S1x8x1.size inb_S1x8x1_S1x8x1_0_0_0).toLoadRect.idx j)) = x5 := by
  funext j
  refine congrArg x5 (funext fun a => Fin.ext ?_)
  fin_cases a
  · show 0 + 1 * (j 0).val = (j 0).val; omega
  · show 0 + 1 * (j 1).val = (j 1).val; omega
  · show 0 + 1 * (j 2).val = (j 2).val; omega

theorem trips1 : k0_t1_loop.trips = 50 := by decide +kernel
theorem trips2 : k0_t2_loop.trips = 50 := by decide +kernel
theorem off1 (k : Fin k0_t1_loop.trips) : k0_off1 k 1 = 1024 * k.val := congrFun (Gen.k0_off1_eq k) 1
theorem off2 (k : Fin k0_t2_loop.trips) : k0_off2 k 1 = 1024 * k.val := congrFun (Gen.k0_off2_eq k) 1
theorem iv1 : ∀ k : Fin k0_t1_loop.trips, Scf.iv 0#32 1#32 k = BitVec.ofNat 32 k.val := by decide +kernel
theorem iv2 : ∀ k : Fin k0_t2_loop.trips, Scf.iv 0#32 1#32 k = BitVec.ofNat 32 k.val := by decide +kernel

/-- The body's run. -/
theorem wp_body (f6 : Buf (Elt F) (a6.view.loc (c : Thread nD τ))) (f7 : Buf (Elt F) (a7.view.loc (c : Thread nD τ)))
    (f8 : Buf (Elt F) (a8.view.loc (c : Thread nD τ))) (Q : PUnit → sProp 𝕄) :
    iprop(held c a1 a2 a3 x ∗ owns (c : Thread nD τ) a4 fullShare x4 ∗ owns (c : Thread nD τ) a5 fullShare x5
      ∗ (a6.view.loc (c : Thread nD τ) ↦[a6.view.set]{fullShare} a6.view.writes (Elt F) f6 [])
      ∗ (a7.view.loc (c : Thread nD τ) ↦[a7.view.set]{fullShare} a7.view.writes (Elt F) f7 [])
      ∗ (a8.view.loc (c : Thread nD τ) ↦[a8.view.set]{fullShare} a8.view.writes (Elt F) f8 []))
      ⊢ iprop((held c a1 a2 a3 x -∗ owns (c : Thread nD τ) a4 fullShare x4 -∗ owns (c : Thread nD τ) a5 fullShare x5
          -∗ (a6.view.loc (c : Thread nD τ) ↦[a6.view.set]{fullShare} a6.view.writes (Elt F) f6 (cols6 i x x4 x5))
          -∗ (a7.view.loc (c : Thread nD τ) ↦[a7.view.set]{fullShare} a7.view.writes (Elt F) f7 (cols7 i x x4 x5))
          -∗ (a8.view.loc (c : Thread nD τ) ↦[a8.view.set]{fullShare} a8.view.writes (Elt F) f8 (cols8 i x x4 x5)) -∗ Q ⟨⟩)
        -∗ wp frame (wpE (defs₀ (F := F)) Variants.none c none) E (body i a1 a2 a3 a4 a5 a6 a7 a8) Q) := by
  unfold body bodyA
  simp only [wp_bind]
  iintro ⟨H, H4, H5, H6, H7, H8⟩ HQ
  iapply (wp_read c E a4 _ _ x4 _) $$ H4
  iintro H4
  rw [whole_idx]
  iapply (wp_read c E a5 _ _ x5 _) $$ H5
  iintro H5
  rw [whole_idxF]
  iapply (wp_putI c E a6 _ _ _ f6 _ _) $$ H6
  iintro H6
  iapply (wp_putF c E a7 _ _ _ f7 _ _) $$ H7
  iintro H7
  iapply (wp_putF c E a8 _ _ _ f8 _ _) $$ H8
  iintro H8
  iapply (wp_firstEnds c E a1 a2 a3 x _) $$ H
  iintro H
  iapply (wp_runs c E a1 a2 a3 x _) $$ H
  iintro H
  iapply (wp_go c E a1 a2 a3 x k0_t1_loop k0_t1_ok k0_off1 k0_off1_inb trips1 off1 iv1 _ _ _ _ _ _ _ _ _) $$ H
  iintro H
  simp only [wp_bind]
  iapply (wp_putI c E a6 _ _ _ f6 _ _) $$ H6
  iintro H6
  iapply (wp_putF c E a7 _ _ _ f7 _ _) $$ H7
  iintro H7
  iapply (wp_putF c E a8 _ _ _ f8 _ _) $$ H8
  iintro H8
  iapply (wp_firstEnds c E a1 a2 a3 x _) $$ H
  iintro H
  simp only [Pure.pure, wp_ret]
  imodintro
  iapply (wp_runs c E a1 a2 a3 x _) $$ H
  iintro H
  iapply (wp_go c E a1 a2 a3 x k0_t2_loop k0_t2_ok k0_off2 k0_off2_inb trips2 off2 iv2 _ _ _ _ _ _ _ _ _) $$ H
  iintro H
  simp only [wp_bind]
  iapply (wp_putI c E a6 _ _ _ f6 _ _) $$ H6
  iintro H6
  simp only [Pure.pure, wp_ret]
  imodintro
  iapply (wp_putF c E a7 _ _ _ f7 _ _) $$ H7
  iintro H7
  iapply (wp_putF c E a8 _ _ _ f8 _ _) $$ H8
  iintro H8
  ihave G6 : (a6.view.loc (c : Thread nD τ) ↦[a6.view.set]{fullShare} a6.view.writes (Elt F) f6 (cols6 i x x4 x5)) $$ [H6]
  · iapply (entails_of_eq ?_) $$ H6; sl_kernel_rfl
  ihave G7 : (a7.view.loc (c : Thread nD τ) ↦[a7.view.set]{fullShare} a7.view.writes (Elt F) f7 (cols7 i x x4 x5)) $$ [H7]
  · iapply (entails_of_eq ?_) $$ H7; sl_kernel_rfl
  ihave G8 : (a8.view.loc (c : Thread nD τ) ↦[a8.view.set]{fullShare} a8.view.writes (Elt F) f8 (cols8 i x x4 x5)) $$ [H8]
  · iapply (entails_of_eq ?_) $$ H8; sl_kernel_rfl
  ispecialize HQ $$ H
  ispecialize HQ $$ H4
  ispecialize HQ $$ H5
  ispecialize HQ $$ G6
  ispecialize HQ $$ G7
  ispecialize HQ $$ G8
  iexact HQ

end
end Cert.KernelIdeal
-- ==== Proof.IdealWalkFrame.lean ====
/- The walks kernel's frame: every weakly fair run ends, with the argument arrays as they were and the results as `Run` says. -/
module

public import proofs.«01_k».proof.Proof.IdealRun

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

/-- The edges a point holds, its walks' nodes and its walks' times. -/
def inAt (c : Dev nD) (t : Fin cfg0.N) : In F := ⟨iblk m c 0 t, iblk m c 1 t, iblk m c 2 t⟩
def cnAt (c : Dev nD) (t : Fin cfg0.N) : IVec S1x8x1 32 := iblk m c 3 t
def ctAt (c : Dev nD) (t : Fin cfg0.N) : FVec F S1x8x1 .f32 := iblk m c 4 t
/-- The three result blocks of a point. -/
def out6 (c : Dev nD) (t : Fin cfg0.N) : Vec F S1x8x3 .i32 := View.canon (cols6 (grid0.coords t) (inAt m c t) (cnAt m c t) (ctAt m c t))
def out7 (c : Dev nD) (t : Fin cfg0.N) : Vec F S1x8x3 .f32 := View.canon (cols7 (grid0.coords t) (inAt m c t) (cnAt m c t) (ctAt m c t))
def out8 (c : Dev nD) (t : Fin cfg0.N) : Vec F S1x8x3 .f32 := View.canon (cols8 (grid0.coords t) (inAt m c t) (cnAt m c t) (ctAt m c t))

/-- What each block's buffer holds after each point. -/
def walkDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out6 m c t
    | ⟨6, _⟩ => out7 m c t
    | ⟨7, _⟩ => out8 m c t
  Φ _ := Pipeline.ΦA spec0 c
  q _ := fullShare
  owed _ := 0

theorem dats_A (c : Dev nD) (w : Fin cfg0.W) : (walkDats m 0 c).A w = V m c (Pipeline.arrRef spec0 w) := by dsimp only [walkDats]
theorem dats_after0 (c : Dev nD) (t : Fin cfg0.N) : (walkDats m 0 c).after 0 t = iblk m c 0 t := by dsimp only [walkDats]
theorem dats_after1 (c : Dev nD) (t : Fin cfg0.N) : (walkDats m 0 c).after 1 t = iblk m c 1 t := by dsimp only [walkDats]
theorem dats_after2 (c : Dev nD) (t : Fin cfg0.N) : (walkDats m 0 c).after 2 t = iblk m c 2 t := by dsimp only [walkDats]
theorem dats_after3 (c : Dev nD) (t : Fin cfg0.N) : (walkDats m 0 c).after 3 t = iblk m c 3 t := by dsimp only [walkDats]
theorem dats_after4 (c : Dev nD) (t : Fin cfg0.N) : (walkDats m 0 c).after 4 t = iblk m c 4 t := by dsimp only [walkDats]
theorem dats_after5 (c : Dev nD) (t : Fin cfg0.N) : (walkDats m 0 c).after 5 t = out6 m c t := by dsimp only [walkDats]
theorem dats_after6 (c : Dev nD) (t : Fin cfg0.N) : (walkDats m 0 c).after 6 t = out7 m c t := by dsimp only [walkDats]
theorem dats_after7 (c : Dev nD) (t : Fin cfg0.N) : (walkDats m 0 c).after 7 t = out8 m c t := by dsimp only [walkDats]
theorem dats_before0 (c : Dev nD) (t : Fin cfg0.N) (d) : (walkDats m 0 c).before 0 t d = iblk m c 0 t :=
  before0_0_of m (walkDats m 0 c) (dats_A m c 0) (dats_after0 m c) t d
theorem dats_before1 (c : Dev nD) (t : Fin cfg0.N) (d) : (walkDats m 0 c).before 1 t d = iblk m c 1 t :=
  before0_1_of m (walkDats m 0 c) (dats_A m c 1) (dats_after1 m c) t d
theorem dats_before2 (c : Dev nD) (t : Fin cfg0.N) (d) : (walkDats m 0 c).before 2 t d = iblk m c 2 t :=
  before0_2_of m (walkDats m 0 c) (dats_A m c 2) (dats_after2 m c) t d
theorem dats_before3 (c : Dev nD) (t : Fin cfg0.N) (d) : (walkDats m 0 c).before 3 t d = iblk m c 3 t :=
  before0_3_of m (walkDats m 0 c) (dats_A m c 3) (dats_after3 m c) t d
theorem dats_before4 (c : Dev nD) (t : Fin cfg0.N) (d) : (walkDats m 0 c).before 4 t d = iblk m c 4 t :=
  before0_4_of m (walkDats m 0 c) (dats_A m c 4) (dats_after4 m c) t d

/-- What the body starts from, -/
def startAt (c : Dev nD) (t : Fin cfg0.N) : sProp 𝕄 :=
  iprop((walkDats m 0 c).Φ t.castSucc ∗ (walkDats m 0 c).owesAt () t.castSucc
    ∗ (∃ d, owns (c : Thread nD τ) (st0_0 t) fullShare ((walkDats m 0 c).before 0 t d))
    ∗ (∃ d, owns (c : Thread nD τ) (st0_1 t) fullShare ((walkDats m 0 c).before 1 t d))
    ∗ (∃ d, owns (c : Thread nD τ) (st0_2 t) fullShare ((walkDats m 0 c).before 2 t d))
    ∗ (∃ d, owns (c : Thread nD τ) (st0_3 t) fullShare ((walkDats m 0 c).before 3 t d))
    ∗ (∃ d, owns (c : Thread nD τ) (st0_4 t) fullShare ((walkDats m 0 c).before 4 t d))
    ∗ (∃ d, owns (c : Thread nD τ) (st0_5 t) fullShare ((walkDats m 0 c).before 5 t d))
    ∗ (∃ d, owns (c : Thread nD τ) (st0_6 t) fullShare ((walkDats m 0 c).before 6 t d))
    ∗ (∃ d, owns (c : Thread nD τ) (st0_7 t) fullShare ((walkDats m 0 c).before 7 t d)))

/-- and what it hands on. -/
def endAt (c : Dev nD) (t : Fin cfg0.N) : sProp 𝕄 :=
  iprop((walkDats m 0 c).Φ t.succ ∗ (walkDats m 0 c).owesAt () t.succ
    ∗ owns (c : Thread nD τ) (st0_0 t) fullShare ((walkDats m 0 c).after 0 t)
    ∗ owns (c : Thread nD τ) (st0_1 t) fullShare ((walkDats m 0 c).after 1 t)
    ∗ owns (c : Thread nD τ) (st0_2 t) fullShare ((walkDats m 0 c).after 2 t)
    ∗ owns (c : Thread nD τ) (st0_3 t) fullShare ((walkDats m 0 c).after 3 t)
    ∗ owns (c : Thread nD τ) (st0_4 t) fullShare ((walkDats m 0 c).after 4 t)
    ∗ owns (c : Thread nD τ) (st0_5 t) fullShare ((walkDats m 0 c).after 5 t)
    ∗ owns (c : Thread nD τ) (st0_6 t) fullShare ((walkDats m 0 c).after 6 t)
    ∗ owns (c : Thread nD τ) (st0_7 t) fullShare ((walkDats m 0 c).after 7 t))

theorem cover_of_cols {e : EltTy} (y2 y1 y0 : S1x8x1.Idx → Elt F e) (z : (⟨3, ![1, 8, 3]⟩ : Shape).Idx) :
    ∃ p ∈ ([⟨Rect.unit (s := S1x8x3) ![0, 0, 2] S1x8x1.size Gen.inb_S1x8x3_S1x8x1_0_0_2, y2⟩, ⟨Rect.unit (s := S1x8x3) ![0, 0, 1] S1x8x1.size Gen.inb_S1x8x3_S1x8x1_0_0_1, y1⟩,
      ⟨Rect.unit (s := S1x8x3) ![0, 0, 0] S1x8x1.size Gen.inb_S1x8x3_S1x8x1_0_0_0, y0⟩] : List (View.Piece (Elt F) S1x8x3 e)), z ∈ p.1.set :=
  View.cover_of_tiledL (s := S1x8x3) _ S1x8x1.size (by sl_kernel_rfl) z

theorem some_writes (c : Dev nD) {sh : Shape} {e : EltTy} (a : Memref sig .tc .vmem sh e) (X : sh.Idx → Elt F e) :
    (owns (c : Thread nD τ) a fullShare X : sProp 𝕄)
      ⊢ iprop(∃ f : Buf (Elt F) (a.view.loc (c : Thread nD τ)), a.view.loc (c : Thread nD τ) ↦[a.view.set]{fullShare} a.view.writes (Elt F) f []) := by
  unfold owns
  iintro ⟨%f, -, H⟩
  iexists f
  iexact H

/-- The body at any point. -/
theorem body_at (c : Dev nD) (t : Fin cfg0.N) :
    startAt m c t ⊢ wp frame (wpE (defs₀ (F := F)) Variants.none c none) Set.univ (bodyAt0 t) (fun _ => endAt m c t) := by
  unfold startAt endAt bodyAt0
  rw [body_eq]
  simp only [dats_before0, dats_before1, dats_before2, dats_before3, dats_before4]
  rw [show (walkDats m 0 c).Φ t.succ = (walkDats m 0 c).Φ t.castSucc from rfl,
    show (walkDats m 0 c).owesAt () t.succ = (walkDats m 0 c).owesAt () t.castSucc from rfl,
    dats_after0, dats_after1, dats_after2, dats_after3, dats_after4, dats_after5, dats_after6, dats_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave G5 : (∃ f : Buf (Elt F) ((st0_5 t).view.loc (c : Thread nD τ)), (st0_5 t).view.loc (c : Thread nD τ) ↦[(st0_5 t).view.set]{fullShare} (st0_5 t).view.writes (Elt F) f []) $$ [H5]
  · iapply (some_writes c (st0_5 t) _) $$ H5
  icases G5 with ⟨%f5, H5⟩
  ihave G6 : (∃ f : Buf (Elt F) ((st0_6 t).view.loc (c : Thread nD τ)), (st0_6 t).view.loc (c : Thread nD τ) ↦[(st0_6 t).view.set]{fullShare} (st0_6 t).view.writes (Elt F) f []) $$ [H6]
  · iapply (some_writes c (st0_6 t) _) $$ H6
  icases G6 with ⟨%f6, H6⟩
  ihave G7 : (∃ f : Buf (Elt F) ((st0_7 t).view.loc (c : Thread nD τ)), (st0_7 t).view.loc (c : Thread nD τ) ↦[(st0_7 t).view.set]{fullShare} (st0_7 t).view.writes (Elt F) f []) $$ [H7]
  · iapply (some_writes c (st0_7 t) _) $$ H7
  icases G7 with ⟨%f7, H7⟩
  ihave H : (held c (st0_0 t) (st0_1 t) (st0_2 t) (inAt m c t)) $$ [H0 H1 H2]
  · unfold held inAt
    isplitl [H0]; · iexact H0
    isplitl [H1]; · iexact H1
    iexact H2
  iapply (wp_body c Set.univ (st0_0 t) (st0_1 t) (st0_2 t) (st0_3 t) (st0_4 t) (st0_5 t) (st0_6 t) (st0_7 t) (grid0.coords t)
    (inAt m c t) (cnAt m c t) (ctAt m c t) f5 f6 f7 _) $$ [H H3 H4 H5 H6 H7]
  · isplitl [H]; · iexact H
    isplitl [H3]; · iexact H3
    isplitl [H4]; · iexact H4
    isplitl [H5]; · iexact H5
    isplitl [H6]; · iexact H6
    iexact H7
  unfold held inAt
  iintro ⟨H0, H1, H2⟩ H3 H4 H5 H6 H7
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover_of_cols _ _ _)
  isplitl [H6]
  · unfold owns; iexists _; isplitr
    swap; · iexact H6
    ipureintro; exact View.read_writes_eq_canon _ _ _ (cover_of_cols _ _ _)
  unfold owns; iexists _; isplitr
  swap; · iexact H7
  ipureintro; exact View.read_writes_eq_canon _ _ _ (cover_of_cols _ _ _)

theorem body_row (t : Fin cfg0.N) : defs₀ (F := F) .tc cfg0.body (cfg0.bodyArgs t (cfg0.slots t)) = bodyAt0 t := by
  unfold defs₀; rw [Defs.onTc_tc]

theorem body_meets (c : Dev nD) : BodyObligation (walkDats (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- Every weakly fair run ends with the arrays as the proof data say and every counter at zero. -/
theorem walk_run : θ_run defs (onTc (τ := τ) (main (F := F))) (s₀ m ρ)
    (fun r => (Pipeline.FramePost cfgs (walkDats m) 0 (V m)) r ∧ r.2.sem = fun _ => 0) :=
  Pipeline.θ_run_frame (Q' := _) cfgs (walkDats m) (0 : Fin 1) launch0 defs₀ Variants.none m ρ main
    (hbody := fun c => (body_meets m c).loose) (hshare := fun c => (walkDats m 0 c).share_full fun _ => rfl)
    (howed := fun _ _ => rfl) (V := V m) (hmain := hmain m Variants.none) (hA := dats_A m) (hΦ := fun _ _ => rfl)

theorem walk_run' : θ_run defs (onTc (τ := τ) (main (F := F))) (s₀ m ρ) (Pipeline.FramePost cfgs (walkDats m) 0 (V m)) :=
  (θ_run defs _ _).mono (fun _ h => h.1) (walk_run m ρ)

/-- The frame. -/
theorem walk_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (walkDats m) (dats_A m) (walk_run' m ρ)) ((θ_run defs _ _).mono (fun _ h => h.2) (walk_run m ρ))

end Cert.KernelIdeal
-- ==== Proof.Restart.lean ====
/- The restart head: the words of the source list name rows of the memory table, which is what its body assumes of them. -/
module

public import proofs.«01_k».proof.Defs
public import proofs.«01_k».proof.Proof.Gen.Kernel2.Frame
public import proofs.«01_k».proof.Proof.Gen.Kernel2Ideal.Frame
public import proofs.«01_k».proof.Proof.Gen.Pre_in_table
public import Idealize.ShloMosaic.Lib.ReduceAll

@[expose] public section

namespace Cert.RestartProof

open Idealize.ShloMosaic Idealize.ShloMosaic.TcCoe

/-- Every word the precondition admits lies in [0, 10000). -/
theorem word_bound {F : FTy → Type} [FloatOps F] {x0 : IVec Pre_in_table.S32 32} {x1 x2 x3 x4 x5 x6}
    (h : Pre_in_table.fn (F := F) x0 x1 x2 x3 x4 x5 x6 = fun _ => 1#1) (i : Pre_in_table.S32.Idx) : (x0 i).toNat < 10000 := by
  have e := congrFun h (fun a => a.elim0)
  simp only [Pre_in_table.fn] at e
  have e := Host.reduce_andi_all _ _ _ _ _ e i
  simp only [andi, cmpi, broadcastInDim, constantI] at e
  obtain ⟨h1, h2⟩ := IntOp.andi_eq_one.1 e
  have h1 := IntOp.cmpi_sge.1 h1
  have h2 := IntOp.cmpi_slt.1 h2
  simp only [BitVec.toInt, BitVec.toNat_ofNat] at h1 h2
  omega

namespace K
open Cert.Kernel2 Cert.Kernel2.Gen

/-- A word below 10000 names a row. -/
theorem chk_of_lt (v : BitVec 32) (hv : v.toNat < 10000) : k0_chk1 v := by
  intro a
  fin_cases a
  · show v.toNat + 1 ≤ 10000
    omega
  · show 0 + 128 ≤ 128
    omega

/-- The words the body reads off the source list name rows of the table. -/
theorem hyps_of_pre (m : (ℓ : Loc nD τ sig) → Buf (Elt Bits) ℓ) (h : Cert.Pre_Kernel2 m) : Hyps m := by
  intro c t kq hkq
  have hV : ∀ y : S32.Idx, BitVec.toNat (V m c main_arg0 y) < 10000 := fun y => by
    rw [V_main_arg0]; exact word_bound (h c) y
  have rd : ∀ i, BitVec.toNat (iblk m c 0 t i) < 10000 := fun i => by
    unfold iblk; rw [View.read_apply, cast_eq]; exact hV _
  refine chk_of_lt _ ?_
  rw [View.readAt_apply, (hs0_0 t).read_unread]
  exact rd _

end K

namespace KI
open Cert.Kernel2Ideal Cert.Kernel2Ideal.Gen

/-- A word below 10000 names a row. -/
theorem chk_of_lt (v : BitVec 32) (hv : v.toNat < 10000) : k0_chk1 v := by
  intro a
  fin_cases a
  · show v.toNat + 1 ≤ 10000
    omega
  · show 0 + 128 ≤ 128
    omega

/-- The words the body reads off the source list name rows of the table. -/
theorem hyps_of_pre (m : (ℓ : Loc nD τ sig) → Buf (Elt Ideal) ℓ) (h : Cert.Pre_Kernel2Ideal m) : Hyps m := by
  intro c t kq hkq
  have hV : ∀ y : S32.Idx, BitVec.toNat (V m c main_arg0 y) < 10000 := fun y => by
    rw [V_main_arg0]; exact word_bound (h c) y
  have rd : ∀ i, BitVec.toNat (iblk m c 0 t i) < 10000 := fun i => by
    unfold iblk; rw [View.read_apply, cast_eq]; exact hV _
  refine chk_of_lt _ ?_
  rw [View.readAt_apply, (hs0_0 t).read_unread]
  exact rd _

end KI

end Cert.RestartProof
-- ==== Proof.RestartValue.lean ====
/- The restart head's value: the row gather, the projection and the logistic, beside the reference's. -/
module

public import proofs.«01_k».proof.Proof.Restart
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Routing.Ops

@[expose] public section

set_option maxRecDepth 16384

noncomputable section

namespace Cert.RestartProof.KI

open Cert.Kernel2Ideal Cert.Kernel2Ideal.Gen
open Idealize.ShloMosaic Idealize.ShloMosaic.TcCoe

variable (c : Dev nD) (arg0 : Memref sig .tc .smem S32 .i32) (harg0 : arg0.IsWhole) (arg1 : Memref sig .tc .vmem S32x1 .f32) (harg1 : arg1.IsWhole) (arg2 : Memref sig .tc .vmem S10000x128 .f32) (harg2 : arg2.IsWhole) (arg3 : Memref sig .tc .vmem S1x192 .f32) (harg3 : arg3.IsWhole) (arg4 : Memref sig .tc .vmem S1x1 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S32x1 .f32) (harg7 : arg7.IsWhole) (arg8 : Memref sig .tc .vmem S32x128 .f32) (harg8 : arg8.IsWhole)
    (x0 : Vec Ideal S32 .i32) (x1 : Vec Ideal S32x1 .f32) (x2 : Vec Ideal S10000x128 .f32) (x3 : Vec Ideal S1x192 .f32) (x4 : Vec Ideal S1x1 .f32) (x5 : Vec Ideal S1x64 .f32) (x6 : Vec Ideal S1x64 .f32)
    (hb : ∀ i, BitVec.toNat (x0 i) < 10000)

/-- The gathered rows: row `r` is the row of the table that source `r` names. -/
def gathered (x0 : Vec Ideal S32 .i32) (x2 : Vec Ideal S10000x128 .f32) (hb : ∀ i, BitVec.toNat (x0 i) < 10000) : S32x128.Idx → Elt Ideal .f32 := fun i =>
  x2 (ix2 ⟨BitVec.toNat (x0 (ix1 (i 0))), hb _⟩ (i 1))

/-- One trip stores the row its word names. -/
theorem trip_pieces (𝒱 : Variants) (bd : Option 𝒱.V) (k : Fin k0_t1_loop.trips) (hw) :
    ∀ p ∈ (trip_k0_t1 (F := Ideal) 𝒱 c bd arg0 harg0 arg1 harg1 arg2 harg2 arg3 harg3 arg4 harg4 arg5 harg5 arg6 harg6 arg7 harg7 arg8 harg8 (harg0.unread x0) (harg2.unread x2) k hw).1,
      ∀ x, p.2 x = gathered x0 x2 hb (p.1.emb x) := by
  have hk : k.val < 32 := Nat.lt_of_lt_of_le k.isLt k0_t1_abs.2.1
  unfold trip_k0_t1
  intro p hp x
  obtain rfl := List.mem_singleton.1 hp
  dsimp only
  unfold k0_pay1
  rw [shapeCast_self, View.readAt_apply, harg2.read_unread]
  have hoff : k0_off3 k = ![k.val, 0] := k0_off3_eq k
  have hword : trip_k0_t1.sl.r arg0 (harg0.unread x0) k = x0 (ix1 ⟨k.val, hk⟩) := by
    unfold trip_k0_t1.sl.r
    rw [View.readAt_apply, harg0.read_unread]
    refine congrArg x0 (funext fun a => Fin.ext ?_)
    fin_cases a
    show k0_off1 k 0 + 1 * 0 = k.val
    rw [k0_off1_eq k]
    show k.val + 1 * 0 = k.val
    omega
  unfold gathered
  refine congrArg x2 (funext fun a => Fin.ext ?_)
  have hx0 : (x 0).val = 0 := by have := (x 0).isLt; change _ < 1 at this; omega
  fin_cases a
  · show BitVec.toNat (trip_k0_t1.sl.r arg0 (harg0.unread x0) k) + 1 * (x 0).val = BitVec.toNat (x0 (ix1 ⟨k0_off3 k 0 + 1 * (x 0).val, _⟩))
    have e1 := congrArg BitVec.toNat hword
    have e2 : ∀ (n : ℕ) (h : n < 32), n = k.val → BitVec.toNat (x0 (ix1 ⟨n, h⟩)) = BitVec.toNat (x0 (ix1 ⟨k.val, hk⟩)) := by
      intro n h hn; subst hn; rfl
    refine Eq.trans ?_ (e2 _ _ ?_).symm
    · omega
    · have h3 : k0_off3 k 0 = k.val := congrFun hoff 0
      omega
  · show 0 + 1 * (x 1).val = k0_off3 k 1 + 1 * (x 1).val
    have h3 : k0_off3 k 1 = 0 := congrFun hoff 1
    omega

theorem pb_pieces (𝒱 : Variants) (bd : Option 𝒱.V) (hw) : ∀ n : ℕ,
    ∀ p ∈ pb_k0_t1 (F := Ideal) 𝒱 c bd arg0 harg0 arg1 harg1 arg2 harg2 arg3 harg3 arg4 harg4 arg5 harg5 arg6 harg6 arg7 harg7 arg8 harg8 (harg0.unread x0) (harg2.unread x2) hw n,
      ∀ x, p.2 x = gathered x0 x2 hb (p.1.emb x)
  | 0 => fun p hp => absurd hp (by simp [pb_k0_t1])
  | n + 1 => by
    intro p hp
    rw [pb_k0_t1.eq_2] at hp
    unfold pb_k0_t1Step at hp
    split at hp
    · rcases List.mem_append.1 hp with hp | hp
      · exact trip_pieces c arg0 harg0 arg1 harg1 arg2 harg2 arg3 harg3 arg4 harg4 arg5 harg5 arg6 harg6 arg7 harg7 arg8 harg8 x0 x2 hb 𝒱 bd _ _ p hp
      · exact pb_pieces 𝒱 bd hw n p hp
    · exact pb_pieces 𝒱 bd hw n p hp

/-- What the one grid point leaves of the output, entry by entry. -/
theorem out_apply (h0) (i0 : Fin 32) :
    out0_A_7 (F := Ideal) c arg0 harg0 arg1 harg1 arg2 harg2 arg3 harg3 arg4 harg4 arg5 harg5 arg6 harg6 arg7 harg7 arg8 harg8 x0 x1 x2 x3 x4 x5 x6 h0 (ix2 i0 0)
      = Ideal.logistic (∑ k : Fin 128, gathered x0 x2 hb (ix2 i0 k) * x3 (ix2 0 ⟨k.val, by omega⟩)
          + ∑ k : Fin 64, Ideal.cos (x1 (ix2 i0 0) * x5 (ix2 0 k) + x6 (ix2 0 k)) * x3 (ix2 0 ⟨128 + k.val, by omega⟩) + x4 (ix2 0 0)) := by
  unfold out0_A_7 kernelRun0_A
  dsimp only
  rw [View.read_writes_junk_eq_canon, View.canon_unit_zero (by funext a; fin_cases a <;> rfl)]
  have hg : arg8.view.readCov
                (pb_k0_t1 Variants.none c none arg0 harg0 arg1 harg1 arg2 harg2 arg3 harg3 arg4 harg4 arg5 harg5 arg6
                  harg6 arg7 harg7 arg8 harg8 (harg0.unread x0) (harg2.unread x2) h0
                  (Scf.trips (0#32) (Scalar.addi 0#32 32#32) 1#32))
                (Rect.unit ![0, 0] ![32, 128] inb_S32x128_S32x128_0_0).toLoadRect = gathered x0 x2 hb := by
    rw [View.readCov_eq_canon']
    funext j
    rw [View.canon_apply_of_pieces (gathered x0 x2 hb) _ (pb_pieces c arg0 harg0 arg1 harg1 arg2 harg2 arg3 harg3 arg4 harg4 arg5 harg5 arg6 harg6 arg7 harg7 arg8 harg8 x0 x2 hb _ _ h0 _) _ ?_]
    · refine congrArg _ (funext fun a => Fin.ext ?_)
      fin_cases a
      · show 0 + 1 * (j 0).val = (j 0).val; omega
      · show 0 + 1 * (j 1).val = (j 1).val; omega
    · exact View.cover_of_tiledL (pb_k0_t1 Variants.none c none arg0 harg0 arg1 harg1 arg2 harg2 arg3 harg3 arg4 harg4 arg5 harg5 arg6
                  harg6 arg7 harg7 arg8 harg8 (harg0.unread x0) (harg2.unread x2) h0
                  (Scf.trips (0#32) (Scalar.addi 0#32 32#32) 1#32)) S1x128.size (by sl_kernel_rfl) _
  rw [hg]
  unfold k0_pay2
  pointwise
  simp only [View.readAt_apply, Memref.IsWhole.read_unread]
  have r1 : ∀ k : Fin 128, (Rect.unit (s := S1x192) ![0, 0] ![1, 128] inb_S1x192_S1x128_0_0).idx (ix2 0 k) = ix2 0 ⟨k.val, by omega⟩ := fun k =>
    funext fun a => Fin.ext (by fin_cases a; · rfl
                                · show 0 + 1 * k.val = k.val; omega)
  have r2 : ∀ k : Fin 64, (Rect.unit (s := S1x192) ![0, 128] ![1, 64] inb_S1x192_S1x64_0_128).idx (ix2 0 k) = ix2 0 ⟨128 + k.val, by omega⟩ := fun k =>
    funext fun a => Fin.ext (by fin_cases a; · rfl
                                · show 128 + 1 * k.val = 128 + k.val; omega)
  have r3 : ∀ k : Fin 64, (Rect.unit (s := S1x64) ![0, 0] ![1, 64] inb_S1x64_S1x64_0_0).idx (ix2 0 k) = ix2 0 k := fun k =>
    funext fun a => Fin.ext (by fin_cases a; · rfl
                                · show 0 + 1 * k.val = k.val; omega)
  have r4 : (Rect.unit (s := S32x1) ![0, 0] ![32, 1] inb_S32x1_S32x1_0_0).idx (ix2 i0 0) = ix2 i0 0 :=
    funext fun a => Fin.ext (by fin_cases a; · show 0 + 1 * i0.val = i0.val; omega
                                · rfl)
  have r5 : (Rect.unit (s := S1x1) ![0, 0] ![1, 1] inb_S1x1_S1x1_0_0).idx (ix2 0 0) = ix2 0 0 :=
    funext fun a => Fin.ext (by fin_cases a <;> rfl)
  simp only [r1, r2, r3, r4, r5]

open Cert.Reference2Ideal.Read in
/-- The reference's value, entry by entry. -/
theorem ref_apply (x0 : Vec Ideal S32 .i32) (x1 : Vec Ideal S32 .f32) (x2 : Vec Ideal S10000x128 .f32) (x3 : Vec Ideal S192x1 .f32) (x4 : Vec Ideal S1 .f32) (x5 x6 : Vec Ideal S64 .f32)
    (hb : ∀ i, BitVec.toNat (x0 i) < 10000) (i0 : Fin 32) :
    Cert.Reference2Ideal.Read.val_main_v20 (F := Ideal) x0 x1 x2 x3 x4 x5 x6 (ix2 i0 0)
      = Ideal.logistic (∑ k : Fin 192, (Cert.Reference2Ideal.Read.val_main_v10 (F := Ideal) x0 x1 x2 x5 x6) (ix2 i0 k) * x3 (ix2 k 0) + x4 (ix1 0)) := by
  rw [val_main_v20_apply, val_main_v18_apply, val_main_v16_apply, val_main_v15_apply, val_main_v14_apply, val_main_v13_apply, val_main_v11_apply,
    val_main_v12_apply, val_main_v19_apply, val_main_v17_apply, val_main_cst_apply, val_main_cst_0_apply]
  have one : (FloatOps.ofBits (F := Ideal) .f32 0x3F800000#32 : Ideal .f32) = (1 : EReal) := by pointwise
  rw [one]
  have hl : ∀ k : Fin 192, lidx_main_v11 (ix2 i0 0) k = ix2 i0 k := fun k => funext fun a => by fin_cases a <;> rfl
  have hr : ∀ k : Fin 192, ridx_main_v11 (ix2 i0 0) k = ix2 k 0 := fun k => funext fun a => by fin_cases a <;> rfl
  have h4 : idx_main_v12 (idx_main_v13 (ix2 i0 0)) = ix1 0 := funext fun a => by fin_cases a; rfl
  simp only [hl, hr]
  rw [h4]
  generalize (∑ k : Fin 192, val_main_v10 x0 x1 x2 x5 x6 (ix2 i0 k) * x3 (ix2 k 0)) = S
  rfl

open Cert.Reference2Ideal.Read in
theorem idx_apply (x0 : Vec Ideal S32 .i32) (hb : ∀ i, BitVec.toNat (x0 i) < 10000) (i : Fin 32) :
    val_main_call0_v5 (F := Ideal) x0 (ix2 i 0) = x0 (ix1 i) := by
  unfold val_main_call0_v5
  pointwise
  rw [val_main_call0_v4_apply, val_main_call0_v1_apply]
  have hz : val_main_call0_v0 (F := Ideal) (ix1 i) = 0#32 := by rw [val_main_call0_v0_apply]; rfl
  have h0 : IntOp.cmpi .slt (x0 (ix1 i)) (val_main_call0_v0 (F := Ideal) (ix1 i)) = 0#1 := by
    rw [hz]
    have := hb (ix1 i)
    rcases BitVec.eq_zero_or_eq_one (IntOp.cmpi .slt (x0 (ix1 i)) 0#32) with h | h
    · exact h
    · have h := IntOp.cmpi_slt.1 h
      simp only [BitVec.toInt, BitVec.toNat_ofNat] at h; omega
  rw [h0]
  rfl

open Cert.Reference2Ideal.Read in
theorem mask_apply (x0 : Vec Ideal S32 .i32) (hb : ∀ i, BitVec.toNat (x0 i) < 10000) (i : Fin 32) (k) :
    val_main_call0_v14 (F := Ideal) x0 (ix2 i k) = 1#1 := by
  rw [val_main_call0_v14_apply]
  unfold val_main_call0_v12
  refine Host.reduce_andi_one _ _ _ _ _ rfl fun j => ?_
  idx_vars j
  rw [val_main_call0_v11_apply, val_main_call0_v10_apply, val_main_call0_v7_apply]
  obtain rfl : j1 = 0 := Subsingleton.elim _ _
  rw [idx_apply x0 hb]
  have := hb (ix1 j0)
  refine IntOp.andi_eq_one.2 ⟨IntOp.cmpi_sge.2 ?_, IntOp.cmpi_sle.2 ?_⟩
  · show (0#32).toInt ≤ _
    simp only [BitVec.toInt, BitVec.toNat_ofNat]; omega
  · show _ ≤ (9999#32).toInt
    simp only [BitVec.toInt, BitVec.toNat_ofNat]; omega

open Cert.Reference2Ideal.Read in
theorem cat_left (x0 : Vec Ideal S32 .i32) (x1 : Vec Ideal S32 .f32) (x2 : Vec Ideal S10000x128 .f32) (x5 x6 : Vec Ideal S64 .f32)
    (hb : ∀ i, BitVec.toNat (x0 i) < 10000) (i0 : Fin 32) (k : Fin 128) :
    val_main_v10 (F := Ideal) x0 x1 x2 x5 x6 (ix2 i0 ⟨k.val, by omega⟩) = gathered x0 x2 hb (ix2 i0 k) := by
  unfold val_main_v10
  pointwise
  rw [val_main_v9_apply, mask_apply x0 hb]
  show val_main_call0_v13 x0 x2 _ = _
  unfold val_main_call0_v13
  refine (Routing.gather_row (nb := 10000) (B := 128) (n := 32) _ rfl rfl rfl rfl rfl x2 _ i0 k ⟨_, hb (ix1 i0)⟩ ?_ (by norm_num)).trans ?_
  · exact (idx_apply x0 hb i0).trans (by rw [BitVec.ofNat_toNat, BitVec.setWidth_eq])
  · rfl

open Cert.Reference2Ideal.Read in
theorem cat_right (x0 : Vec Ideal S32 .i32) (x1 : Vec Ideal S32 .f32) (x2 : Vec Ideal S10000x128 .f32) (x5 x6 : Vec Ideal S64 .f32)
    (i0 : Fin 32) (k : Fin 64) :
    val_main_v10 (F := Ideal) x0 x1 x2 x5 x6 (ix2 i0 ⟨128 + k.val, by omega⟩) = Ideal.cos (x1 (ix1 i0) * x5 (ix1 k) + x6 (ix1 k)) := by
  unfold val_main_v10
  pointwise
  unfold val_main_v8 val_main_v7 val_main_v6 val_main_v5 val_main_v4 val_main_v3 val_main_v2 val_main_v1 val_main_v0
  pointwise

variable (m : (ℓ : Loc nD τ sig) → Buf (Elt Ideal) ℓ) (ρ : Dev nD → PrngReg)

theorem V0 (c : Dev nD) (i : Fin 32) : V m c main_v0 (ix2 i 0) = m ((c : Thread nD τ).loc main_arg1) (ix1 i) := by
  have : V m c main_v0 = broadcastInDim S32x1 ![0] bcast_S32_S32x1_0 (m ((c : Thread nD τ).loc main_arg1)) := by
    show StableHlo.after hostOps0 _ _ = _
    after_results
  rw [this]
  pointwise

theorem V1 (c : Dev nD) (i : Fin 192) : V m c main_v1 (ix2 0 i) = m ((c : Thread nD τ).loc main_arg3) (ix2 i 0) := by
  have : V m c main_v1 = shapeCast S1x192 (m ((c : Thread nD τ).loc main_arg3)) shapeCasts_S192x1_S1x192 := by
    show StableHlo.after hostOps0 _ _ = _
    after_results
    rfl
  rw [this]
  pointwise

theorem V2 (c : Dev nD) (i : Fin 1) : V m c main_v2 (ix2 0 0) = m ((c : Thread nD τ).loc main_arg4) (ix1 0) := by
  have : V m c main_v2 = shapeCast S1x1 (m ((c : Thread nD τ).loc main_arg4)) shapeCasts_S1_S1x1 := by
    show StableHlo.after hostOps0 _ _ = _
    after_results
    rfl
  rw [this]
  pointwise

theorem V3 (c : Dev nD) (i : Fin 64) : V m c main_v3 (ix2 0 i) = m ((c : Thread nD τ).loc main_arg5) (ix1 i) := by
  have : V m c main_v3 = broadcastInDim S1x64 ![1] bcast_S64_S1x64_1 (m ((c : Thread nD τ).loc main_arg5)) := by
    show StableHlo.after hostOps0 _ _ = _
    after_results
  rw [this]
  pointwise

theorem V4 (c : Dev nD) (i : Fin 64) : V m c main_v4 (ix2 0 i) = m ((c : Thread nD τ).loc main_arg6) (ix1 i) := by
  have : V m c main_v4 = broadcastInDim S1x64 ![1] bcast_S64_S1x64_1 (m ((c : Thread nD τ).loc main_arg6)) := by
    show StableHlo.after hostOps0 _ _ = _
    after_results
  rw [this]
  pointwise

theorem blk0 (c : Dev nD) (t : Fin cfg0.N) : iblk m c 0 t = V m c main_arg0 := by
  funext i
  unfold iblk
  rw [View.read_apply, cast_eq]
  have hi : ((cfg0.win 0).blk t).view.emb i = i := funext fun a => Fin.ext (by
    show 0 * _ + 1 * (i a).val = (i a).val
    omega)
  exact congrArg (V m c main_arg0) hi

theorem blk1 (c : Dev nD) (t : Fin cfg0.N) : iblk m c 1 t = V m c main_v0 := by
  funext i
  unfold iblk
  rw [View.read_apply, cast_eq]
  have hi : ((cfg0.win 1).blk t).view.emb i = i := funext fun a => Fin.ext (by
    show 0 * _ + 1 * (i a).val = (i a).val
    omega)
  exact congrArg (V m c main_v0) hi

theorem blk2 (c : Dev nD) (t : Fin cfg0.N) : iblk m c 2 t = V m c main_arg2 := by
  funext i
  unfold iblk
  rw [View.read_apply, cast_eq]
  have hi : ((cfg0.win 2).blk t).view.emb i = i := funext fun a => Fin.ext (by
    show 0 * _ + 1 * (i a).val = (i a).val
    omega)
  exact congrArg (V m c main_arg2) hi

theorem blk3 (c : Dev nD) (t : Fin cfg0.N) : iblk m c 3 t = V m c main_v1 := by
  funext i
  unfold iblk
  rw [View.read_apply, cast_eq]
  have hi : ((cfg0.win 3).blk t).view.emb i = i := funext fun a => Fin.ext (by
    show 0 * _ + 1 * (i a).val = (i a).val
    omega)
  exact congrArg (V m c main_v1) hi

theorem blk4 (c : Dev nD) (t : Fin cfg0.N) : iblk m c 4 t = V m c main_v2 := by
  funext i
  unfold iblk
  rw [View.read_apply, cast_eq]
  have hi : ((cfg0.win 4).blk t).view.emb i = i := funext fun a => Fin.ext (by
    show 0 * _ + 1 * (i a).val = (i a).val
    omega)
  exact congrArg (V m c main_v2) hi

theorem blk5 (c : Dev nD) (t : Fin cfg0.N) : iblk m c 5 t = V m c main_v3 := by
  funext i
  unfold iblk
  rw [View.read_apply, cast_eq]
  have hi : ((cfg0.win 5).blk t).view.emb i = i := funext fun a => Fin.ext (by
    show 0 * _ + 1 * (i a).val = (i a).val
    omega)
  exact congrArg (V m c main_v3) hi

theorem blk6 (c : Dev nD) (t : Fin cfg0.N) : iblk m c 6 t = V m c main_v4 := by
  funext i
  unfold iblk
  rw [View.read_apply, cast_eq]
  have hi : ((cfg0.win 6).blk t).view.emb i = i := funext fun a => Fin.ext (by
    show 0 * _ + 1 * (i a).val = (i a).val
    omega)
  exact congrArg (V m c main_v4) hi

/-- The value of every entry, out of the run's contents. -/
theorem outs_eq (hH : Hyps m) (c : Dev nD) (t : Fin cfg0.N) (hb : ∀ i, BitVec.toNat (m ((c : Thread nD τ).loc main_arg0) i) < 10000) (i0 : Fin 32) :
    outsAt0 m hH c t (ix2 i0 0) = Cert.Reference2Ideal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i0 0) := by
  have b0 := (blk0 m c t).trans (V_main_arg0 m c)
  have b2 := (blk2 m c t).trans (V_main_arg2 m c)
  have b1 := blk1 m c t
  have b3 := blk3 m c t
  have b4 := blk4 m c t
  have b5 := blk5 m c t
  have b6 := blk6 m c t
  have hb' : ∀ i, BitVec.toNat (iblk m c 0 t i) < 10000 := by rw [b0]; exact hb
  unfold outsAt0
  rw [out_apply c _ _ _ _ _ _ _ _ _ _ _ _ _ _ _ _ _ _ _ _ _ _ _ _ _ hb', ref_apply _ _ _ _ _ _ _ hb]
  refine congrArg Ideal.logistic (congrArg₂ (· + ·) ?_ ?_)
  · refine (congrArg₂ (· + ·) ?_ ?_).trans (Fin.sum_univ_add (a := 128) (b := 64) (M := EReal)
      (fun k : Fin (128 + 64) => Cert.Reference2Ideal.Read.val_main_v10 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 i0 (k : Fin 192)) * m ((c : Thread nD τ).loc main_arg3) (ix2 (k : Fin 192) 0))).symm
    · refine Finset.sum_congr rfl fun k _ => ?_
      refine congrArg₂ (· * ·) ?_ ?_
      · refine Eq.trans ?_ (cat_left _ _ _ _ _ hb i0 k).symm
        unfold gathered
        rw [b2]
        refine congrArg _ (congrArg₂ ix2 (Fin.ext ?_) rfl)
        exact congrArg BitVec.toNat (congrFun b0 _)
      · rw [b3]; exact V1 m c _
    · refine Finset.sum_congr rfl fun k _ => ?_
      refine congrArg₂ (· * ·) ?_ ?_
      · refine Eq.trans ?_ (cat_right _ _ _ _ _ i0 k).symm
        rw [b1, b5, b6, V0, V3, V4]
      · rw [b3]; exact V1 m c _
  · rw [b4]; exact V2 m c 0

theorem N_pos : 0 < cfg0.N := by decide +kernel

/-- The output array after the run is the reference's value. -/
theorem arr_eq (hH : Hyps m) (c : Dev nD) (hb : ∀ i, BitVec.toNat (m ((c : Thread nD τ).loc main_arg0) i) < 10000) :
    (dats m hH 0 c).arrAt 7 cfg0.N = Cert.Reference2Ideal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h := (Cert.Kernel2Ideal.Value.blocks7 m hH c ⟨0, N_pos⟩ (by decide +kernel)).trans (Cert.Kernel2Ideal.Value.flushed7 m hH c ⟨0, N_pos⟩)
  funext i
  have h := congrFun h i
  rw [View.read_apply, cast_eq] at h
  have hi : ((cfg0.win 7).blk ⟨0, N_pos⟩).view.emb i = i := funext fun a => Fin.ext (by
    show 0 * _ + 1 * (i a).val = (i a).val
    omega)
  rw [hi] at h
  refine h.trans ?_
  obtain ⟨i0, rfl⟩ : ∃ i0 : Fin 32, i = ix2 i0 0 := ⟨i 0, by
    funext a; fin_cases a
    · rfl
    · exact Subsingleton.elim (α := Fin 1) _ _⟩
  exact outs_eq m hH c _ hb i0

/-- The restart head's program and its reference end with the same result. -/
theorem algebraic : Cert.algebraic_Kernel2Ideal_Reference2Ideal := by
  intro m g m' g' hpre heq
  have hH := hyps_of_pre m hpre
  refine ⟨fun c => (dats m hH 0 c).arrAt 7 cfg0.N, Cert.Kernel2Ideal.Value.run_blocks m g hH, ?_⟩
  refine (θ_run _ _ _).mono (fun r h c => ?_) (Cert.Reference2Ideal.Value.run (F := Ideal) m' g')
  obtain ⟨h0, h⟩ := h c
  refine ⟨h0.trans ?_, h⟩
  rw [Cert.Reference2Ideal.Read.val_main_v20_eq]
  obtain ⟨e0, e1, e2, e3, e4, e5, e6⟩ := heq c
  rw [e0, e1, e2, e3, e4, e5, e6]
  exact (arr_eq m hH c (word_bound (hpre c))).symm

end Cert.RestartProof.KI
-- ==== Proof.WalkRows.lean ====
/- The row operations of the walks kernel read at one row: largest, smallest and sum over the columns. -/
module

public import proofs.«01_k».proof.Proof.Walk
public import Idealize.ShloMosaic.PureOps.Ideal.Laws
public import Idealize.ShloMosaic.Lib.Pipeline.ValueKit
public import Idealize.ShloMosaic.Lib.Pointwise

@[expose] public section

noncomputable section

namespace Cert.Walks

open Idealize.ShloMosaic

variable {n m : Nat}

theorem row_apply {α : Type} (R : Rows n m) (x : (Sh 1 m).Idx → α) (r : Fin n) (k : Fin m) :
    broadcastTo (Sh n m) x R.row (ix2 r k) = x (ix2 0 k) := by
  refine broadcastTo_apply x R.row _ _ fun a => ?_
  fin_cases a
  · rfl
  · show k.val = if m = 1 then 0 else k.val
    split <;> omega

theorem col_apply {α : Type} (R : Rows n m) (x : (Sh n 1).Idx → α) (r : Fin n) (k : Fin m) :
    broadcastTo (Sh n m) x R.col (ix2 r k) = x (ix2 r 0) := by
  refine broadcastTo_apply x R.col _ _ fun a => ?_
  fin_cases a
  · show r.val = if n = 1 then 0 else r.val
    split <;> omega
  · rfl

theorem stand_apply {α : Type} (R : Rows n m) (x : (Sv n).Idx → α) (r : Fin n) :
    shapeCast (Sh n 1) x R.stand (ix2 r 0) = x (ix1 r) := by
  refine shapeCast_apply x R.stand _ _ ?_
  rw [rowMajor_val1, rowMajor_val2 _ 1 rfl]
  show r.val = r.val * 1 + 0
  omega

theorem lift_row (R : Rows n m) (r : Fin n) (k : Fin m) : R.red.lift (ix1 r) k = ix2 r k := by
  funext c
  refine Fin.ext ?_
  fin_cases c <;> rfl

theorem col_eq (i : (Sh n 1).Idx) : i = ix2 (i 0) 0 := by
  funext a
  refine Fin.ext ?_
  fin_cases a
  · rfl
  · have h : (i 1).val < 1 := (i 1).isLt
    show (i 1).val = 0
    omega

/-! ## Folds over the columns -/

theorem bot_bits : (FloatOps.ofBits (F := Ideal) .f32 0xFF800000#32) = (⊥ : EReal) := by
  show Ideal.ofBits .f32 0xFF800000#32 = ⊥
  simp [Ideal.ofBits, Ideal.ieee]

theorem fold_max_spec (f : Fin m → EReal) :
    (∀ k, f k ≤ Finset.univ.fold max ⊥ f) ∧ (Finset.univ.fold max ⊥ f = ⊥ ∨ ∃ k, f k = Finset.univ.fold max ⊥ f) := by
  have h : ∀ S : Finset (Fin m), (∀ k ∈ S, f k ≤ S.fold max ⊥ f) ∧ (S.fold max ⊥ f = ⊥ ∨ ∃ k ∈ S, f k = S.fold max ⊥ f) := by
    intro S
    induction S using Finset.cons_induction with
    | empty => exact ⟨fun k hk => absurd hk (Finset.notMem_empty k), Or.inl rfl⟩
    | cons a S ha ih =>
      rw [Finset.fold_cons]
      refine ⟨fun k hk => ?_, ?_⟩
      · rcases Finset.mem_cons.1 hk with rfl | hk
        · exact le_max_left _ _
        · exact le_trans (ih.1 k hk) (le_max_right _ _)
      · rcases le_total (f a) (S.fold max ⊥ f) with h | h
        · rw [max_eq_right h]
          rcases ih.2 with h2 | ⟨k, hk, h2⟩
          · exact Or.inl h2
          · exact Or.inr ⟨k, Finset.mem_cons_of_mem hk, h2⟩
        · rw [max_eq_left h]
          exact Or.inr ⟨a, Finset.mem_cons_self _ _, rfl⟩
  obtain ⟨h1, h2⟩ := h Finset.univ
  exact ⟨fun k => h1 k (Finset.mem_univ _), h2.imp id fun ⟨k, _, e⟩ => ⟨k, e⟩⟩

theorem minsi_cases (a b : BitVec 32) : IntOp.minsi a b = a ∧ a.toInt ≤ b.toInt ∨ IntOp.minsi a b = b ∧ b.toInt ≤ a.toInt := by
  unfold IntOp.minsi
  by_cases h : a.slt b = true
  · rw [BitVec.slt_iff_toInt_lt] at h
    first
      | exact Or.inl ⟨by simp [BitVec.slt_iff_toInt_lt, BitVec.sle_iff_toInt_le, h, le_of_lt h], le_of_lt h⟩
  · rw [BitVec.slt_iff_toInt_lt] at h
    by_cases e : a.toInt = b.toInt
    · have := BitVec.eq_of_toInt_eq e
      subst this
      exact Or.inl ⟨by simp, le_refl _⟩
    · exact Or.inr ⟨by simp [BitVec.slt_iff_toInt_lt, BitVec.sle_iff_toInt_le]; omega, by omega⟩

theorem toInt_le_max (a : BitVec 32) : a.toInt ≤ (2147483647#32).toInt := by
  have h1 : a.toInt < 2 ^ 31 := BitVec.toInt_lt
  have h2 : (2147483647#32).toInt = 2147483647 := by decide
  omega

theorem fold_min_spec {ι : Type} [Fintype ι] (f : ι → BitVec 32) (op : BitVec 32 → BitVec 32 → BitVec 32) [Std.Commutative op] [Std.Associative op]
    (hop : ∀ a b, op a b = a ∧ a.toInt ≤ b.toInt ∨ op a b = b ∧ b.toInt ≤ a.toInt) :
    (∀ k, (Finset.univ.fold op 2147483647#32 f).toInt ≤ (f k).toInt)
      ∧ (Finset.univ.fold op 2147483647#32 f = 2147483647#32 ∨ ∃ k, f k = Finset.univ.fold op 2147483647#32 f) := by
  have h : ∀ S : Finset ι, (∀ k ∈ S, (S.fold op 2147483647#32 f).toInt ≤ (f k).toInt)
      ∧ (S.fold op 2147483647#32 f = 2147483647#32 ∨ ∃ k ∈ S, f k = S.fold op 2147483647#32 f) := by
    intro S
    induction S using Finset.cons_induction with
    | empty => exact ⟨fun k hk => absurd hk (Finset.notMem_empty k), Or.inl rfl⟩
    | cons a S ha ih =>
      rw [Finset.fold_cons]
      rcases hop (f a) (S.fold op 2147483647#32 f) with ⟨e, h⟩ | ⟨e, h⟩ <;> rw [e]
      · refine ⟨fun k hk => ?_, Or.inr ⟨a, Finset.mem_cons_self _ _, rfl⟩⟩
        rcases Finset.mem_cons.1 hk with rfl | hk
        · exact le_refl _
        · exact le_trans h (ih.1 k hk)
      · refine ⟨fun k hk => ?_, ?_⟩
        · rcases Finset.mem_cons.1 hk with rfl | hk
          · exact h
          · exact ih.1 k hk
        · rcases ih.2 with h2 | ⟨k, hk, h2⟩
          · exact Or.inl h2
          · exact Or.inr ⟨k, Finset.mem_cons_of_mem hk, h2⟩
  obtain ⟨h1, h2⟩ := h Finset.univ
  exact ⟨fun k => h1 k (Finset.mem_univ _), h2.imp id fun ⟨k, _, e⟩ => ⟨k, e⟩⟩

theorem fold_add_one (f : Fin m → BitVec 32) (k0 : Fin m) (op : BitVec 32 → BitVec 32 → BitVec 32) [Std.Commutative op] [Std.Associative op]
    (hop : ∀ a b, op a b = a + b) (h0 : ∀ k, k ≠ k0 → f k = 0#32) : Finset.univ.fold op 0#32 f = f k0 := by
  have hz : ∀ S : Finset (Fin m), k0 ∉ S → S.fold op 0#32 f = 0#32 := by
    intro S
    induction S using Finset.cons_induction with
    | empty => intro _; rfl
    | cons a S ha ih =>
      intro hk
      rw [Finset.mem_cons, not_or] at hk
      rw [Finset.fold_cons, ih hk.2, hop, h0 a (fun e => hk.1 e.symm)]
      rfl
  rw [← Finset.insert_erase (Finset.mem_univ k0), Finset.fold_insert (Finset.notMem_erase _ _), hz _ (Finset.notMem_erase _ _), hop]
  simp

/-! ## The row operations -/

theorem rowMax_spec (R : Rows n m) (x : FVec Ideal (Sh n m) .f32) (r : Fin n) :
    (∀ k, x (ix2 r k) ≤ rowMax R x (ix2 r 0)) ∧ (rowMax R x (ix2 r 0) = (⊥ : EReal) ∨ ∃ k, x (ix2 r k) = rowMax R x (ix2 r 0)) := by
  have e : rowMax R x (ix2 r 0) = Finset.univ.fold max (⊥ : EReal) (fun k : Fin m => (x (ix2 r k) : EReal)) := by
    unfold rowMax
    refine (stand_apply R _ r).trans ((Ideal.multiReduction_maximumf_single x _ R.red (.inl rfl) rfl _).trans ?_)
    refine (congrArg (fun b => Finset.univ.fold max b (x ∘ R.red.lift (ix1 r))) bot_bits).trans ?_
    congr 1
    funext k
    exact congrArg x (lift_row R r k)
  rw [e]
  exact fold_max_spec _

theorem rowMin_spec (R : Rows n m) (x : IVec (Sh n m) 32) (r : Fin n) :
    (∀ k, (rowMin R x (ix2 r 0)).toInt ≤ (x (ix2 r k)).toInt)
      ∧ (rowMin R x (ix2 r 0) = 2147483647#32 ∨ ∃ k, x (ix2 r k) = rowMin R x (ix2 r 0)) := by
  have e : rowMin R x (ix2 r 0) = Finset.univ.fold IKind.minsi.op 2147483647#32 (fun k : Fin m => x (ix2 r k)) := by
    unfold rowMin
    refine (stand_apply R _ r).trans ((multiReductionI_eq_fold .minsi x _ R.red rfl _).trans ?_)
    rw [R.red.fold_filter_drop_single]
    congr 1
    funext k
    exact congrArg x (lift_row R r k)
  rw [e]
  exact fold_min_spec _ _ minsi_cases

theorem rowSum_one (R : Rows n m) (x : IVec (Sh n m) 32) (r : Fin n) (k0 : Fin m) (h0 : ∀ k, k ≠ k0 → x (ix2 r k) = 0#32) :
    rowSum R x (ix2 r 0) = x (ix2 r k0) := by
  have e : rowSum R x (ix2 r 0) = Finset.univ.fold IKind.add.op 0#32 (fun k : Fin m => x (ix2 r k)) := by
    unfold rowSum
    refine (stand_apply R _ r).trans ((multiReductionI_eq_fold .add x _ R.red rfl _).trans ?_)
    rw [R.red.fold_filter_drop_single]
    congr 1
    funext k
    exact congrArg x (lift_row R r k)
  rw [e]
  exact fold_add_one (fun k => x (ix2 r k)) k0 _ (fun _ _ => rfl) h0

theorem rowSumF_one (R : Rows n m) (x : FVec Ideal (Sh n m) .f32) (r : Fin n) (k0 : Fin m) (h0 : ∀ k, k ≠ k0 → x (ix2 r k) = (0 : EReal)) :
    rowSumF R x (ix2 r 0) = x (ix2 r k0) := by
  have e : rowSumF R x (ix2 r 0) = ∑ k : Fin m, (x (ix2 r k) : EReal) := by
    unfold rowSumF
    refine (stand_apply R _ r).trans ((Ideal.multiReduction_add_single x _ R.red (.inl rfl) rfl _).trans ?_)
    refine Finset.sum_congr rfl fun k _ => ?_
    exact congrArg x (lift_row R r k)
  rw [e]
  exact Finset.sum_eq_single k0 (fun k _ hk => h0 k hk) (fun h => absurd (Finset.mem_univ _) h)

end Cert.Walks

end
-- ==== Proof.WalkScan.lean ====
/- What the scan of the edges finds: the latest admissible time, a bound on the others, and where that edge leads. -/
module

public import proofs.«01_k».proof.Proof.WalkRows

@[expose] public section

noncomputable section

namespace Cert.Walks

open Idealize.ShloMosaic

variable {n m : Nat}

/-- The edges as functions of their number. -/
structure Graph where
  u : ℕ → BitVec 32
  v : ℕ → BitVec 32
  t : ℕ → EReal

open Classical in
/-- The admissible time of edge `e` from node `cn` before `ct`. -/
def Graph.time (G : Graph) (cn : BitVec 32) (ct : EReal) (e : ℕ) : EReal :=
  if (G.u e = cn ∨ G.v e = cn) ∧ G.t e < ct then G.t e else ⊥
/-- Where edge `e` leads from node `cn`. -/
def Graph.dest (G : Graph) (cn : BitVec 32) (e : ℕ) : BitVec 32 := if G.u e = cn then G.v e else G.u e

/-- The run `E` holds the edges from `o` on. -/
def Holds (G : Graph) (E : Edges Ideal m) (o : ℕ) : Prop :=
  ∀ k : Fin m, E.1 (ix2 0 k) = G.u (o + k.val) ∧ E.2.1 (ix2 0 k) = G.v (o + k.val) ∧ E.2.2 (ix2 0 k) = G.t (o + k.val)

/-- What a scan of the edges from `a` to `b` says. -/
def Good (f : ℕ → EReal) (d : ℕ → BitVec 32) (a b : ℕ) (b1 b2 : EReal) (bd : BitVec 32) : Prop :=
  (∀ e, a ≤ e → e < b → f e ≤ b1)
    ∧ (b1 = ⊥ ∨ ∃ s, a ≤ s ∧ s < b ∧ f s = b1 ∧ d s = bd ∧ ∀ e, a ≤ e → e < b → e ≠ s → f e ≤ b2)

theorem Good.merge {f : ℕ → EReal} {d : ℕ → BitVec 32} {a b c : ℕ} (hab : a ≤ b) (hbc : b ≤ c) {x1 x2 y1 y2 : EReal} {xd yd : BitVec 32}
    (hx : Good f d a b x1 x2 xd) (hy : Good f d b c y1 y2 yd) :
    Good f d a c (max x1 y1) (max (min x1 y1) (max x2 y2)) (if y1 ≤ x1 then xd else yd) := by
  refine ⟨fun e h1 h2 => ?_, ?_⟩
  · rcases Nat.lt_or_ge e b with h | h
    · exact le_max_of_le_left (hx.1 e h1 h)
    · exact le_max_of_le_right (hy.1 e h h2)
  · by_cases h : y1 ≤ x1
    · rw [max_eq_left h, min_eq_right h, if_pos h]
      rcases hx.2 with hb | ⟨s, s1, s2, e1, e2, e3⟩
      · exact Or.inl hb
      · refine Or.inr ⟨s, s1, lt_of_lt_of_le s2 hbc, e1, e2, fun e h1 h2 hne => ?_⟩
        rcases Nat.lt_or_ge e b with h' | h'
        · exact le_max_of_le_right (le_max_of_le_left (e3 e h1 h' hne))
        · exact le_max_of_le_left (hy.1 e h' h2)
    · have h := lt_of_not_ge h
      rw [max_eq_right h.le, min_eq_left h.le, if_neg (not_le.2 h)]
      rcases hy.2 with hb | ⟨s, s1, s2, e1, e2, e3⟩
      · exact Or.inl hb
      · refine Or.inr ⟨s, le_trans hab s1, s2, e1, e2, fun e h1 h2 hne => ?_⟩
        rcases Nat.lt_or_ge e b with h' | h'
        · exact le_max_of_le_left (hx.1 e h1 h')
        · exact le_max_of_le_right (le_max_of_le_right (e3 e h' h2 hne))

/-! ## Single words -/

theorem ofBool_one (b : Bool) : (BitVec.ofBool b = 1#1) ↔ b = true := by cases b <;> decide
theorem and_one (a b : BitVec 1) : (a &&& b = 1#1) ↔ a = 1#1 ∧ b = 1#1 := by revert a b; decide
theorem or_one (a b : BitVec 1) : (a ||| b = 1#1) ↔ a = 1#1 ∨ b = 1#1 := by revert a b; decide
theorem ne_one (a : BitVec 1) : (¬ a = 1#1) ↔ a = 0#1 := by revert a; decide

theorem sel_pos {α : Type} {c : BitVec 1} (h : c = 1#1) (a b : α) : Scalar.select c a b = a := if_pos h
theorem sel_neg {α : Type} {c : BitVec 1} (h : ¬ c = 1#1) (a b : α) : Scalar.select c a b = b := if_neg h
theorem sel_if {α : Type} {c : BitVec 1} {p : Prop} [Decidable p] (h : c = 1#1 ↔ p) (a b : α) : Scalar.select c a b = if p then a else b := if_congr h rfl rfl

theorem mFwd_one (R : Rows n m) (E : Edges Ideal m) (cn : IVec (Sh n 1) 32) (r : Fin n) (k : Fin m) :
    mFwd R E cn (ix2 r k) = 1#1 ↔ E.1 (ix2 0 k) = cn (ix2 r 0) := by
  show BitVec.ofBool (broadcastTo (Sh n m) E.1 R.row (ix2 r k) == broadcastTo (Sh n m) cn R.col (ix2 r k)) = 1#1 ↔ _
  rw [row_apply R, col_apply R, ofBool_one, beq_iff_eq]

theorem mBwd_one (R : Rows n m) (E : Edges Ideal m) (cn : IVec (Sh n 1) 32) (r : Fin n) (k : Fin m) :
    mBwd R E cn (ix2 r k) = 1#1 ↔ E.2.1 (ix2 0 k) = cn (ix2 r 0) := by
  show BitVec.ofBool (broadcastTo (Sh n m) E.2.1 R.row (ix2 r k) == broadcastTo (Sh n m) cn R.col (ix2 r k)) = 1#1 ↔ _
  rw [row_apply R, col_apply R, ofBool_one, beq_iff_eq]

theorem early_one (R : Rows n m) (E : Edges Ideal m) (ct : FVec Ideal (Sh n 1) .f32) (r : Fin n) (k : Fin m) :
    early R E ct (ix2 r k) = 1#1 ↔ (E.2.2 (ix2 0 k) : EReal) < ct (ix2 r 0) := by
  show BitVec.ofBool (decide ((broadcastTo (Sh n m) E.2.2 R.row (ix2 r k) : EReal) < broadcastTo (Sh n m) ct R.col (ix2 r k))) = 1#1 ↔ _
  rw [row_apply R, col_apply R, ofBool_one, decide_eq_true_iff]

theorem bottom_apply (s : Shape) (i : s.Idx) : bottom (F := Ideal) s i = (⊥ : EReal) := bot_bits

theorem cand_apply (R : Rows n m) (E : Edges Ideal m) (cn : IVec (Sh n 1) 32) (ct : FVec Ideal (Sh n 1) .f32) (G : Graph) (o : ℕ)
    (hE : Holds G E o) (r : Fin n) (k : Fin m) :
    cand R E cn ct (ix2 r k) = G.time (cn (ix2 r 0)) (ct (ix2 r 0)) (o + k.val) := by
  show Scalar.select ((mFwd R E cn (ix2 r k) ||| mBwd R E cn (ix2 r k)) &&& early R E ct (ix2 r k))
    (broadcastTo (Sh n m) (shapeCast (Sh 1 m) E.2.2 R.self) R.row (ix2 r k)) (bottom (F := Ideal) (Sh n m) (ix2 r k)) = _
  rw [row_apply R, shapeCast_self, bottom_apply]
  unfold Scalar.select Graph.time
  refine if_congr ?_ (hE k).2.2 rfl
  refine (and_one _ _).trans ((and_congr (or_one _ _) Iff.rfl).trans ?_)
  rw [mFwd_one, mBwd_one, early_one, (hE k).1, (hE k).2.1, (hE k).2.2]

theorem ofNat_inj {a b : ℕ} (ha : a < 2 ^ 31) (hb : b < 2 ^ 31) (h : BitVec.ofNat 32 a = BitVec.ofNat 32 b) : a = b := by
  have := congrArg BitVec.toNat h
  rw [BitVec.toNat_ofNat, BitVec.toNat_ofNat] at this
  omega

theorem toInt_ofNat {a : ℕ} (ha : a < 2 ^ 31) : (BitVec.ofNat 32 a).toInt = a := by
  rw [BitVec.toInt_eq_toNat_cond, BitVec.toNat_ofNat]
  have : a % 2 ^ 32 = a := by omega
  rw [this]
  split <;> omega

/-- The cell marked in a row that holds something is one of the largest. -/
theorem firstAt_spec (hm : m < 2147483647) (R : Rows n m) (x : FVec Ideal (Sh n m) .f32) (r : Fin n) (hne : rowMax R x (ix2 r 0) ≠ (⊥ : EReal)) :
    ∃ s : Fin m, x (ix2 r s) = rowMax R x (ix2 r 0) ∧ ∀ k, firstAt R x (ix2 r k) = 1#1 ↔ k = s := by
  obtain ⟨hle, hat⟩ := rowMax_spec R x r
  obtain ⟨k1, hk1⟩ := hat.resolve_left hne
  generalize hy : (select (cmpf .oeq x (broadcastTo (Sh n m) (rowMax R x) R.col))
        (broadcastTo (Sh n m) (shapeCast (Sh 1 m) (iota .tc (Sh 1 m) 32 [1] R.iota) R.self) R.row)
        (broadcast (Sh n m) 2147483647#32)) = y
  have hyk : ∀ k, y (ix2 r k) = if (x (ix2 r k) : EReal) = rowMax R x (ix2 r 0) then BitVec.ofNat 32 k.val else 2147483647#32 := by
    intro k
    rw [← hy]
    show Scalar.select (BitVec.ofBool (decide ((x (ix2 r k) : EReal) = broadcastTo (Sh n m) (rowMax R x) R.col (ix2 r k))))
      (broadcastTo (Sh n m) (shapeCast (Sh 1 m) (iota .tc (Sh 1 m) 32 [1] R.iota) R.self) R.row (ix2 r k)) 2147483647#32 = _
    rw [row_apply R, col_apply R, shapeCast_self, iota_single_apply]
    unfold Scalar.select
    refine if_congr ?_ rfl rfl
    exact (ofBool_one _).trans decide_eq_true_iff
  obtain ⟨jle, jat⟩ := rowMin_spec R y r
  have hj1 : (rowMin R y (ix2 r 0)).toInt < 2147483647 := by
    have := jle k1
    rw [hyk, if_pos hk1, toInt_ofNat (by have := k1.isLt; omega)] at this
    have := k1.isLt
    omega
  have hmx : (2147483647#32).toInt = 2147483647 := by decide
  have hjn : rowMin R y (ix2 r 0) ≠ 2147483647#32 := fun e => by rw [e, hmx] at hj1; omega
  obtain ⟨s, hs⟩ := jat.resolve_left hjn
  have hs1 : (x (ix2 r s) : EReal) = rowMax R x (ix2 r 0) := by
    by_contra h
    rw [hyk, if_neg h] at hs
    exact hjn hs.symm
  refine ⟨s, hs1, fun k => ?_⟩
  rw [hyk, if_pos hs1] at hs
  show BitVec.ofBool (broadcastTo (Sh n m) (iota .tc (Sh 1 m) 32 [1] R.iota) R.row (ix2 r k)
    == broadcastTo (Sh n m) (rowMin R (select (cmpf .oeq x (broadcastTo (Sh n m) (rowMax R x) R.col))
        (broadcastTo (Sh n m) (shapeCast (Sh 1 m) (iota .tc (Sh 1 m) 32 [1] R.iota) R.self) R.row)
        (broadcast (Sh n m) 2147483647#32))) R.col (ix2 r k)) = 1#1 ↔ _
  rw [hy, row_apply R, col_apply R, ofBool_one, beq_iff_eq, iota_single_apply, ← hs]
  constructor
  · intro h
    exact Fin.ext (ofNat_inj (by have := k.isLt; omega) (by have := s.isLt; omega) h)
  · rintro rfl; rfl

/-- A scan's row, from `a` to `b`. -/
def GoodRow (G : Graph) (cn : IVec (Sh n 1) 32) (ct : FVec Ideal (Sh n 1) .f32) (r : Fin n) (a b : ℕ) (x : Top Ideal n) : Prop :=
  Good (G.time (cn (ix2 r 0)) (ct (ix2 r 0))) (G.dest (cn (ix2 r 0))) a b (x.1 (ix2 r 0)) (x.2.1 (ix2 r 0)) (x.2.2 (ix2 r 0))

theorem chunk_good (hm : m < 2147483647) (R : Rows n m) (z0 : IVec (Sh n 1) 32) (E : Edges Ideal m) (cn : IVec (Sh n 1) 32) (ct : FVec Ideal (Sh n 1) .f32)
    (G : Graph) (o : ℕ) (hE : Holds G E o) (r : Fin n) : GoodRow G cn ct r o (o + m) (chunk R (bottom _) z0 E cn ct) := by
  obtain ⟨hle, hat⟩ := rowMax_spec R (cand R E cn ct) r
  have e1 : (chunk R (bottom _) z0 E cn ct).1 (ix2 r 0) = rowMax R (cand R E cn ct) (ix2 r 0) := by
    show max (bottom (F := Ideal) (Sh n 1) (ix2 r 0) : EReal) _ = _
    rw [bottom_apply]; exact max_eq_right bot_le
  unfold GoodRow Good
  rw [e1]
  refine ⟨fun e h1 h2 => ?_, ?_⟩
  · have := hle ⟨e - o, by omega⟩
    rw [cand_apply R E cn ct G o hE r, show o + (⟨e - o, by omega⟩ : Fin m).val = e from by show o + (e - o) = e; omega] at this
    exact this
  by_cases hb : rowMax R (cand R E cn ct) (ix2 r 0) = (⊥ : EReal)
  · exact Or.inl hb
  refine Or.inr ?_
  obtain ⟨s, hs, hot⟩ := firstAt_spec hm R (cand R E cn ct) r hb
  refine ⟨o + s.val, by omega, by have := s.isLt; omega, ?_, ?_, ?_⟩
  · rw [← hs, cand_apply R E cn ct G o hE r]
  · have hbig : (bottom (F := Ideal) (Sh n 1) (ix2 r 0) : EReal) < rowMax R (cand R E cn ct) (ix2 r 0) := by
      rw [bottom_apply]; exact bot_lt_iff_ne_bot.2 hb
    show _ = Scalar.select (BitVec.ofBool (decide ((bottom (F := Ideal) (Sh n 1) (ix2 r 0) : EReal) < rowMax R (cand R E cn ct) (ix2 r 0))))
      (rowSum R (select (firstAt R (cand R E cn ct)) (select (mFwd R E cn)
        (broadcastTo (Sh n m) (shapeCast (Sh 1 m) E.2.1 R.self) R.row)
        (broadcastTo (Sh n m) (shapeCast (Sh 1 m) E.1 R.self) R.row)) (broadcast (Sh n m) 0#32)) (ix2 r 0)) (z0 (ix2 r 0))
    rw [sel_pos ((ofBool_one _).2 (decide_eq_true hbig)), rowSum_one R _ r s]
    · show _ = Scalar.select (firstAt R (cand R E cn ct) (ix2 r s)) (Scalar.select (mFwd R E cn (ix2 r s))
        (broadcastTo (Sh n m) (shapeCast (Sh 1 m) E.2.1 R.self) R.row (ix2 r s))
        (broadcastTo (Sh n m) (shapeCast (Sh 1 m) E.1 R.self) R.row (ix2 r s))) 0#32
      rw [sel_pos ((hot s).2 rfl), row_apply R, row_apply R, shapeCast_self, shapeCast_self, (hE s).1, (hE s).2.1]
      unfold Scalar.select Graph.dest
      refine if_congr ?_ rfl rfl
      refine Iff.trans ?_ (mFwd_one R E cn r s).symm
      rw [(hE s).1]
    · intro k hk
      show Scalar.select (firstAt R (cand R E cn ct) (ix2 r k)) _ 0#32 = 0#32
      rw [sel_neg (fun h => hk ((hot k).1 h))]
  · intro e h1 h2 hne
    refine le_trans ?_ (le_max_right _ _)
    refine le_trans ?_ (le_max_right _ _)
    have := (rowMax_spec R (select (firstAt R (cand R E cn ct)) (bottom (Sh n m)) (cand R E cn ct)) r).1 ⟨e - o, by omega⟩
    refine le_trans (le_of_eq ?_) this
    show _ = Scalar.select (firstAt R (cand R E cn ct) (ix2 r ⟨e - o, _⟩)) _ (cand R E cn ct (ix2 r ⟨e - o, _⟩))
    rw [sel_neg (fun h => hne (by have := congrArg Fin.val ((hot _).1 h); simp only at this; omega)), cand_apply R E cn ct G o hE r]
    exact congrArg _ (by show e = o + (e - o); omega)

theorem merge_good (G : Graph) (cn : IVec (Sh n 1) 32) (ct : FVec Ideal (Sh n 1) .f32) (r : Fin n) {a b c : ℕ} (x y : Top Ideal n)
    (hx : GoodRow G cn ct r a b x) (hab : a ≤ b) (hbc : b ≤ c) (hy : GoodRow G cn ct r b c y) : GoodRow G cn ct r a c (merge x y) := by
  have e : (merge x y).2.2 (ix2 r 0) = if (y.1 (ix2 r 0) : EReal) ≤ x.1 (ix2 r 0) then x.2.2 (ix2 r 0) else y.2.2 (ix2 r 0) :=
    sel_if ((ofBool_one _).trans decide_eq_true_iff) _ _
  unfold GoodRow
  rw [e]
  exact Good.merge hab hbc hx hy

/-- The scan of sixteen runs that hold the edges in order. -/
theorem scan_good (hm : m < 2147483647) (R : Rows n m) (z0 : IVec (Sh n 1) 32) (cn : IVec (Sh n 1) 32) (ct : FVec Ideal (Sh n 1) .f32)
    (G : Graph) (r : Fin n) (E : ℕ → Edges Ideal m) (hE : ∀ k, k < 16 → Holds G (E k) (m * k)) :
    GoodRow G cn ct r 0 (m * 16) (scan R (bottom _) z0 cn ct (E 0)
      [E 1, E 2, E 3, E 4, E 5, E 6, E 7, E 8, E 9, E 10, E 11, E 12, E 13, E 14, E 15]) := by
  have c : ∀ k, k < 16 → GoodRow G cn ct r (m * k) (m * (k + 1)) (chunk R (bottom _) z0 (E k) cn ct) := fun k hk => by
    rw [Nat.mul_succ]; exact chunk_good hm R z0 (E k) cn ct G (m * k) (hE k hk) r
  have le : ∀ a b, a ≤ b → m * a ≤ m * b := fun a b h => Nat.mul_le_mul_left m h
  have m2 := fun k (hk : k + 1 < 16) => merge_good G cn ct r _ _ (c k (by omega)) (le k (k + 1) (by omega)) (le (k + 1) (k + 2) (by omega)) (c (k + 1) hk)
  have m4 := fun k (hk : k + 3 < 16) => merge_good G cn ct r _ _ (m2 k (by omega)) (le k (k + 2) (by omega)) (le (k + 2) (k + 4) (by omega)) (m2 (k + 2) (by omega))
  have m8 := fun k (hk : k + 7 < 16) => merge_good G cn ct r _ _ (m4 k (by omega)) (le k (k + 4) (by omega)) (le (k + 4) (k + 8) (by omega)) (m4 (k + 4) (by omega))
  exact merge_good G cn ct r _ _ (m8 0 (by omega)) (le 0 8 (by omega)) (le 8 16 (by omega)) (m8 8 (by omega))

end Cert.Walks

end
-- ==== Proof.WalkNoise.lean ====
/- The hash and the noise of one counter, and the bounds of the noise. -/
module

public import proofs.«01_k».proof.Proof.WalkScan

@[expose] public section

noncomputable section

namespace Cert.Walks

open Idealize.ShloMosaic

/-! ## The hash of one counter -/

abbrev Pair := BitVec 32 × BitVec 32

def rndS (r r' : BitVec 32) (x : Pair) : Pair := (x.1 + x.2, ((x.2 <<< r) ||| (x.2 >>> r')) ^^^ (x.1 + x.2))
def injS (a b n : BitVec 32) (x : Pair) : Pair := (x.1 + a, x.2 + b + n)
def fourS (x : Pair) : Pair := rndS 6#32 26#32 (rndS 26#32 6#32 (rndS 15#32 17#32 (rndS 13#32 19#32 x)))
def fourS' (x : Pair) : Pair := rndS 24#32 8#32 (rndS 16#32 16#32 (rndS 29#32 3#32 (rndS 17#32 15#32 x)))
/-- The hash of the pair `x` under the key `(k0, k1)`, whose third word is `k2`. -/
def hashP (k0 k1 k2 : BitVec 32) (x : Pair) : Pair :=
  injS k2 k0 5#32 (fourS (injS k1 k2 4#32 (fourS' (injS k0 k1 3#32 (fourS (injS k2 k0 2#32 (fourS' (injS k1 k2 1#32
    (fourS (x.1 + k0, x.2 + k1))))))))))

/-- One cell of a pair of vectors. -/
def cell {s : Shape} (x : IVec s 32 × IVec s 32) (i : s.Idx) : Pair := (x.1 i, x.2 i)

theorem cell_rnd {s : Shape} (r r' : BitVec 32) (hr : r.toNat < 32) (hr' : r'.toNat < 32) (x : IVec s 32 × IVec s 32) (i : s.Idx) :
    cell (rnd r r' x) i = rndS r r' (cell x i) := by
  show (x.1 i + x.2 i, (IntOp.shli .vector (x.2 i) r ||| IntOp.shrui .vector (x.2 i) r') ^^^ (x.1 i + x.2 i)) = _
  rw [IntOp.shli, IntOp.shrui, if_pos hr, if_pos hr']
  rfl

theorem cell_inj {s : Shape} (a b n : BitVec 32) (x : IVec s 32 × IVec s 32) (i : s.Idx) : cell (inj a b n x) i = injS a b n (cell x i) := rfl

theorem cell_four {s : Shape} (x : IVec s 32 × IVec s 32) (i : s.Idx) : cell (four x) i = fourS (cell x i) := by
  unfold four fourS
  rw [cell_rnd _ _ (by decide) (by decide), cell_rnd _ _ (by decide) (by decide), cell_rnd _ _ (by decide) (by decide), cell_rnd _ _ (by decide) (by decide)]

theorem cell_four' {s : Shape} (x : IVec s 32 × IVec s 32) (i : s.Idx) : cell (four' x) i = fourS' (cell x i) := by
  unfold four' fourS'
  rw [cell_rnd _ _ (by decide) (by decide), cell_rnd _ _ (by decide) (by decide), cell_rnd _ _ (by decide) (by decide), cell_rnd _ _ (by decide) (by decide)]

theorem cell_hash {s : Shape} (k0 k1 k2 : BitVec 32) (c : IVec s 32) (i : s.Idx) : cell (hash k0 k1 k2 c) i = hashP k0 k1 k2 (0#32, c i) := by
  unfold hash hashP
  rw [cell_inj, cell_four, cell_inj, cell_four', cell_inj, cell_four, cell_inj, cell_four', cell_inj, cell_four]
  show injS _ _ _ (fourS (injS _ _ _ (fourS' (injS _ _ _ (fourS (injS _ _ _ (fourS' (injS _ _ _ (fourS (k0, c i + k1)))))))))) = _
  rw [BitVec.zero_add]

/-! ## The noise of one word -/

abbrev one32 : EReal := Ideal.ofBits .f32 0x3F800000#32
abbrev tiny32 : EReal := Ideal.ofBits .f32 0x00800000#32

/-- The number in the unit interval that a word gives. -/
def unitS (b : BitVec 32) : EReal :=
  max tiny32 ((Ideal.ofBits .f32 ((b >>> 9#32) ||| 1065353216#32) - one32) * (one32 - tiny32) + tiny32)
/-- The noise that a word gives. -/
def gumS (b : BitVec 32) : EReal := - Ideal.log (- Ideal.log (unitS b))
/-- The noise of counter `c`. -/
def noiseS (k0 k1 k2 c : BitVec 32) : EReal := gumS ((hashP k0 k1 k2 (0#32, c)).1 ^^^ (hashP k0 k1 k2 (0#32, c)).2)

theorem zero_bits : Ideal.ofBits .f32 0x00000000#32 = 0 := by simp [Ideal.ofBits, Ideal.ieee]

theorem noise_apply {s : Shape} (k0 k1 k2 : BitVec 32) (c : IVec s 32) (i : s.Idx) :
    noise (F := Ideal) k0 k1 k2 c i = noiseS k0 k1 k2 (c i) := by
  have h := cell_hash k0 k1 k2 c i
  have h1 : (hash k0 k1 k2 c).1 i = _ := congrArg Prod.fst h
  have h2 : (hash k0 k1 k2 c).2 i = _ := congrArg Prod.snd h
  show Ideal.ofBits .f32 0x00000000#32 - Ideal.log (Ideal.ofBits .f32 0x00000000#32 - Ideal.log (max tiny32
    ((Ideal.ofBits .f32 (IntOp.shrui .vector ((hash k0 k1 k2 c).1 i ^^^ (hash k0 k1 k2 c).2 i) 9#32 ||| 1065353216#32) - one32) * (one32 - tiny32) + tiny32))) = _
  rw [h1, h2, IntOp.shrui, if_pos (by decide), zero_bits, zero_sub, zero_sub]
  rfl

/-! ## Its bounds -/

theorem one_bits : one32 = ((1 : ℝ) : EReal) := by
  simp [one32, Ideal.ofBits, Ideal.ieee, -EReal.coe_mul]; norm_num

/-- The smallest number of the unit interval that is drawn. -/
def least : ℝ := (2 : ℝ) ^ (-126 : ℤ)

theorem tiny_bits : tiny32 = (least : EReal) := by
  unfold least
  simp [tiny32, Ideal.ofBits, Ideal.ieee, -EReal.coe_mul]; norm_num

theorem mant_bits (b : BitVec 32) : ∃ f : ℕ, f < 2 ^ 23 ∧ Ideal.ofBits .f32 ((b >>> 9#32) ||| 1065353216#32) = ((1 + f / 2 ^ 23 : ℝ) : EReal) := by
  have hs : b >>> 9#32 = b >>> 9 := rfl
  have hsm : (b >>> 9).toNat < 2 ^ 23 := by
    rw [BitVec.toNat_ushiftRight, Nat.shiftRight_eq_div_pow]
    have := b.isLt
    omega
  have e1 : ((b >>> 9) ||| 1065353216#32).extractLsb' 31 1 = 0#1 := by
    ext i hi
    have : i = 0 := by omega
    subst this
    simp
  have e2 : ((b >>> 9) ||| 1065353216#32).extractLsb' 23 8 = 127#8 := by
    ext i hi
    have hb : (b >>> 9).getLsbD (23 + i) = false := by
      rw [BitVec.getLsbD]; exact Nat.testBit_lt_two_pow (lt_of_lt_of_le hsm (Nat.pow_le_pow_right (by omega) (by omega)))
    rw [BitVec.getElem_extractLsb', BitVec.getLsbD_or, hb, Bool.false_or]
    clear hb
    revert i; decide
  refine ⟨(((b >>> 9) ||| 1065353216#32).extractLsb' 0 23).toNat, BitVec.isLt _, ?_⟩
  rw [hs]
  generalize ((b >>> 9) ||| 1065353216#32) = x at e1 e2
  show Ideal.ieee 8 23 x = _
  unfold Ideal.ieee
  have h1 : x.extractLsb' (8 + 23) 1 = 0#1 := e1
  dsimp only
  rw [h1, e2]
  rw [if_neg (by decide), if_neg (by decide)]
  refine congrArg _ ?_
  have : ((127#8).toNat : ℤ) = 127 := by decide
  rw [this]
  push_cast
  norm_num
  ring

theorem least_pos : 0 < least := by unfold least; positivity
theorem least_small : least ≤ 1 / 1000 := by
  unfold least
  rw [zpow_neg, one_div]
  exact inv_anti₀ (by norm_num) (by norm_num)

theorem unit_real (b : BitVec 32) : ∃ u : ℝ, unitS b = (u : EReal) ∧ least ≤ u ∧ u ≤ 1 - (1 - least) / 2 ^ 23 := by
  obtain ⟨f, hf, e⟩ := mant_bits b
  have hf' : (f : ℝ) ≤ 2 ^ 23 - 1 := by
    have : (f : ℝ) + 1 ≤ ((2 ^ 23 : ℕ) : ℝ) := by exact_mod_cast hf
    push_cast at this
    linarith
  have h1 := least_pos
  have h2 := least_small
  refine ⟨(f : ℝ) / 2 ^ 23 * (1 - least) + least, ?_, ?_, ?_⟩
  · unfold unitS
    rw [e, one_bits, tiny_bits]
    rw [← EReal.coe_sub, ← EReal.coe_sub, ← EReal.coe_mul, ← EReal.coe_add]
    have : (1 + (f : ℝ) / 2 ^ 23 - 1) * (1 - least) + least = (f : ℝ) / 2 ^ 23 * (1 - least) + least := by ring
    rw [this]
    refine max_eq_right (EReal.coe_le_coe_iff.2 ?_)
    have : 0 ≤ (f : ℝ) / 2 ^ 23 * (1 - least) := mul_nonneg (by positivity) (by linarith)
    linarith
  · have : 0 ≤ (f : ℝ) / 2 ^ 23 * (1 - least) := mul_nonneg (by positivity) (by linarith)
    linarith
  · have : (f : ℝ) / 2 ^ 23 * (1 - least) ≤ (2 ^ 23 - 1) / 2 ^ 23 * (1 - least) := by
      refine mul_le_mul_of_nonneg_right ?_ (by linarith)
      exact div_le_div_of_nonneg_right hf' (by positivity)
    refine le_trans (add_le_add this (le_refl least)) (le_of_eq ?_)
    field_simp
    ring

/-- Bounds of the noise. -/
abbrev noiseLo : ℝ := - Real.log (- Real.log least)
abbrev noiseHi : ℝ := - Real.log ((1 - least) / 2 ^ 23)

theorem gum_real (b : BitVec 32) : ∃ g : ℝ, gumS b = (g : EReal) ∧ noiseLo ≤ g ∧ g ≤ noiseHi := by
  obtain ⟨u, e, h1, h2⟩ := unit_real b
  have h3 := least_pos
  have h4 := least_small
  have hu : 0 < u := lt_of_lt_of_le h3 h1
  have hd : 0 < (1 - least) / 2 ^ 23 := div_pos (by linarith) (by positivity)
  have hl : (1 - least) / 2 ^ 23 ≤ - Real.log u := by
    have := Real.log_le_sub_one_of_pos hu
    linarith
  have hl0 : 0 < - Real.log u := lt_of_lt_of_le hd hl
  refine ⟨- Real.log (- Real.log u), ?_, ?_, ?_⟩
  · unfold gumS
    rw [e, Ideal.log_coe, if_neg (not_le.2 hu), ← EReal.coe_neg, Ideal.log_coe, if_neg (not_le.2 hl0), EReal.coe_neg]
  · refine neg_le_neg (Real.log_le_log hl0 ?_)
    exact neg_le_neg (Real.log_le_log h3 h1)
  · exact neg_le_neg (Real.log_le_log hd hl)

theorem log_two_small : Real.log 2 ≤ 0.6932 := by
  rw [Real.log_le_iff_le_exp (by norm_num)]
  refine le_trans ?_ (Real.sum_le_exp_of_nonneg (x := 0.6932) (by norm_num) 7)
  norm_num [Finset.sum_range_succ, Nat.factorial]

theorem exp_large : (7.4e8 : ℝ) ≤ Real.exp 20.49 := by
  have h1 : (2.718 : ℝ) ≤ Real.exp 1 := by
    refine le_trans ?_ (Real.sum_le_exp_of_nonneg (x := 1) (by norm_num) 8)
    norm_num [Finset.sum_range_succ, Nat.factorial]
  have h2 : (1.61 : ℝ) ≤ Real.exp 0.49 := by
    refine le_trans ?_ (Real.quadratic_le_exp_of_nonneg (x := 0.49) (by norm_num))
    norm_num
  have e : Real.exp 20.49 = Real.exp 1 ^ 20 * Real.exp 0.49 := by
    rw [← Real.exp_nat_mul, ← Real.exp_add]; norm_num
  rw [e]
  calc (7.4e8 : ℝ) ≤ 2.718 ^ 20 * 1.61 := by norm_num
    _ ≤ _ := mul_le_mul (pow_le_pow_left₀ (by norm_num) h1 20) h2 (by norm_num) (by positivity)

/-- The spread of the noise. -/
theorem noise_gap : noiseHi - noiseLo < 20.49 := by
  have h3 := least_pos
  have h4 := least_small
  have hd : 0 < (1 - least) / 2 ^ 23 := div_pos (by linarith) (by positivity)
  have hll : - Real.log least = 126 * Real.log 2 := by
    unfold least
    rw [Real.log_zpow]
    push_cast
    ring
  have hl2 : 0 < Real.log 2 := Real.log_pos (by norm_num)
  have hp : 0 < 126 * Real.log 2 := by positivity
  have key : 126 * Real.log 2 < Real.exp 20.49 * ((1 - least) / 2 ^ 23) := by
    have a1 : 126 * Real.log 2 ≤ 87.3432 := by have := log_two_small; linarith
    have a2 : (7.4e8 : ℝ) * ((1 - least) / 2 ^ 23) ≤ Real.exp 20.49 * ((1 - least) / 2 ^ 23) := mul_le_mul_of_nonneg_right exp_large hd.le
    have a3 : (87.3432 : ℝ) < 7.4e8 * ((1 - least) / 2 ^ 23) := by
      have : (7.4e8 : ℝ) * ((1 - 1 / 1000) / 2 ^ 23) ≤ 7.4e8 * ((1 - least) / 2 ^ 23) := by
        refine mul_le_mul_of_nonneg_left ?_ (by norm_num)
        exact div_le_div_of_nonneg_right (by linarith) (by positivity)
      refine lt_of_lt_of_le ?_ this
      norm_num
    linarith
  have := Real.log_lt_log hp key
  rw [Real.log_mul (Real.exp_pos _).ne' hd.ne', Real.log_exp] at this
  unfold noiseHi noiseLo
  rw [hll]
  linarith

end Cert.Walks

end
-- ==== Proof.WalkDraw.lean ====
/- What the draw among the near edges finds: the first of the directed edges with the best score. -/
module

public import proofs.«01_k».proof.Proof.WalkNoise

@[expose] public section

noncomputable section

namespace Cert.Walks

open Idealize.ShloMosaic

/-! ## Directed edges: `c` below 50000 is edge `c` forward, the others backward -/

/-- The edge of directed edge `c`. -/
def ed (c : ℕ) : ℕ := if c < 50000 then c else c - 50000
def Graph.src (G : Graph) (c : ℕ) : BitVec 32 := if c < 50000 then G.u c else G.v (c - 50000)
def Graph.dst (G : Graph) (c : ℕ) : BitVec 32 := if c < 50000 then G.v c else G.u (c - 50000)
def Graph.tim (G : Graph) (c : ℕ) : EReal := G.t (ed c)
/-- Directed edge `c` leaves `cn` and is older than `ct`. -/
def Graph.valid (G : Graph) (cn : BitVec 32) (ct : EReal) (c : ℕ) : Prop := G.src c = cn ∧ G.tim c < ct

abbrev tenth32 : EReal := Ideal.ofBits .f32 0x3DCCCCCD#32
abbrev near32 : EReal := Ideal.ofBits .f32 0x40033333#32

open Classical in
/-- The score of directed edge `c` with noise `g`. -/
def Graph.score (G : Graph) (g : ℕ → EReal) (cn : BitVec 32) (ct tm : EReal) (c : ℕ) : EReal :=
  if G.valid cn ct c then Ideal.div (G.tim c - tm) tenth32 + g c else ⊥

/-- `c` is the first of the directed edges with the best score. -/
def FirstBest (s : ℕ → EReal) (c : ℕ) : Prop := c < 100000 ∧ ∀ e, e < 100000 → s e < s c ∨ (s e = s c ∧ c ≤ e)

theorem FirstBest.exists (s : ℕ → EReal) : ∃ c, FirstBest s c := by
  have h : ∀ n, ∃ c, c < n + 1 ∧ ∀ e, e < n + 1 → s e < s c ∨ (s e = s c ∧ c ≤ e) := by
    intro n
    induction n with
    | zero => exact ⟨0, by omega, fun e he => by obtain rfl : e = 0 := by omega
                                                 exact Or.inr ⟨rfl, le_refl _⟩⟩
    | succ n ih =>
      obtain ⟨c, hc, h⟩ := ih
      by_cases hn : s c < s (n + 1)
      · refine ⟨n + 1, by omega, fun e he => ?_⟩
        rcases Nat.lt_or_ge e (n + 1) with he' | he'
        · rcases h e he' with h' | h'
          · exact Or.inl (lt_trans h' hn)
          · exact Or.inl (by rw [h'.1]; exact hn)
        · obtain rfl : e = n + 1 := by omega
          exact Or.inr ⟨rfl, le_refl _⟩
      · refine ⟨c, by omega, fun e he => ?_⟩
        rcases Nat.lt_or_ge e (n + 1) with he' | he'
        · exact h e he'
        · obtain rfl : e = n + 1 := by omega
          rcases lt_or_eq_of_le (not_lt.1 hn) with h' | h'
          · exact Or.inl h'
          · exact Or.inr ⟨h', by omega⟩
  exact h 99999

theorem FirstBest.unique {s : ℕ → EReal} {a b : ℕ} (ha : FirstBest s a) (hb : FirstBest s b) : a = b := by
  rcases ha.2 b hb.1 with h | h
  · rcases hb.2 a ha.1 with h' | h'
    · exact absurd (lt_trans h h') (lt_irrefl _)
    · rw [h'.1] at h; exact absurd h (lt_irrefl _)
  · rcases hb.2 a ha.1 with h' | h'
    · rw [h.1] at h'; exact absurd h' (lt_irrefl _)
    · omega

/-! ## Real scores -/

/-- The noise is real, within the bounds. -/
def Noisy (g : ℕ → EReal) : Prop := ∀ c, ∃ x : ℝ, g c = (x : EReal) ∧ noiseLo ≤ x ∧ x ≤ noiseHi

theorem tenth_bits : ∃ d : ℝ, tenth32 = (d : EReal) ∧ 0 < d ∧ d ≤ 0.10001 := by
  refine ⟨13421773 * (2 : ℝ) ^ (-27 : ℤ), ?_, by positivity, by norm_num⟩
  simp [tenth32, Ideal.ofBits, Ideal.ieee, -EReal.coe_mul]

theorem near_bits : ∃ d : ℝ, near32 = (d : EReal) ∧ 2.0498 ≤ d := by
  refine ⟨8598323 * (2 : ℝ) ^ (-22 : ℤ), ?_, by norm_num⟩
  simp [near32, Ideal.ofBits, Ideal.ieee, -EReal.coe_mul]

theorem score_eq (x tm d g : ℝ) (hd : 0 < d) : Ideal.div ((x : EReal) - (tm : EReal)) (d : EReal) + (g : EReal) = (((x - tm) / d + g : ℝ) : EReal) := by
  have h0 : (d : EReal) ≠ 0 := by exact_mod_cast hd.ne'
  rw [Ideal.div, if_neg h0, ← EReal.coe_inv, ← EReal.coe_sub, ← EReal.coe_mul, ← EReal.coe_add]
  rfl

section
variable {G : Graph} {g : ℕ → EReal} {cn : BitVec 32} {ct tm : EReal}

theorem score_valid {c : ℕ} (h : G.valid cn ct c) : G.score g cn ct tm c = Ideal.div (G.tim c - tm) tenth32 + g c := if_pos h
theorem score_invalid {c : ℕ} (h : ¬ G.valid cn ct c) : G.score g cn ct tm c = ⊥ := if_neg h

theorem tim_real {c : ℕ} (hr : ∀ e, e < 50000 → G.t e ≠ ⊥) (hc : c < 100000) (h : G.valid cn ct c) : ∃ x : ℝ, G.tim c = (x : EReal) := by
  have h1 : G.tim c ≠ ⊥ := hr _ (by unfold ed; split <;> omega)
  have h2 : G.tim c ≠ ⊤ := fun e => by have := h.2; rw [e] at this; exact absurd this not_top_lt
  exact ⟨(G.tim c).toReal, (EReal.coe_toReal h2 h1).symm⟩

theorem score_ne_bot {c : ℕ} (hg : Noisy g) (hr : ∀ e, e < 50000 → G.t e ≠ ⊥) (htm : ∃ x : ℝ, tm = (x : EReal)) (hc : c < 100000)
    (h : G.valid cn ct c) : G.score g cn ct tm c ≠ ⊥ := by
  obtain ⟨x, hx⟩ := tim_real hr hc h
  obtain ⟨y, rfl⟩ := htm
  obtain ⟨n, hn, -, -⟩ := hg c
  obtain ⟨d, hd, hd0, -⟩ := tenth_bits
  rw [score_valid h, hx, hn, hd, score_eq _ _ _ _ hd0]
  exact EReal.coe_ne_bot _

/-- An edge that is not near loses to the latest. -/
theorem far_lt {c c0 : ℕ} (hg : Noisy g) (hr : ∀ e, e < 50000 → G.t e ≠ ⊥) (hc : c < 100000) (hc0 : c0 < 100000) (h0 : G.valid cn ct c0)
    (hm : G.tim c0 = tm) (hfar : G.tim c < tm - near32) : G.score g cn ct tm c < G.score g cn ct tm c0 := by
  obtain ⟨y, hy⟩ := tim_real hr hc0 h0
  rw [hm] at hy
  by_cases h : G.valid cn ct c
  · obtain ⟨x, hx⟩ := tim_real hr hc h
    obtain ⟨n, hn, -, hn2⟩ := hg c
    obtain ⟨n0, hn0, hn1, -⟩ := hg c0
    obtain ⟨d, hd, hd0, hd1⟩ := tenth_bits
    obtain ⟨q, hq, hq1⟩ := near_bits
    rw [score_valid h, score_valid h0, hm, hx, hy, hn, hn0, hd, score_eq _ _ _ _ hd0, score_eq _ _ _ _ hd0, EReal.coe_lt_coe_iff]
    rw [hx, hy, hq, ← EReal.coe_sub, EReal.coe_lt_coe_iff] at hfar
    have gap := noise_gap
    have h1 : (x - y) / d < -20.49 := by
      rw [div_lt_iff₀ hd0]
      nlinarith
    rw [sub_self, zero_div]
    linarith
  · rw [score_invalid h]
    exact bot_lt_iff_ne_bot.2 (score_ne_bot hg hr ⟨y, hy⟩ hc0 h0)
end

/-! ## One run weighed -/

theorem edgeNo_apply (R : Rows 8 1024) {q : ℕ} (hq : q < 50) (k : Fin 1024) :
    edgeNo R (BitVec.ofNat 32 q) (ix2 0 k) = BitVec.ofNat 32 (1024 * q + k.val) := by
  show BitVec.ofNat 32 q * 1024#32 + iota .tc (Sh 1 1024) 32 [1] R.iota (ix2 0 k) = _
  rw [iota_single_apply]
  refine BitVec.eq_of_toNat_eq ?_
  have := k.isLt
  show _ = _
  simp only [BitVec.toNat_add, BitVec.toNat_mul, BitVec.toNat_ofNat]
  show (q % 2 ^ 32 * (1024 % 2 ^ 32) % 2 ^ 32 + k.val % 2 ^ 32) % 2 ^ 32 = _
  omega

/-- The best of the directed edges whose edge lies from `a` to `b`: its score, where it leads, its time and its number; the first
    among equals. -/
def BestOf (G : Graph) (s : ℕ → EReal) (a b : ℕ) (m : EReal) (d : BitVec 32) (t : EReal) (j : BitVec 32) : Prop :=
  (∀ c, c < 100000 → a ≤ ed c → ed c < b → s c ≤ m)
    ∧ (m = ⊥ ∨ ∃ c, c < 100000 ∧ a ≤ ed c ∧ ed c < b ∧ s c = m ∧ G.dst c = d ∧ G.tim c = t ∧ j = BitVec.ofNat 32 c
      ∧ ∀ e, e < 100000 → a ≤ ed e → ed e < b → s e = m → c ≤ e)

/-- The forward and the backward scores of edge `e`. -/
def fwd (s : ℕ → EReal) (e : ℕ) : EReal := if e < 50000 then s e else ⊥
def bwd (s : ℕ → EReal) (e : ℕ) : EReal := if e < 50000 then s (e + 50000) else ⊥

theorem weigh_spec (R : Rows 8 1024) (G : Graph) (E : Edges Ideal 1024) {q : ℕ} (hq : q < 50) (hE : Holds G E (1024 * q)) (s : ℕ → EReal)
    (f b : FVec Ideal (Sh 8 1024) .f32) (r : Fin 8) (hf : ∀ k : Fin 1024, f (ix2 r k) = fwd s (1024 * q + k.val))
    (hb : ∀ k : Fin 1024, b (ix2 r k) = bwd s (1024 * q + k.val)) (x : Best Ideal) :
    ∃ (m : EReal) (d : BitVec 32) (t : EReal) (j : BitVec 32), BestOf G s (1024 * q) (1024 * (q + 1)) m d t j
      ∧ ((x.1 (ix2 r 0) : EReal) < m ∨ (m = x.1 (ix2 r 0) ∧ j.toInt < (x.2.2.2 (ix2 r 0)).toInt)
          → (weigh R E (BitVec.ofNat 32 q) f b x).1 (ix2 r 0) = m ∧ (weigh R E (BitVec.ofNat 32 q) f b x).2.1 (ix2 r 0) = d
            ∧ (weigh R E (BitVec.ofNat 32 q) f b x).2.2.1 (ix2 r 0) = t ∧ (weigh R E (BitVec.ofNat 32 q) f b x).2.2.2 (ix2 r 0) = j)
      ∧ (¬ ((x.1 (ix2 r 0) : EReal) < m ∨ (m = x.1 (ix2 r 0) ∧ j.toInt < (x.2.2.2 (ix2 r 0)).toInt))
          → (weigh R E (BitVec.ofNat 32 q) f b x).1 (ix2 r 0) = x.1 (ix2 r 0) ∧ (weigh R E (BitVec.ofNat 32 q) f b x).2.1 (ix2 r 0) = x.2.1 (ix2 r 0)
            ∧ (weigh R E (BitVec.ofNat 32 q) f b x).2.2.1 (ix2 r 0) = x.2.2.1 (ix2 r 0) ∧ (weigh R E (BitVec.ofNat 32 q) f b x).2.2.2 (ix2 r 0) = x.2.2.2 (ix2 r 0)) := by
  -- the run's best
  generalize hfw : cmpf .oge f b = fw
  generalize hm : rowMax R (maximumf f b) = m
  generalize hno : select (cmpf .oeq (maximumf f b) (broadcastTo (Sh 8 1024) m R.col))
    (select fw (broadcastTo (Sh 8 1024) (shapeCast (Sh 1 1024) (edgeNo R (BitVec.ofNat 32 q)) R.self) R.row)
      (broadcastTo (Sh 8 1024) (shapeCast (Sh 1 1024) (addi (edgeNo R (BitVec.ofNat 32 q)) (broadcast (Sh 1 1024) 50000#32)) R.self) R.row))
    (broadcast (Sh 8 1024) 2147483647#32) = no
  generalize hj : rowMin R no = j
  generalize hd : rowSum R (select (cmpi .eq no (broadcastTo (Sh 8 1024) j R.col)) (select fw (broadcastTo (Sh 8 1024) (shapeCast (Sh 1 1024) E.2.1 R.self) R.row)
    (broadcastTo (Sh 8 1024) (shapeCast (Sh 1 1024) E.1 R.self) R.row)) (broadcast (Sh 8 1024) 0#32)) = d
  generalize ht : rowSumF R (select (cmpi .eq no (broadcastTo (Sh 8 1024) j R.col)) (broadcastTo (Sh 8 1024) (shapeCast (Sh 1 1024) E.2.2 R.self) R.row)
    (broadcast (Sh 8 1024) (Scalar.ofBits .f32 0x00000000#32))) = t
  have hw : weigh R E (BitVec.ofNat 32 q) f b x =
      (select (ori (cmpf .ogt m x.1) (andi (cmpf .oeq m x.1) (cmpi .slt j x.2.2.2))) m x.1,
        select (ori (cmpf .ogt m x.1) (andi (cmpf .oeq m x.1) (cmpi .slt j x.2.2.2))) d x.2.1,
        select (ori (cmpf .ogt m x.1) (andi (cmpf .oeq m x.1) (cmpi .slt j x.2.2.2))) t x.2.2.1,
        select (ori (cmpf .ogt m x.1) (andi (cmpf .oeq m x.1) (cmpi .slt j x.2.2.2))) j x.2.2.2) := by
    subst hfw hm hno hj hd ht; rfl
  have hwin : ori (cmpf .ogt m x.1) (andi (cmpf .oeq m x.1) (cmpi .slt j x.2.2.2)) (ix2 r 0) = 1#1
      ↔ ((x.1 (ix2 r 0) : EReal) < m (ix2 r 0) ∨ (m (ix2 r 0) = x.1 (ix2 r 0) ∧ (j (ix2 r 0)).toInt < (x.2.2.2 (ix2 r 0)).toInt)) := by
    show BitVec.ofBool (decide ((x.1 (ix2 r 0) : EReal) < m (ix2 r 0))) ||| (BitVec.ofBool (decide ((m (ix2 r 0) : EReal) = x.1 (ix2 r 0)))
      &&& BitVec.ofBool ((j (ix2 r 0)).slt (x.2.2.2 (ix2 r 0)))) = 1#1 ↔ _
    rw [or_one, and_one, ofBool_one, ofBool_one, ofBool_one, decide_eq_true_iff, decide_eq_true_iff, BitVec.slt_iff_toInt_lt]
  refine ⟨m (ix2 r 0), d (ix2 r 0), t (ix2 r 0), j (ix2 r 0), ?_, fun h => ?_, fun h => ?_⟩
  rotate_left
  · rw [hw]
    exact ⟨sel_pos (hwin.2 h) _ _, sel_pos (hwin.2 h) _ _, sel_pos (hwin.2 h) _ _, sel_pos (hwin.2 h) _ _⟩
  · rw [hw]
    exact ⟨sel_neg (fun e => h (hwin.1 e)) _ _, sel_neg (fun e => h (hwin.1 e)) _ _, sel_neg (fun e => h (hwin.1 e)) _ _, sel_neg (fun e => h (hwin.1 e)) _ _⟩
  obtain ⟨mle, mat⟩ := rowMax_spec R (maximumf f b) r
  rw [hm] at mle mat
  have mle1 : ∀ k : Fin 1024, fwd s (1024 * q + k.val) ≤ m (ix2 r 0) := fun k => by rw [← hf]; exact le_trans (le_max_left _ _) (mle k)
  have mle2 : ∀ k : Fin 1024, bwd s (1024 * q + k.val) ≤ m (ix2 r 0) := fun k => by rw [← hb]; exact le_trans (le_max_right _ _) (mle k)
  have lec : ∀ c, c < 100000 → 1024 * q ≤ ed c → ed c < 1024 * (q + 1) → s c ≤ m (ix2 r 0) := by
    intro c hc h1 h2
    by_cases h : c < 50000
    · have := mle1 ⟨c - 1024 * q, by rw [ed, if_pos h] at h1 h2; omega⟩
      rw [ed, if_pos h] at h1
      rw [show 1024 * q + (⟨c - 1024 * q, _⟩ : Fin 1024).val = c from by show 1024 * q + (c - 1024 * q) = c; omega, fwd, if_pos h] at this
      exact this
    · have := mle2 ⟨c - 50000 - 1024 * q, by rw [ed, if_neg h] at h1 h2; omega⟩
      rw [ed, if_neg h] at h1
      rw [show 1024 * q + (⟨c - 50000 - 1024 * q, _⟩ : Fin 1024).val = c - 50000 from by show 1024 * q + (c - 50000 - 1024 * q) = c - 50000; omega,
        bwd, if_pos (by omega), show c - 50000 + 50000 = c from by omega] at this
      exact this
  refine ⟨lec, ?_⟩
  by_cases hbot : m (ix2 r 0) = (⊥ : EReal)
  · exact Or.inl hbot
  refine Or.inr ?_
  obtain ⟨k1, hk1⟩ := mat.resolve_left hbot
  have hmx : ∀ k : Fin 1024, (maximumf f b (ix2 r k) : EReal) = max (fwd s (1024 * q + k.val)) (bwd s (1024 * q + k.val)) := fun k => by
    show max (f (ix2 r k) : EReal) (b (ix2 r k)) = _
    rw [hf, hb]
  have hfw1 : ∀ k : Fin 1024, fw (ix2 r k) = 1#1 ↔ bwd s (1024 * q + k.val) ≤ fwd s (1024 * q + k.val) := fun k => by
    rw [← hfw]
    show BitVec.ofBool (decide ((b (ix2 r k) : EReal) ≤ f (ix2 r k))) = 1#1 ↔ _
    rw [ofBool_one, decide_eq_true_iff, hf, hb]
  have hno1 : ∀ k : Fin 1024, no (ix2 r k) = if max (fwd s (1024 * q + k.val)) (bwd s (1024 * q + k.val)) = m (ix2 r 0) then
      (if bwd s (1024 * q + k.val) ≤ fwd s (1024 * q + k.val) then BitVec.ofNat 32 (1024 * q + k.val) else BitVec.ofNat 32 (1024 * q + k.val + 50000))
      else 2147483647#32 := fun k => by
    rw [← hno]
    show Scalar.select (BitVec.ofBool (decide ((maximumf f b (ix2 r k) : EReal) = broadcastTo (Sh 8 1024) m R.col (ix2 r k))))
      (Scalar.select (fw (ix2 r k)) (broadcastTo (Sh 8 1024) (shapeCast (Sh 1 1024) (edgeNo R (BitVec.ofNat 32 q)) R.self) R.row (ix2 r k))
      (broadcastTo (Sh 8 1024) (shapeCast (Sh 1 1024) (addi (edgeNo R (BitVec.ofNat 32 q)) (broadcast (Sh 1 1024) 50000#32)) R.self) R.row (ix2 r k))) 2147483647#32 = _
    rw [row_apply R, row_apply R, col_apply R, shapeCast_self, shapeCast_self, edgeNo_apply R hq, hmx]
    show Scalar.select _ (Scalar.select _ _ (edgeNo R (BitVec.ofNat 32 q) (ix2 0 k) + 50000#32)) _ = _
    rw [edgeNo_apply R hq, sel_if (hfw1 k), sel_if ((ofBool_one _).trans decide_eq_true_iff), show (50000#32) = BitVec.ofNat 32 50000 from rfl, ← BitVec.ofNat_add]
  -- a cell that holds the best is a real edge's
  have real1 : ∀ k : Fin 1024, max (fwd s (1024 * q + k.val)) (bwd s (1024 * q + k.val)) = m (ix2 r 0) → 1024 * q + k.val < 50000 := fun k h => by
    by_contra hc
    rw [fwd, bwd, if_neg hc, if_neg hc, max_self] at h
    exact hbot h.symm
  obtain ⟨jle, jat⟩ := rowMin_spec R no r
  rw [hj] at jle jat
  have small : ∀ k : Fin 1024, max (fwd s (1024 * q + k.val)) (bwd s (1024 * q + k.val)) = m (ix2 r 0) →
      ∃ c, c < 100000 ∧ ed c = 1024 * q + k.val ∧ s c = m (ix2 r 0) ∧ no (ix2 r k) = BitVec.ofNat 32 c
        ∧ (fw (ix2 r k) = 1#1 ↔ c < 50000)
        ∧ (∀ e, e < 100000 → ed e = 1024 * q + k.val → s e = m (ix2 r 0) → c ≤ e) := fun k h => by
    have hk := real1 k h
    have e1 : fwd s (1024 * q + k.val) = s (1024 * q + k.val) := if_pos hk
    have e2 : bwd s (1024 * q + k.val) = s (1024 * q + k.val + 50000) := if_pos hk
    by_cases hc : bwd s (1024 * q + k.val) ≤ fwd s (1024 * q + k.val)
    · refine ⟨1024 * q + k.val, by omega, if_pos hk, ?_, ?_, ?_, ?_⟩
      · rw [max_eq_left hc, e1] at h; exact h
      · rw [hno1, if_pos h, if_pos hc]
      · exact (hfw1 k).trans ⟨fun _ => hk, fun _ => hc⟩
      · intro e he h1 h2
        unfold ed at h1
        split at h1 <;> omega
    · refine ⟨1024 * q + k.val + 50000, by omega, ?_, ?_, ?_, ?_, ?_⟩
      · unfold ed; rw [if_neg (by omega)]; omega
      · rw [max_eq_right (le_of_lt (not_le.1 hc)), e2] at h; exact h
      · rw [hno1, if_pos h, if_neg hc]
      · exact (hfw1 k).trans ⟨fun h => absurd h hc, fun h => absurd h (by omega)⟩
      · intro e he h1 h2
        unfold ed at h1
        split at h1
        · subst h1
          rw [max_eq_right (le_of_lt (not_le.1 hc)), e2] at h
          rw [e1, e2, h, h2] at hc
          exact absurd (le_refl _) hc
        · omega
  have hjlt : (j (ix2 r 0)).toInt < 2147483647 := by
    obtain ⟨c, hc, -, -, hc2, -⟩ := small k1 (by rw [← hmx]; exact hk1)
    have := jle k1
    rw [hc2, toInt_ofNat (by omega)] at this
    omega
  have hjn : j (ix2 r 0) ≠ 2147483647#32 := fun e => by rw [e] at hjlt; revert hjlt; decide
  obtain ⟨z, hz⟩ := jat.resolve_left hjn
  have hzm : max (fwd s (1024 * q + z.val)) (bwd s (1024 * q + z.val)) = m (ix2 r 0) := by
    by_contra h
    rw [hno1, if_neg h] at hz
    exact hjn hz.symm
  obtain ⟨c, hc, hce, hcs, hcn, hcf, hcmin⟩ := small z hzm
  have hjc : j (ix2 r 0) = BitVec.ofNat 32 c := by rw [← hz, hcn]
  -- the marked cell is the only one
  have hot : ∀ k, cmpi .eq no (broadcastTo (Sh 8 1024) j R.col) (ix2 r k) = 1#1 ↔ k = z := fun k => by
    show BitVec.ofBool (no (ix2 r k) == broadcastTo (Sh 8 1024) j R.col (ix2 r k)) = 1#1 ↔ _
    rw [col_apply R, ofBool_one, beq_iff_eq, ← hz]
    constructor
    · intro h
      by_cases hk : max (fwd s (1024 * q + k.val)) (bwd s (1024 * q + k.val)) = m (ix2 r 0)
      · obtain ⟨c', hc', hce', -, hcn', -⟩ := small k hk
        rw [hcn, hcn'] at h
        have := ofNat_inj (by omega) (by omega) h
        subst this
        exact Fin.ext (by omega)
      · rw [hno1 k, if_neg hk, hz] at h
        exact absurd h.symm hjn
    · rintro rfl; rfl
  have hzr := real1 z hzm
  refine ⟨c, hc, by omega, by have := z.isLt; omega, hcs, ?_, ?_, hjc, ?_⟩
  · rw [← hd, rowSum_one R _ r z]
    · show _ = Scalar.select (cmpi .eq no (broadcastTo (Sh 8 1024) j R.col) (ix2 r z)) (Scalar.select (fw (ix2 r z))
        (broadcastTo (Sh 8 1024) (shapeCast (Sh 1 1024) E.2.1 R.self) R.row (ix2 r z))
        (broadcastTo (Sh 8 1024) (shapeCast (Sh 1 1024) E.1 R.self) R.row (ix2 r z))) 0#32
      rw [sel_pos ((hot z).2 rfl), row_apply R, row_apply R, shapeCast_self, shapeCast_self, (hE z).1, (hE z).2.1, sel_if hcf]
      unfold Graph.dst
      unfold ed at hce
      split
      · next h => rw [if_pos h] at hce; rw [hce]
      · next h => rw [if_neg h] at hce; rw [hce]
    · intro k hk
      exact sel_neg (fun h => hk ((hot k).1 h)) _ _
  · rw [← ht, rowSumF_one R _ r z]
    · show _ = Scalar.select (cmpi .eq no (broadcastTo (Sh 8 1024) j R.col) (ix2 r z))
        (broadcastTo (Sh 8 1024) (shapeCast (Sh 1 1024) E.2.2 R.self) R.row (ix2 r z)) (Ideal.ofBits .f32 0x00000000#32)
      rw [sel_pos ((hot z).2 rfl), row_apply R, shapeCast_self, (hE z).2.2]
      unfold Graph.tim
      rw [hce]
    · intro k hk
      exact (sel_neg (fun h => hk ((hot k).1 h)) _ _).trans zero_bits
  · intro e he h1 h2 h3
    obtain ⟨k, hk⟩ : ∃ k : Fin 1024, ed e = 1024 * q + k.val := ⟨⟨ed e - 1024 * q, by omega⟩, by show ed e = 1024 * q + (ed e - 1024 * q); omega⟩
    have hkm : max (fwd s (1024 * q + k.val)) (bwd s (1024 * q + k.val)) = m (ix2 r 0) := by
      refine le_antisymm (max_le (mle1 k) (mle2 k)) ?_
      rw [← h3, ← hk]
      unfold fwd bwd ed
      by_cases h : e < 50000
      · rw [if_pos h, if_pos h]; exact le_max_left _ _
      · rw [if_neg h, if_pos (by omega), if_pos (by omega), show e - 50000 + 50000 = e from by omega]
        exact le_max_right _ _
    obtain ⟨c', hc', -, -, hcn', -, hmin'⟩ := small k hkm
    have := jle k
    rw [hjc, hcn', toInt_ofNat (by omega), toInt_ofNat (by omega)] at this
    have := hmin' e he hk h3
    omega

end Cert.Walks

end
-- ==== Proof.WalkNext.lean ====
/- Where a row of the walks kernel goes next: the first of the directed edges with the best score. -/
module

public import proofs.«01_k».proof.Proof.WalkDraw

@[expose] public section

noncomputable section

namespace Cert.Walks

open Idealize.ShloMosaic

/-! ## The test "any of the block" -/

theorem pos_word (v : EReal) :
    Scalar.cmpi .ne (Scalar.extui (Scalar.cmpf (F := Ideal) (φ := .f32) .ogt v (Scalar.ofBits .f32 0x00000000#32))) 0#32 = 1#1 ↔ (0 : EReal) < v := by
  show BitVec.ofBool ((BitVec.ofBool (decide (Ideal.ofBits .f32 0x00000000#32 < v))).setWidth 32 != 0#32) = 1#1 ↔ _
  rw [zero_bits]
  by_cases h : (0 : EReal) < v
  · rw [decide_eq_true h]; exact ⟨fun _ => h, fun _ => by decide⟩
  · rw [decide_eq_false h]; exact ⟨fun h' => absurd h' (by decide), fun h' => absurd h' h⟩

theorem anySet_one {m : ℕ} (A : Any m) (x : IVec (Sh 8 m) 1) :
    Scalar.cmpi .ne (anySet (F := Ideal) A x) 0#32 = 1#1 ↔ ∃ i, x i = 1#1 := by
  have sub : ∀ a b : (Sv 1).Idx, a = b := fun a b => funext fun z => Fin.ext (by
    fin_cases z
    have h1 : (a 0).val < 1 := (a 0).isLt
    have h2 : (b 0).val < 1 := (b 0).isLt
    show (a 0).val = (b 0).val
    omega)
  generalize hy : (shapeCast (Sb 8 m) (select x (broadcast (Sh 8 m) (Scalar.ofBits .f32 0x3F800000#32 : Ideal .f32))
        (broadcast (Sh 8 m) (Scalar.ofBits .f32 0x00000000#32))) A.lift) = y
  have hyi : ∀ i, (0 : EReal) < y i ↔ x (Shape.reshapeEquiv A.lift i) = 1#1 := by
    intro i
    rw [← hy]
    show (0 : EReal) < Scalar.select (x (Shape.reshapeEquiv A.lift i)) one32 (Ideal.ofBits .f32 0x00000000#32) ↔ _
    rw [zero_bits, one_bits]
    unfold Scalar.select
    split
    · next h => exact ⟨fun _ => h, fun _ => by exact_mod_cast one_pos⟩
    · next h => exact ⟨fun h' => absurd h' (lt_irrefl _), fun h' => absurd h' h⟩
  have key : ∀ j : (Sv 1).Idx, (0 : EReal) < multiReduction .maximumf [1, 2] (Sv 1) y 0xFF800000#32 A.red (.inl rfl) rfl j ↔ ∃ i, (0 : EReal) < y i := by
    intro j
    have e := multiReduction_maximumf_eq_fold (F := Ideal) y 0xFF800000#32 A.red (.inl rfl) rfl j
    rw [e]
    have hb : (FloatOps.ofBits (F := Ideal) .f32 (FKind.maximumf.neutral .f32 (.inl rfl))) = (⊥ : EReal) := bot_bits
    refine (Finset.lt_fold_max (0 : EReal)).trans ?_
    constructor
    · rintro (h | ⟨i, _, h⟩)
      · exact absurd (lt_of_lt_of_eq h hb) not_lt_bot
      · exact ⟨i, h⟩
    · rintro ⟨i, h⟩
      exact Or.inr ⟨i, Finset.mem_filter.2 ⟨Finset.mem_univ _, sub _ _⟩, h⟩
  have hany : Scalar.cmpi .ne (anySet (F := Ideal) A x) 0#32 = 1#1 ↔ ∃ i, (0 : EReal) < y i := by
    rw [← key (Shape.reshapeEquiv A.stand (fun a => ⟨(![0, 0, 0] : Fin 3 → Nat) a, A.pos a⟩)), ← hy]
    exact pos_word _
  rw [hany]
  constructor
  · rintro ⟨i, h⟩; exact ⟨_, (hyi i).1 h⟩
  · rintro ⟨i, h⟩
    refine ⟨(Shape.reshapeEquiv A.lift).symm i, (hyi _).2 ?_⟩
    rw [Equiv.apply_symm_apply]; exact h

/-! ## One row's scores -/

section
variable (R : Rows 8 1024) (k0 k1 k2 : BitVec 32) (wk cn : IVec (Sh 8 1) 32) (ct tm : FVec Ideal (Sh 8 1) .f32) (G : Graph) (r : Fin 8)

/-- The noise of directed edge `c` of the walk numbered `w`. -/
def drawn (k0 k1 k2 w : BitVec 32) (c : ℕ) : EReal := noiseS k0 k1 k2 (w * 100000#32 + BitVec.ofNat 32 c)

theorem drawn_noisy (w : BitVec 32) : Noisy (drawn k0 k1 k2 w) := fun _ => gum_real _

/-- The scores of row `r`. -/
abbrev rowScore : ℕ → EReal := G.score (drawn k0 k1 k2 (wk (ix2 r 0))) (cn (ix2 r 0)) (ct (ix2 r 0)) (tm (ix2 r 0))

/-- Padding has no ends in common with a row. -/
def Padded : Prop := ∀ e, 50000 ≤ e → G.u e ≠ cn (ix2 r 0) ∧ G.v e ≠ cn (ix2 r 0)

variable {G} {r} {cn}

theorem counter_apply {q : ℕ} (hq : q < 50) (k : Fin 1024) :
    counter R wk (BitVec.ofNat 32 q) (ix2 r k) = wk (ix2 r 0) * 100000#32 + BitVec.ofNat 32 (1024 * q + k.val) := by
  show broadcastTo (Sh 8 1024) (muli wk (broadcast (Sh 8 1) 100000#32)) R.col (ix2 r k) + broadcastTo (Sh 8 1024) (edgeNo R (BitVec.ofNat 32 q)) R.row (ix2 r k) = _
  rw [row_apply R, col_apply R, edgeNo_apply R hq]
  rfl

theorem scoreF_apply (hp : Padded cn G r) {q : ℕ} (hq : q < 50) (E : Edges Ideal 1024) (hE : Holds G E (1024 * q)) (k : Fin 1024) :
    scoreF R E k0 k1 k2 wk (BitVec.ofNat 32 q) cn ct tm (ix2 r k) = fwd (rowScore k0 k1 k2 wk cn ct tm G r) (1024 * q + k.val) := by
  show Scalar.select (mFwd R E cn (ix2 r k) &&& early R E ct (ix2 r k))
    (Ideal.div ((broadcastTo (Sh 8 1024) E.2.2 R.row (ix2 r k) : EReal) - broadcastTo (Sh 8 1024) tm R.col (ix2 r k)) tenth32
      + noise (F := Ideal) k0 k1 k2 (counter R wk (BitVec.ofNat 32 q)) (ix2 r k)) (bottom (F := Ideal) (Sh 8 1024) (ix2 r k)) = _
  rw [row_apply R, col_apply R, noise_apply, counter_apply R wk hq, bottom_apply, (hE k).2.2]
  have h1 : mFwd R E cn (ix2 r k) &&& early R E ct (ix2 r k) = 1#1 ↔ G.u (1024 * q + k.val) = cn (ix2 r 0) ∧ G.t (1024 * q + k.val) < ct (ix2 r 0) := by
    rw [and_one, mFwd_one, early_one, (hE k).1, (hE k).2.2]
  unfold fwd
  split
  · next hk =>
    have hv : G.valid (cn (ix2 r 0)) (ct (ix2 r 0)) (1024 * q + k.val) ↔ G.u (1024 * q + k.val) = cn (ix2 r 0) ∧ G.t (1024 * q + k.val) < ct (ix2 r 0) := by
      unfold Graph.valid Graph.src Graph.tim ed
      rw [if_pos hk, if_pos hk]
    by_cases h : G.valid (cn (ix2 r 0)) (ct (ix2 r 0)) (1024 * q + k.val)
    · rw [sel_pos (h1.2 (hv.1 h))]
      refine Eq.trans ?_ (score_valid h).symm
      unfold Graph.tim ed
      rw [if_pos hk]
      rfl
    · rw [sel_neg (fun e => h (hv.2 (h1.1 e)))]
      exact (score_invalid h).symm
  · next hk =>
    exact sel_neg (fun e => (hp _ (by omega)).1 (h1.1 e).1) _ _

theorem scoreB_apply (hp : Padded cn G r) {q : ℕ} (hq : q < 50) (E : Edges Ideal 1024) (hE : Holds G E (1024 * q)) (k : Fin 1024) :
    scoreB R E k0 k1 k2 wk (BitVec.ofNat 32 q) cn ct tm (ix2 r k) = bwd (rowScore k0 k1 k2 wk cn ct tm G r) (1024 * q + k.val) := by
  show Scalar.select (mBwd R E cn (ix2 r k) &&& early R E ct (ix2 r k))
    (Ideal.div ((broadcastTo (Sh 8 1024) E.2.2 R.row (ix2 r k) : EReal) - broadcastTo (Sh 8 1024) tm R.col (ix2 r k)) tenth32
      + noise (F := Ideal) k0 k1 k2 (addi (counter R wk (BitVec.ofNat 32 q)) (broadcast (Sh 8 1024) 50000#32)) (ix2 r k)) (bottom (F := Ideal) (Sh 8 1024) (ix2 r k)) = _
  rw [row_apply R, col_apply R, noise_apply, bottom_apply, (hE k).2.2]
  have hc : addi (counter R wk (BitVec.ofNat 32 q)) (broadcast (Sh 8 1024) 50000#32) (ix2 r k) = wk (ix2 r 0) * 100000#32 + BitVec.ofNat 32 (1024 * q + k.val + 50000) := by
    show counter R wk (BitVec.ofNat 32 q) (ix2 r k) + 50000#32 = _
    rw [counter_apply R wk hq, BitVec.add_assoc, show (50000#32) = BitVec.ofNat 32 50000 from rfl, ← BitVec.ofNat_add]
  rw [hc]
  have h1 : mBwd R E cn (ix2 r k) &&& early R E ct (ix2 r k) = 1#1 ↔ G.v (1024 * q + k.val) = cn (ix2 r 0) ∧ G.t (1024 * q + k.val) < ct (ix2 r 0) := by
    rw [and_one, mBwd_one, early_one, (hE k).2.1, (hE k).2.2]
  unfold bwd
  split
  · next hk =>
    have hv : G.valid (cn (ix2 r 0)) (ct (ix2 r 0)) (1024 * q + k.val + 50000) ↔ G.v (1024 * q + k.val) = cn (ix2 r 0) ∧ G.t (1024 * q + k.val) < ct (ix2 r 0) := by
      unfold Graph.valid Graph.src Graph.tim ed
      rw [if_neg (by omega), if_neg (by omega), Nat.add_sub_cancel]
    by_cases h : G.valid (cn (ix2 r 0)) (ct (ix2 r 0)) (1024 * q + k.val + 50000)
    · rw [sel_pos (h1.2 (hv.1 h))]
      refine Eq.trans ?_ (score_valid h).symm
      unfold Graph.tim ed
      rw [if_neg (by omega), Nat.add_sub_cancel]
      rfl
    · rw [sel_neg (fun e => h (hv.2 (h1.1 e)))]
      exact (score_invalid h).symm
  · next hk =>
    exact sel_neg (fun e => (hp _ (by omega)).2 (h1.1 e).1) _ _
end

/-! ## The runs one after another -/

/-- What the best so far says of the directed edges whose edge lies below `a`; `N` says which are near. -/
def Sofar (G : Graph) (s : ℕ → EReal) (N : ℕ → Prop) (a : ℕ) (bv : EReal) (bd : BitVec 32) (bt : EReal) (bj : BitVec 32) : Prop :=
  (bv = ⊥ ∨ ∃ c, c < 100000 ∧ s c = bv ∧ G.dst c = bd ∧ G.tim c = bt ∧ bj = BitVec.ofNat 32 c)
    ∧ ∀ c, c < 100000 → ed c < a → N c → s c < bv ∨ (s c = bv ∧ bj.toInt ≤ c)

theorem Sofar.skip {G : Graph} {s : ℕ → EReal} {N : ℕ → Prop} {a b : ℕ} {bv : EReal} {bd : BitVec 32} {bt : EReal} {bj : BitVec 32}
    (h : Sofar G s N a bv bd bt bj) (hn : ∀ c, c < 100000 → a ≤ ed c → ed c < b → ¬ N c) : Sofar G s N b bv bd bt bj :=
  ⟨h.1, fun c hc hb hN => h.2 c hc (by by_contra ha; exact hn c hc (by omega) hb hN) hN⟩

theorem Sofar.win {G : Graph} {s : ℕ → EReal} {N : ℕ → Prop} (hN : ∀ c, c < 100000 → N c → s c ≠ ⊥) {a b : ℕ} {bv : EReal} {bd : BitVec 32} {bt : EReal} {bj : BitVec 32}
    {m : EReal} {d : BitVec 32} {t : EReal} {j : BitVec 32}
    (h : Sofar G s N a bv bd bt bj) (hm : BestOf G s a b m d t j) (hw : bv < m ∨ (m = bv ∧ j.toInt < bj.toInt)) : Sofar G s N b m d t j := by
  refine ⟨hm.2.imp id fun ⟨c, hc, _, _, e1, e2, e3, e4, _⟩ => ⟨c, hc, e1, e2, e3, e4⟩, fun c hc hb hn => ?_⟩
  rcases Nat.lt_or_ge (ed c) a with ha | ha
  · rcases hw with hw | ⟨hw, hj⟩
    · rcases h.2 c hc ha hn with h' | h'
      · exact Or.inl (lt_trans h' hw)
      · exact Or.inl (by rw [h'.1]; exact hw)
    · rcases h.2 c hc ha hn with h' | h'
      · exact Or.inl (by rw [hw]; exact h')
      · exact Or.inr ⟨by rw [hw]; exact h'.1, by omega⟩
  · rcases lt_or_eq_of_le (hm.1 c hc ha hb) with h' | h'
    · exact Or.inl h'
    · refine Or.inr ⟨h', ?_⟩
      rcases hm.2 with hb' | ⟨z, hz, _, _, _, _, _, e4, e5⟩
      · exact absurd (h'.trans hb') (hN c hc hn)
      · rw [e4, toInt_ofNat (by omega)]
        exact_mod_cast e5 c hc ha hb h'

theorem Sofar.lose {G : Graph} {s : ℕ → EReal} {N : ℕ → Prop} (hN : ∀ c, c < 100000 → N c → s c ≠ ⊥) {a b : ℕ} {bv : EReal} {bd : BitVec 32} {bt : EReal} {bj : BitVec 32}
    {m : EReal} {d : BitVec 32} {t : EReal} {j : BitVec 32}
    (h : Sofar G s N a bv bd bt bj) (hm : BestOf G s a b m d t j) (hw : ¬ (bv < m ∨ (m = bv ∧ j.toInt < bj.toInt))) : Sofar G s N b bv bd bt bj := by
  rw [not_or, not_lt, not_and, not_lt] at hw
  refine ⟨h.1, fun c hc hb hn => ?_⟩
  rcases Nat.lt_or_ge (ed c) a with ha | ha
  · exact h.2 c hc ha hn
  · rcases lt_or_eq_of_le (le_trans (hm.1 c hc ha hb) hw.1) with h' | h'
    · exact Or.inl h'
    · refine Or.inr ⟨h', ?_⟩
      have hmb : m = bv := le_antisymm hw.1 (by rw [← h']; exact hm.1 c hc ha hb)
      rcases hm.2 with hb' | ⟨z, hz, _, _, _, _, _, e4, e5⟩
      · exact absurd (h'.trans (hmb.symm.trans hb')) (hN c hc hn)
      · have h1 := hw.2 hmb
        have h2 := e5 c hc ha hb (h'.trans hmb.symm)
        rw [e4, toInt_ofNat (by omega)] at h1
        omega

section
variable (R : Rows 8 1024) (A : Any 1024) (k0 k1 k2 : BitVec 32) (wk cn : IVec (Sh 8 1) 32) (ct tm : FVec Ideal (Sh 8 1) .f32) (G : Graph)

/-- The near directed edges of row `r`. -/
def Near (r : Fin 8) (c : ℕ) : Prop := G.valid (cn (ix2 r 0)) (ct (ix2 r 0)) c ∧ (tm (ix2 r 0) : EReal) - near32 ≤ G.tim c

theorem nearEdges_one (E : Edges Ideal 1024) {o : ℕ} (hE : Holds G E o) (r : Fin 8) (k : Fin 1024) :
    nearEdges R E cn ct tm (ix2 r k) = 1#1 ↔ ((G.u (o + k.val) = cn (ix2 r 0) ∨ G.v (o + k.val) = cn (ix2 r 0)) ∧ G.t (o + k.val) < ct (ix2 r 0))
      ∧ (tm (ix2 r 0) : EReal) - near32 ≤ G.t (o + k.val) := by
  show ((mFwd R E cn (ix2 r k) ||| mBwd R E cn (ix2 r k)) &&& early R E ct (ix2 r k))
    &&& BitVec.ofBool (decide ((broadcastTo (Sh 8 1024) (near tm) R.col (ix2 r k) : EReal) ≤ broadcastTo (Sh 8 1024) E.2.2 R.row (ix2 r k))) = 1#1 ↔ _
  rw [row_apply R, col_apply R, and_one, and_one, or_one, mFwd_one, mBwd_one, early_one, ofBool_one, decide_eq_true_iff, (hE k).1, (hE k).2.1, (hE k).2.2]
  rfl

theorem draw_succ (E : ℕ → Edges Ideal 1024) (q : ℕ) : draw R A k0 k1 k2 wk cn ct tm E (q + 1)
    = trip R A k0 k1 k2 wk cn ct tm (BitVec.ofNat 32 q) (E q) (draw R A k0 k1 k2 wk cn ct tm E q) := by rw [draw]

theorem draw_sofar (E : ℕ → Edges Ideal 1024) (hE : ∀ k, k < 50 → Holds G (E k) (1024 * k)) (r : Fin 8) (hp : Padded cn G r)
    (hN : ∀ c, c < 100000 → Near cn ct tm G r c → rowScore k0 k1 k2 wk cn ct tm G r c ≠ ⊥) : ∀ q, q ≤ 50 →
    Sofar G (rowScore k0 k1 k2 wk cn ct tm G r) (Near cn ct tm G r) (1024 * q)
      ((draw R A k0 k1 k2 wk cn ct tm E q).1 (ix2 r 0)) ((draw R A k0 k1 k2 wk cn ct tm E q).2.1 (ix2 r 0))
      ((draw R A k0 k1 k2 wk cn ct tm E q).2.2.1 (ix2 r 0)) ((draw R A k0 k1 k2 wk cn ct tm E q).2.2.2 (ix2 r 0))
  | 0, _ => ⟨Or.inl bot_bits, fun c _ h => absurd h (by omega)⟩
  | q + 1, hq => by
    have ih := draw_sofar E hE r hp hN q (by omega)
    rw [draw_succ]
    generalize draw R A k0 k1 k2 wk cn ct tm E q = x at ih
    unfold trip
    split
    · next h =>
      obtain ⟨m, d, t, j, hb, hw, hl⟩ := weigh_spec R G (E q) (by omega) (hE q (by omega)) (rowScore k0 k1 k2 wk cn ct tm G r)
        (scoreF R (E q) k0 k1 k2 wk (BitVec.ofNat 32 q) cn ct tm) (scoreB R (E q) k0 k1 k2 wk (BitVec.ofNat 32 q) cn ct tm) r
        (scoreF_apply R k0 k1 k2 wk ct tm hp (by omega) (E q) (hE q (by omega))) (scoreB_apply R k0 k1 k2 wk ct tm hp (by omega) (E q) (hE q (by omega))) x
      by_cases hc : (x.1 (ix2 r 0) : EReal) < m ∨ (m = x.1 (ix2 r 0) ∧ j.toInt < (x.2.2.2 (ix2 r 0)).toInt)
      · obtain ⟨e1, e2, e3, e4⟩ := hw hc
        rw [e1, e2, e3, e4]
        exact ih.win hN hb hc
      · obtain ⟨e1, e2, e3, e4⟩ := hl hc
        rw [e1, e2, e3, e4]
        exact ih.lose hN hb hc
    · next h =>
      refine ih.skip fun c hc h1 h2 hn => h ((anySet_one A _).2 ⟨ix2 r ⟨ed c - 1024 * q, by omega⟩, ?_⟩)
      rw [nearEdges_one R cn ct tm G (E q) (hE q (by omega))]
      have e : 1024 * q + (⟨ed c - 1024 * q, by omega⟩ : Fin 1024).val = ed c := by show 1024 * q + (ed c - 1024 * q) = ed c; omega
      rw [e]
      obtain ⟨⟨hs, ht⟩, hnr⟩ := hn
      refine ⟨⟨?_, ht⟩, hnr⟩
      unfold Graph.src at hs
      unfold ed
      split at hs
      · next hc => rw [if_pos hc]; exact Or.inl hs
      · next hc => rw [if_neg hc]; exact Or.inr hs
end

end Cert.Walks

end
-- ==== Proof.WalkStep.lean ====
/- One step of a walk. -/
module

public import proofs.«01_k».proof.Proof.WalkNext

@[expose] public section

noncomputable section

namespace Cert.Walks

open Idealize.ShloMosaic

/-! # One step of a walk: where it goes and when, as the first of the best scores -/

section
variable {G : Graph} {cn : BitVec 32} {ct b1 b2 : EReal} {bd : BitVec 32}

theorem valid_end {c : ℕ} (h : G.valid cn ct c) : (G.u (ed c) = cn ∨ G.v (ed c) = cn) ∧ G.t (ed c) < ct := by
  obtain ⟨h1, h2⟩ := h
  refine ⟨?_, h2⟩
  unfold Graph.src at h1
  unfold ed
  split at h1
  · next hc => rw [if_pos hc]; exact Or.inl h1
  · next hc => rw [if_neg hc]; exact Or.inr h1

theorem valid_time {c : ℕ} (h : G.valid cn ct c) : G.time cn ct (ed c) = G.tim c := if_pos (valid_end h)

theorem valid_dest {c : ℕ} (h : G.valid cn ct c) : G.dst c = G.dest cn (ed c) := by
  obtain ⟨h1, -⟩ := h
  unfold Graph.src at h1
  unfold Graph.dst Graph.dest ed
  split at h1
  · next hc => rw [if_pos hc, if_pos hc, if_pos h1]
  · next hc =>
    rw [if_neg hc, if_neg hc]
    split
    · next h => rw [h1, h]
    · rfl

theorem ed_lt {c : ℕ} (h : c < 100000) : ed c < 50000 := by unfold ed; split <;> omega

theorem valid_le (hx : Good (G.time cn ct) (G.dest cn) 0 51200 b1 b2 bd) {c : ℕ} (hc : c < 100000) (h : G.valid cn ct c) : G.tim c ≤ b1 := by
  rw [← valid_time h]
  exact hx.1 _ (Nat.zero_le _) (by have := ed_lt hc; omega)

/-- A scan that found something names a directed edge, and bounds the times of all the others. -/
theorem scan_names (hp : ∀ e, 50000 ≤ e → G.u e ≠ cn ∧ G.v e ≠ cn) (hx : Good (G.time cn ct) (G.dest cn) 0 51200 b1 b2 bd) (hb : b1 ≠ ⊥) :
    ∃ c, c < 100000 ∧ G.valid cn ct c ∧ G.tim c = b1 ∧ G.dest cn (ed c) = bd
      ∧ ∀ e, e < 100000 → G.valid cn ct e → ed e ≠ ed c → G.tim e ≤ b2 := by
  obtain ⟨s, -, -, h1, h2, h3⟩ := hx.2.resolve_left hb
  have hs : (G.u s = cn ∨ G.v s = cn) ∧ G.t s < ct := by
    by_contra h
    exact hb (by rw [← h1]; exact if_neg h)
  have hs5 : s < 50000 := by
    by_contra h
    rcases hs.1 with h' | h'
    · exact (hp s (by omega)).1 h'
    · exact (hp s (by omega)).2 h'
  have hex : ∃ c, c < 100000 ∧ G.valid cn ct c ∧ ed c = s := by
    rcases hs.1 with h' | h'
    · have e : ed s = s := if_pos hs5
      refine ⟨s, by omega, ⟨?_, ?_⟩, e⟩
      · unfold Graph.src; rw [if_pos hs5]; exact h'
      · unfold Graph.tim; rw [e]; exact hs.2
    · have e : ed (s + 50000) = s := by unfold ed; rw [if_neg (by omega), Nat.add_sub_cancel]
      refine ⟨s + 50000, by omega, ⟨?_, ?_⟩, e⟩
      · unfold Graph.src; rw [if_neg (by omega), Nat.add_sub_cancel]; exact h'
      · unfold Graph.tim; rw [e]; exact hs.2
  obtain ⟨c, hc, hv, e⟩ := hex
  refine ⟨c, hc, hv, by rw [← valid_time hv, e, h1], by rw [e, h2], fun d hd hdv hne => ?_⟩
  rw [← valid_time hdv]
  exact h3 _ (Nat.zero_le _) (by have := ed_lt hd; omega) (by rw [← e]; exact hne)

/-- The scan finds something exactly when some directed edge is admissible. -/
theorem scan_found (hp : ∀ e, 50000 ≤ e → G.u e ≠ cn ∧ G.v e ≠ cn) (hr : ∀ e, e < 50000 → G.t e ≠ ⊥)
    (hx : Good (G.time cn ct) (G.dest cn) 0 51200 b1 b2 bd) : b1 ≠ ⊥ ↔ ∃ c, c < 100000 ∧ G.valid cn ct c := by
  constructor
  · intro h
    obtain ⟨c, hc, hv, -⟩ := scan_names hp hx h
    exact ⟨c, hc, hv⟩
  · rintro ⟨c, hc, hv⟩ rfl
    exact hr _ (ed_lt hc) (le_bot_iff.1 (valid_le hx hc hv))

/-- What a found step does: it follows the first of the best scores. -/
def Follows (G : Graph) (g : ℕ → EReal) (cn : BitVec 32) (ct : EReal) (d : BitVec 32) (t : EReal) : Prop :=
  ∃ c tm, FirstBest (G.score g cn ct tm) c ∧ (∃ e, e < 100000 ∧ G.valid cn ct e ∧ G.tim e = tm) ∧ (∀ e, e < 100000 → G.valid cn ct e → G.tim e ≤ tm)
    ∧ G.dst c = d ∧ G.tim c = t
end

section
variable (R : Rows 8 1024) (A : Any 1024) (A1 : Any 1) (k0 k1 k2 : BitVec 32) (wk cn : IVec (Sh 8 1) 32) (ct : FVec Ideal (Sh 8 1) .f32) (G : Graph)

theorem latest_apply (x : Top Ideal 8) (r : Fin 8) (hb : (x.1 (ix2 r 0) : EReal) ≠ ⊥) : latest x (ix2 r 0) = x.1 (ix2 r 0) := by
  refine sel_pos ?_ _ _
  show BitVec.ofBool (decide ((bottom (F := Ideal) (Sh 8 1) (ix2 r 0) : EReal) < x.1 (ix2 r 0))) = 1#1
  rw [ofBool_one, decide_eq_true_iff, bottom_apply]
  exact bot_lt_iff_ne_bot.2 hb

theorem next_follows (E : ℕ → Edges Ideal 1024) (hE : ∀ k, k < 50 → Holds G (E k) (1024 * k)) (x : Top Ideal 8)
    (r : Fin 8) (hx : GoodRow G cn ct r 0 51200 x) (hp : Padded cn G r) (hr : ∀ e, e < 50000 → G.t e ≠ ⊥) (hb : (x.1 (ix2 r 0) : EReal) ≠ ⊥) :
    Follows G (drawn k0 k1 k2 (wk (ix2 r 0))) (cn (ix2 r 0)) (ct (ix2 r 0))
      ((next R A A1 k0 k1 k2 wk cn ct E x).1 (ix2 r 0)) ((next R A A1 k0 k1 k2 wk cn ct E x).2 (ix2 r 0)) := by
  obtain ⟨c0, hc0, hv0, ht0, hd0, hothers⟩ := scan_names hp hx hb
  have hle : ∀ e, e < 100000 → G.valid (cn (ix2 r 0)) (ct (ix2 r 0)) e → G.tim e ≤ x.1 (ix2 r 0) := fun e he hv => valid_le hx he hv
  have hg := drawn_noisy k0 k1 k2 (wk (ix2 r 0))
  have htm : ∃ y : ℝ, (x.1 (ix2 r 0) : EReal) = (y : EReal) := by rw [← ht0]; exact tim_real hr hc0 hv0
  have hl := latest_apply x r hb
  obtain ⟨c, hfb⟩ := FirstBest.exists (G.score (drawn k0 k1 k2 (wk (ix2 r 0))) (cn (ix2 r 0)) (ct (ix2 r 0)) (x.1 (ix2 r 0)))
  have hle0 : G.score (drawn k0 k1 k2 (wk (ix2 r 0))) (cn (ix2 r 0)) (ct (ix2 r 0)) (x.1 (ix2 r 0)) c0 ≤ G.score (drawn k0 k1 k2 (wk (ix2 r 0))) (cn (ix2 r 0)) (ct (ix2 r 0)) (x.1 (ix2 r 0)) c := by
    rcases hfb.2 c0 hc0 with h | h
    · exact h.le
    · exact h.1.le
  have hvc : G.valid (cn (ix2 r 0)) (ct (ix2 r 0)) c := by
    by_contra h
    rw [score_invalid h] at hle0
    exact score_ne_bot hg hr htm hc0 hv0 (le_bot_iff.1 hle0)
  have hnear : (x.1 (ix2 r 0) : EReal) - near32 ≤ G.tim c := by
    by_contra h
    exact absurd (far_lt hg hr hfb.1 hc0 hv0 ht0 (not_le.1 h)) (not_lt.2 hle0)
  refine ⟨c, x.1 (ix2 r 0), hfb, ⟨c0, hc0, hv0, ht0⟩, hle, ?_⟩
  unfold next
  split
  · next hn =>
    have hs := draw_sofar R A k0 k1 k2 wk cn ct (latest x) G E hE r hp (fun e he hN => by
      show G.score _ _ _ (latest x (ix2 r 0)) e ≠ ⊥
      rw [hl]
      exact score_ne_bot hg hr htm he hN.1) 50 (le_refl _)
    have hcn : Near cn ct (latest x) G r c := ⟨hvc, by rw [hl]; exact hnear⟩
    have hec := ed_lt hfb.1
    generalize draw R A k0 k1 k2 wk cn ct (latest x) E 50 = y at hs ⊢
    have h2 := hs.2 c hfb.1 (by omega) hcn
    have hs1 := hs.1
    show G.dst c = y.2.1 (ix2 r 0) ∧ G.tim c = y.2.2.1 (ix2 r 0)
    unfold rowScore at hs1 h2
    rw [hl] at hs1 h2
    have hsc := score_ne_bot hg hr htm hfb.1 hvc
    have hyb : (y.1 (ix2 r 0) : EReal) ≠ ⊥ := by
      intro e
      rw [e] at h2
      rcases h2 with h2 | h2
      · exact absurd h2 not_lt_bot
      · exact hsc h2.1
    obtain ⟨d, hd, e1, e2, e3, e4⟩ := hs1.resolve_left hyb
    have hdc : d = c := by
      rcases hfb.2 d hd with h | h
      · rcases h2 with h2 | h2
        · rw [← e1] at h2; exact absurd (lt_trans h h2) (lt_irrefl _)
        · rw [h2.1, e1] at h; exact absurd h (lt_irrefl _)
      · rcases h2 with h2 | h2
        · rw [← e1, h.1] at h2; exact absurd h2 (lt_irrefl _)
        · have h3 := h2.2
          rw [e4, toInt_ofNat (by omega)] at h3
          have := h.2
          omega
    rw [← hdc]
    exact ⟨e2, e3⟩
  · next hn =>
    have hfar : ∀ e, e < 100000 → G.valid (cn (ix2 r 0)) (ct (ix2 r 0)) e → ed e ≠ ed c0 → G.tim e < (x.1 (ix2 r 0) : EReal) - near32 := by
      intro e he hv hne
      by_contra h
      have h1 := hothers e he hv hne
      have h2 : G.tim e ≠ ⊥ := hr _ (ed_lt he)
      refine hn ((anySet_one A1 _).2 ⟨ix2 r 0, ?_⟩)
      show BitVec.ofBool (decide ((near x.1 (ix2 r 0) : EReal) ≤ x.2.1 (ix2 r 0))) &&& BitVec.ofBool (decide ((bottom (F := Ideal) (Sh 8 1) (ix2 r 0) : EReal) < x.2.1 (ix2 r 0))) = 1#1
      rw [and_one, ofBool_one, ofBool_one, decide_eq_true_iff, decide_eq_true_iff, bottom_apply]
      exact ⟨le_trans (not_lt.1 h) h1, lt_of_lt_of_le (bot_lt_iff_ne_bot.2 h2) h1⟩
    have hec : ed c = ed c0 := by
      by_contra hne
      exact absurd (far_lt hg hr hfb.1 hc0 hv0 ht0 (hfar c hfb.1 hvc hne)) (not_lt.2 hle0)
    show G.dst c = x.2.2 (ix2 r 0) ∧ G.tim c = x.1 (ix2 r 0)
    refine ⟨?_, ?_⟩
    · rw [valid_dest hvc, hec]; exact hd0
    · rw [← ht0]; unfold Graph.tim; rw [hec]
end

/-! ## A walk of two steps -/

theorem Follows.unique {G : Graph} {g : ℕ → EReal} {cn : BitVec 32} {ct : EReal} {d d' : BitVec 32} {t t' : EReal}
    (h : Follows G g cn ct d t) (h' : Follows G g cn ct d' t') : d = d' ∧ t = t' := by
  obtain ⟨c, tm, h1, ⟨e, he, hv, ht⟩, h3, rfl, rfl⟩ := h
  obtain ⟨c', tm', h1', ⟨e', he', hv', ht'⟩, h3', rfl, rfl⟩ := h'
  have e1 : tm = tm' := le_antisymm (ht ▸ h3' e he hv) (ht' ▸ h3 e' he' hv')
  subst e1
  rw [h1.unique h1']
  exact ⟨rfl, rfl⟩

/-- One step: whether the walk is still alive, and where it goes if so. -/
def Stepped (G : Graph) (g : ℕ → EReal) (cn : BitVec 32) (ct : EReal) (al al' : BitVec 1) (d : BitVec 32) (t : EReal) : Prop :=
  (al' = 1#1 ↔ al = 1#1 ∧ ∃ c, c < 100000 ∧ G.valid cn ct c) ∧ (al' = 1#1 → Follows G g cn ct d t)

/-- Two steps from node `n0` at time `t0`. -/
def Walk (G : Graph) (g1 g2 : ℕ → EReal) (n0 : BitVec 32) (t0 : EReal) (al1 : BitVec 1) (d1 : BitVec 32) (t1 : EReal) (al2 : BitVec 1) (d2 : BitVec 32) (t2 : EReal) : Prop :=
  Stepped G g1 n0 t0 1#1 al1 d1 t1 ∧ Stepped G g2 (Scalar.select al1 d1 n0) (Scalar.select al1 t1 t0) al1 al2 d2 t2

theorem bit_eq {a b : BitVec 1} (h : a = 1#1 ↔ b = 1#1) : a = b := by
  have two : ∀ a : BitVec 1, a = 1#1 ∨ a = 0#1 := by decide
  rcases two a with rfl | rfl <;> rcases two b with rfl | rfl
  · rfl
  · exact absurd (h.1 rfl) (by decide)
  · exact absurd (h.2 rfl) (by decide)
  · rfl

theorem Stepped.unique {G : Graph} {g : ℕ → EReal} {cn : BitVec 32} {ct : EReal} {al a a' : BitVec 1} {d d' : BitVec 32} {t t' : EReal}
    (h : Stepped G g cn ct al a d t) (h' : Stepped G g cn ct al a' d' t') :
    a = a' ∧ (∀ z, Scalar.select a d z = Scalar.select a' d' z) ∧ ∀ z : EReal, Scalar.select a t z = Scalar.select a' t' z := by
  have e : a = a' := bit_eq (h.1.trans h'.1.symm)
  subst e
  by_cases h1 : a = 1#1
  · obtain ⟨rfl, rfl⟩ := (h.2 h1).unique (h'.2 h1)
    exact ⟨rfl, fun _ => rfl, fun _ => rfl⟩
  · exact ⟨rfl, fun z => (sel_neg h1 _ _).trans (sel_neg h1 _ _).symm, fun z => (sel_neg h1 _ _).trans (sel_neg h1 _ _).symm⟩

/-- Two walks from the same place under the same noise agree. -/
theorem Walk.unique {G : Graph} {g1 g2 : ℕ → EReal} {n0 : BitVec 32} {t0 : EReal} {a1 a1' a2 a2' : BitVec 1} {d1 d1' d2 d2' : BitVec 32} {t1 t1' t2 t2' : EReal}
    (h : Walk G g1 g2 n0 t0 a1 d1 t1 a2 d2 t2) (h' : Walk G g1 g2 n0 t0 a1' d1' t1' a2' d2' t2') :
    a1 = a1' ∧ a2 = a2' ∧ (∀ z, Scalar.select a1 d1 z = Scalar.select a1' d1' z) ∧ (∀ z : EReal, Scalar.select a1 t1 z = Scalar.select a1' t1' z)
      ∧ (∀ z, Scalar.select a2 d2 z = Scalar.select a2' d2' z) ∧ ∀ z : EReal, Scalar.select a2 t2 z = Scalar.select a2' t2' z := by
  obtain ⟨e1, e2, e3⟩ := h.1.unique h'.1
  have h2 := h.2
  rw [e1] at e2 e3 h2
  have h3 := h'.2
  rw [e2, e3] at h2
  obtain ⟨e4, e5, e6⟩ := h2.unique h3
  subst e1
  exact ⟨rfl, e4, e2, e3, e5, e6⟩

end Cert.Walks

end
-- ==== Proof.KernelRow.lean ====
/- What the walks kernel's body computes for one row: a walk of two steps. -/
module

public import proofs.«01_k».proof.Proof.WalkStep
public import proofs.«01_k».proof.Proof.IdealRun

@[expose] public section

set_option maxRecDepth 16384

noncomputable section

namespace Cert.KernelIdeal

open Idealize.ShloMosaic
open Cert.Walks

/-- The blocks of edges are those of a graph. -/
def Shows (x : In Ideal) (G : Graph) : Prop :=
  ∀ e (h : e < 51200), x.u (ix2 0 ⟨e, h⟩) = G.u e ∧ x.v (ix2 0 ⟨e, h⟩) = G.v e ∧ x.t (ix2 0 ⟨e, h⟩) = G.t e

theorem Shows.holds {x : In Ideal} {G : Graph} (h : Shows x G) {n o : ℕ} (ho : o + n ≤ 51200) : Holds G (x.cut n o) o := by
  intro k
  have hk := k.isLt
  have e : (⟨(o + k.val) % 51200, Nat.mod_lt _ (by decide)⟩ : Fin 51200) = ⟨o + k.val, by omega⟩ := Fin.ext (Nat.mod_eq_of_lt (by omega))
  have h' := h (o + k.val) (by omega)
  rw [← e] at h'
  exact h'

/-- What a graph is asked: real edges have nodes and times, padding has none. -/
structure Fine (G : Graph) : Prop where
  u : ∀ e, e < 50000 → G.u e ≠ 0xFFFFFFFF#32
  v : ∀ e, e < 50000 → G.v e ≠ 0xFFFFFFFF#32
  t : ∀ e, e < 50000 → G.t e ≠ ⊥
  pu : ∀ e, 50000 ≤ e → G.u e = 0xFFFFFFFF#32
  pv : ∀ e, 50000 ≤ e → G.v e = 0xFFFFFFFF#32

theorem Fine.padded {G : Graph} (h : Fine G) {cn : BitVec 32} (hc : cn ≠ 0xFFFFFFFF#32) : ∀ e, 50000 ≤ e → G.u e ≠ cn ∧ G.v e ≠ cn :=
  fun e he => ⟨by rw [h.pu e he]; exact hc.symm, by rw [h.pv e he]; exact hc.symm⟩

theorem Fine.dst {G : Graph} (h : Fine G) {c : ℕ} (hc : c < 100000) : G.dst c ≠ 0xFFFFFFFF#32 := by
  unfold Graph.dst
  split
  · next h1 => exact h.v c h1
  · exact h.u _ (by omega)

theorem tenthS_eq : ∀ n : Fin 330, tenthS (BitVec.ofNat 32 n.val) = BitVec.ofNat 32 (n.val / 10) := by decide +kernel

variable (i : grid0.Coords) (x : In Ideal) (x4 : IVec S1x8x1 32) (x5 : FVec Ideal S1x8x1 .f32) (G : Graph) (r : Fin 8)

theorem nos_apply : nos i (ix2 r 0) = BitVec.ofNat 32 (8 * (i 0).val + r.val) := by
  show iota .tc S8x1 32 [0] _ (ix2 r 0) + 8#32 * BitVec.ofNat 32 (i 0).val = _
  rw [iota_single_apply]
  have h0 : (i 0).val < 40 := (i 0).isLt
  have := r.isLt
  refine BitVec.eq_of_toNat_eq ?_
  show _ = _
  simp only [BitVec.toNat_add, BitVec.toNat_mul, BitVec.toNat_ofNat]
  show (r.val % 4294967296 + 8 % 4294967296 * ((i 0).val % 4294967296) % 4294967296) % 4294967296 = _
  omega

theorem spread_apply {α : Type} (y : (Sh 2 1).Idx → α) : spread pick (BitVec.ofNat 32 (i 0).val) y (ix2 r 0)
    = if (8 * (i 0).val + r.val) / 10 = 8 * (i 0).val / 10 then y (ix2 0 0) else y (ix2 1 0) := by
  have h0 : (i 0).val < 40 := (i 0).isLt
  have hr := r.isLt
  have e1 : tenth pick (walkNo pick (BitVec.ofNat 32 (i 0).val)) (ix2 r 0) = tenthS (nos i (ix2 r 0)) := rfl
  have e2 : Scalar.muli 8#32 (BitVec.ofNat 32 (i 0).val) = BitVec.ofNat 32 (8 * (i 0).val) := by
    show BitVec.ofNat 32 8 * BitVec.ofNat 32 (i 0).val = _
    rw [← BitVec.ofNat_mul]
  have hc : BitVec.ofBool (tenth pick (walkNo pick (BitVec.ofNat 32 (i 0).val)) (ix2 r 0) == tenthS (Scalar.muli 8#32 (BitVec.ofNat 32 (i 0).val))) = 1#1
      ↔ (8 * (i 0).val + r.val) / 10 = 8 * (i 0).val / 10 := by
    rw [ofBool_one, beq_iff_eq, e1, e2, nos_apply, tenthS_eq ⟨8 * (i 0).val + r.val, by omega⟩, tenthS_eq ⟨8 * (i 0).val, by omega⟩]
    exact ⟨ofNat_inj (by show (8 * (i 0).val + r.val) / 10 < _; omega) (by show 8 * (i 0).val / 10 < _; omega), fun h => by rw [h]⟩
  refine Eq.trans ?_ (sel_if hc _ _)
  unfold spread
  show Scalar.select (cmpi .eq _ _ (ix2 r 0)) _ _ = _
  rw [shapeCast_self, shapeCast_self]
  refine congrArg₂ (Scalar.select _) ?_ ?_
  · refine (broadcastTo_apply _ pick.col (ix2 r (0 : Fin 1)) (ix2 (0 : Fin 1) (0 : Fin 1)) fun a => by fin_cases a <;> rfl).trans ?_
    exact congrArg y (funext fun a => Fin.ext (by fin_cases a <;> rfl))
  · refine (broadcastTo_apply _ pick.col (ix2 r (0 : Fin 1)) (ix2 (0 : Fin 1) (0 : Fin 1)) fun a => by fin_cases a <;> rfl).trans ?_
    exact congrArg y (funext fun a => Fin.ext (by fin_cases a <;> rfl))

theorem ends_zero {α : Type} (y : (Sh 8 1).Idx → α) : ends pick y (ix2 0 0) = y (ix2 0 0) := by
  unfold ends
  refine (concatenate_pair_apply_left (s₁ := Sh 1 1) (s₂ := Sh 1 1) _ _ _ _ (ix2 (0 : Fin 2) (0 : Fin 1)) rfl (ix2 (0 : Fin 1) (0 : Fin 1)) fun b => ?_).trans ?_
  · fin_cases b <;> rfl
  · exact congrArg y (funext fun a => Fin.ext (by fin_cases a <;> rfl))
theorem ends_one {α : Type} (y : (Sh 8 1).Idx → α) : ends pick y (ix2 1 0) = y (ix2 7 0) := by
  unfold ends
  refine (concatenate_pair_apply_right (s₁ := Sh 1 1) (s₂ := Sh 1 1) _ _ _ _ (ix2 (1 : Fin 2) (0 : Fin 1)) rfl rfl (ix2 (0 : Fin 1) (0 : Fin 1)) (fun b hb => ?_) ?_).trans ?_
  · fin_cases b
    · exact absurd rfl hb
    · rfl
  · rfl
  · exact congrArg y (funext fun a => Fin.ext (by fin_cases a <;> rfl))

theorem cnA_apply : cnA x4 (ix2 r 0) = x4 (ix3 0 r 0) :=
  shapeCast_apply x4 _ (ix2 r (0 : Fin 1)) (ix3 (0 : Fin 1) r (0 : Fin 1)) (by
    rw [rowMajor_val2 _ _ rfl, rowMajor_val3 _ 8 1 rfl rfl]; show 0 * 8 + r.val * 1 + 0 = r.val * 1 + 0; omega)
theorem ctA_apply : ctA x5 (ix2 r 0) = x5 (ix3 0 r 0) :=
  shapeCast_apply x5 _ (ix2 r (0 : Fin 1)) (ix3 (0 : Fin 1) r (0 : Fin 1)) (by
    rw [rowMajor_val2 _ _ rfl, rowMajor_val3 _ 8 1 rfl rfl]; show 0 * 8 + r.val * 1 + 0 = r.val * 1 + 0; omega)

/-- The rows of one source stand at one place. -/
def Shared {α : Type} (i : grid0.Coords) (y : S8x1.Idx → α) : Prop :=
  ∀ r : Fin 8, y (ix2 r 0) = if (8 * (i 0).val + r.val) / 10 = 8 * (i 0).val / 10 then y (ix2 0 0) else y (ix2 7 0)

variable {i x x4 x5 G}

theorem runs_eq : x.runs = [x.cut 3200 (3200 * 1), x.cut 3200 (3200 * 2), x.cut 3200 (3200 * 3), x.cut 3200 (3200 * 4), x.cut 3200 (3200 * 5),
    x.cut 3200 (3200 * 6), x.cut 3200 (3200 * 7), x.cut 3200 (3200 * 8), x.cut 3200 (3200 * 9), x.cut 3200 (3200 * 10), x.cut 3200 (3200 * 11),
    x.cut 3200 (3200 * 12), x.cut 3200 (3200 * 13), x.cut 3200 (3200 * 14), x.cut 3200 (3200 * 15)] := by
  unfold In.runs; norm_num

theorem scan_shows {n : ℕ} (hS : Shows x G) (R : Rows n 3200) (z0 : IVec (Sh n 1) 32) (cn : IVec (Sh n 1) 32) (ct : FVec Ideal (Sh n 1) .f32) (r : Fin n) :
    GoodRow G cn ct r 0 51200 (scan R (bottom _) z0 cn ct (x.cut 3200 0) x.runs) := by
  rw [runs_eq]
  exact scan_good (by norm_num) R z0 cn ct G r (fun k => x.cut 3200 (3200 * k)) (fun k hk => hS.holds (by omega))

theorem sA_good (hS : Shows x G) (h4 : Shared i (cnA x4)) (h5 : Shared i (ctA x5)) (r : Fin 8) :
    GoodRow G (cnA x4) (ctA x5) r 0 51200 (sA i x x4 x5) := by
  have hz := scan_shows hS rows2 (broadcast _ 0#32) (ends pick (cnA x4)) (ends pick (ctA x5)) 0
  have ho := scan_shows hS rows2 (broadcast _ 0#32) (ends pick (cnA x4)) (ends pick (ctA x5)) 1
  unfold GoodRow at hz ho ⊢
  unfold sA
  generalize (Walks.scan rows2 (Walks.bottom _) (broadcast _ 0#32) (Walks.ends pick (cnA x4)) (Walks.ends pick (ctA x5)) (x.cut 3200 0) x.runs : Top Ideal 2) = y at hz ho ⊢
  show Good (G.time (cnA x4 (ix2 r 0)) (ctA x5 (ix2 r 0))) (G.dest (cnA x4 (ix2 r 0))) 0 51200 (spread pick (BitVec.ofNat 32 (i 0).val) y.1 (ix2 r 0))
    (spread pick (BitVec.ofNat 32 (i 0).val) y.2.1 (ix2 r 0)) (spread pick (BitVec.ofNat 32 (i 0).val) y.2.2 (ix2 r 0))
  rw [spread_apply, spread_apply, spread_apply, h4 r, h5 r]
  rw [ends_zero, ends_zero] at hz
  rw [ends_one, ends_one] at ho
  split
  · exact hz
  · exact ho

theorem found_one (y : Top Ideal 8) (r : Fin 8) : found y (ix2 r 0) = 1#1 ↔ (y.1 (ix2 r 0) : EReal) ≠ ⊥ := by
  show BitVec.ofBool (decide ((bottom (F := Ideal) (Sh 8 1) (ix2 r 0) : EReal) < y.1 (ix2 r 0))) = 1#1 ↔ _
  rw [ofBool_one, decide_eq_true_iff, bottom_apply]
  exact bot_lt_iff_ne_bot

/-- One row of a step. -/
theorem next_stepped (hS : Shows x G) (hG : Fine G) (k0 k1 k2 : BitVec 32) (wk cn : IVec S8x1 32) (ct : FVec Ideal S8x1 .f32) (y : Top Ideal 8) (r : Fin 8)
    (hy : GoodRow G cn ct r 0 51200 y) (hc : cn (ix2 r 0) ≠ 0xFFFFFFFF#32) (al : IVec S8x1 1) :
    Stepped G (drawn k0 k1 k2 (wk (ix2 r 0))) (cn (ix2 r 0)) (ct (ix2 r 0)) (al (ix2 r 0)) (andi al (found y) (ix2 r 0))
      ((next rowsD anyD any1 k0 k1 k2 wk cn ct (fun k => x.cut 1024 (1024 * k)) y).1 (ix2 r 0))
      ((next rowsD anyD any1 k0 k1 k2 wk cn ct (fun k => x.cut 1024 (1024 * k)) y).2 (ix2 r 0)) := by
  have hand : andi al (found y) (ix2 r 0) = 1#1 ↔ al (ix2 r 0) = 1#1 ∧ (y.1 (ix2 r 0) : EReal) ≠ ⊥ := by
    rw [← found_one]; exact Walks.and_one _ _
  refine ⟨hand.trans (and_congr_right fun _ => scan_found (hG.padded hc) hG.t hy), fun h => ?_⟩
  exact next_follows rowsD anyD any1 k0 k1 k2 wk cn ct G _ (fun k hk => hS.holds (by omega)) y r hy (hG.padded hc) hG.t (hand.1 h).2

/-- The two noises of walk `w`. -/
abbrev noise1 (w : BitVec 32) : ℕ → EReal := drawn 2877103387#32 1697627890#32 3582179379#32 w
abbrev noise2 (w : BitVec 32) : ℕ → EReal := drawn 2352926074#32 781486348#32 3111870380#32 w

/-- Row `r` of the kernel's body is a walk. -/
theorem row_walk (hS : Shows x G) (hG : Fine G) (h4 : Shared i (cnA x4)) (h5 : Shared i (ctA x5)) (r : Fin 8) (hc : x4 (ix3 0 r 0) ≠ 0xFFFFFFFF#32) :
    Walk G (noise1 (BitVec.ofNat 32 (8 * (i 0).val + r.val))) (noise2 (BitVec.ofNat 32 (8 * (i 0).val + r.val))) (x4 (ix3 0 r 0)) (x5 (ix3 0 r 0))
      (alA i x x4 x5 (ix2 r 0)) ((dA i x x4 x5).1 (ix2 r 0)) ((dA i x x4 x5).2 (ix2 r 0))
      (alB i x x4 x5 (ix2 r 0)) ((dB i x x4 x5).1 (ix2 r 0)) ((dB i x x4 x5).2 (ix2 r 0)) := by
  rw [← cnA_apply x4 r] at hc
  have h1 := next_stepped hS hG 2877103387#32 1697627890#32 3582179379#32 (nos i) (cnA x4) (ctA x5) (sA i x x4 x5) r (sA_good hS h4 h5 r) hc yes
  rw [nos_apply, cnA_apply, ctA_apply] at h1
  have hcB : cnB i x x4 x5 (ix2 r 0) = Scalar.select (alA i x x4 x5 (ix2 r 0)) ((dA i x x4 x5).1 (ix2 r 0)) (cnA x4 (ix2 r 0)) := rfl
  have htB : ctB i x x4 x5 (ix2 r 0) = Scalar.select (alA i x x4 x5 (ix2 r 0)) ((dA i x x4 x5).2 (ix2 r 0)) (ctA x5 (ix2 r 0)) := rfl
  have hc2 : cnB i x x4 x5 (ix2 r 0) ≠ 0xFFFFFFFF#32 := by
    rw [hcB]
    by_cases h : alA i x x4 x5 (ix2 r 0) = 1#1
    · rw [sel_pos h]
      obtain ⟨c, tm, hf, -, -, hd, -⟩ := h1.2 h
      have hd' : (dA i x x4 x5).1 (ix2 r 0) = G.dst c := hd.symm
      rw [hd']
      exact hG.dst hf.1
    · rw [sel_neg h]; exact hc
  have h2 := next_stepped hS hG 2352926074#32 781486348#32 3111870380#32 (nos i) (cnB i x x4 x5) (ctB i x x4 x5) (sB i x x4 x5) r
    (scan_shows hS rows8 (broadcast _ 0#32) (cnB i x x4 x5) (ctB i x x4 x5) r) hc2 (alA i x x4 x5)
  rw [nos_apply, hcB, htB, cnA_apply, ctA_apply] at h2
  exact ⟨h1, h2⟩

end Cert.KernelIdeal

end
-- ==== Proof.KernelInputs.lean ====
/- What the walks kernel's blocks hold at each point: the edges padded, and each row's source and time. -/
module

public import proofs.«01_k».proof.Proof.KernelRow
public import proofs.«01_k».proof.Proof.IdealWalkFrame
public import Idealize.ShloMosaic.Lib.Pipeline.ValueKit
public import Idealize.ShloMosaic.Lib.KernelVsHost

@[expose] public section

set_option maxRecDepth 16384

noncomputable section

namespace Cert.KernelIdeal

open Idealize.ShloMosaic Idealize.ShloMosaic.TcCoe
open Cert.Walks Cert.KernelIdeal.Gen

variable (m : (ℓ : Loc nD τ sig) → Buf (Elt Ideal) ℓ) (c : Dev nD)

/-- The four arguments. -/
abbrev sources : IVec S32 32 := m ((c : Thread nD τ).loc main_arg0)
abbrev starts : FVec Ideal S32 .f32 := m ((c : Thread nD τ).loc main_arg1)
abbrev edges : IVec S2x50000 32 := m ((c : Thread nD τ).loc main_arg2)
abbrev etimes : FVec Ideal S50000 .f32 := m ((c : Thread nD τ).loc main_arg3)

section

variable {α : Type}

/-- A vector of edges padded, as a row. -/
def padded (x : S50000.Idx → α) (v : S_.Idx → α) : S1x51200.Idx → α :=
  broadcastInDim S1x51200 ![1] bcast_S51200_S1x51200_1 (pad S51200 ![0] ![1200] ![0] x v pads_S50000_S51200_012000 h_S_)

theorem padded_row (x : S50000.Idx → α) (v : S_.Idx → α) (e : Fin 51200) :
    padded x v (ix2 0 e) = pad S51200 ![0] ![1200] ![0] x v pads_S50000_S51200_012000 h_S_ (ix1 e) := by
  unfold padded
  exact broadcastInDim_apply ![1] bcast_S51200_S1x51200_1 _ (ix2 (0 : Fin 1) e) (ix1 e) fun a => by fin_cases a; rfl

theorem padded_low (x : S50000.Idx → α) (v : S_.Idx → α) (e : Fin 51200) (h : e.val < 50000) : padded x v (ix2 0 e) = x (ix1 ⟨e.val, h⟩) :=
  (padded_row x v e).trans (pad_apply_of_inside _ _ _ x v pads_S50000_S51200_012000 h_S_ (ix1 e) (ix1 ⟨e.val, h⟩) fun a => by
    fin_cases a
    show e.val = 0 + e.val * (0 + 1)
    omega)

theorem padded_high (x : S50000.Idx → α) (v : S_.Idx → α) (e : Fin 51200) (h : ¬ e.val < 50000) : padded x v (ix2 0 e) = v (Shape.Idx.first h_S_) :=
  (padded_row x v e).trans (pad_apply_of_not_inside _ _ _ x v pads_S50000_S51200_012000 h_S_ (ix1 e) (0 : Fin 1) fun hn => h (by
    have h3 : (e.val - 0) / (0 + 1) < 50000 := hn.2.2
    omega))

/-- One value per source, given to its walks, the walks in groups of eight. -/
def spreadOut (x : S32.Idx → α) : S40x8x1.Idx → α :=
  shapeCast S40x8x1 (broadcastInDim S32x10 ![0, 1] bcast_S32x1_S32x10_0_1 (broadcastInDim S32x1 ![0] bcast_S32_S32x1_0 x)) shapeCasts_S32x10_S40x8x1

theorem spreadOut_apply (x : S32.Idx → α) (g : Fin 40) (r : Fin 8) (b : Fin 32) (w : Fin 10) (h : 10 * b.val + w.val = 8 * g.val + r.val) :
    spreadOut x (ix3 g r 0) = x (ix1 b) := by
  refine (shapeCast_apply _ shapeCasts_S32x10_S40x8x1 (ix3 g r (0 : Fin 1)) (ix2 b w) ?_).trans ?_
  · rw [Shape.rowMajor_val_two, Shape.rowMajor_val_three]
    show b.val * 10 + w.val = (g.val * 8 + r.val) * 1 + 0
    omega
  refine (broadcastInDim_apply ![0, 1] bcast_S32x1_S32x10_0_1 _ (ix2 b w) (ix2 b (0 : Fin 1)) fun a => by fin_cases a <;> rfl).trans ?_
  exact broadcastInDim_apply ![0] bcast_S32_S32x1_0 x (ix2 b (0 : Fin 1)) (ix1 b) fun a => by fin_cases a; rfl

end

/-- A row of the edge list. -/
def rowU (x : IVec S2x50000 32) : IVec S50000 32 := shapeCast S50000 (extractStridedSlice S1x50000 ![0, 0] x slices_S2x50000_S1x50000_0_0) shapeCasts_S1x50000_S50000
def rowV (x : IVec S2x50000 32) : IVec S50000 32 := shapeCast S50000 (extractStridedSlice S1x50000 ![1, 0] x slices_S2x50000_S1x50000_1_0) shapeCasts_S1x50000_S50000

theorem rowU_apply (x : IVec S2x50000 32) (e : Fin 50000) : rowU x (ix1 e) = x (ix2 0 e) := by
  refine (shapeCast_apply _ shapeCasts_S1x50000_S50000 (ix1 e) (ix2 (0 : Fin 1) e) ?_).trans ?_
  · rw [Shape.rowMajor_val_two, Shape.rowMajor_val_one]
    show 0 * 50000 + e.val = e.val
    omega
  · exact extractStridedSlice_apply _ _ _ _ (ix2 (0 : Fin 2) e) fun a => by fin_cases a <;> simp
theorem rowV_apply (x : IVec S2x50000 32) (e : Fin 50000) : rowV x (ix1 e) = x (ix2 1 e) := by
  refine (shapeCast_apply _ shapeCasts_S1x50000_S50000 (ix1 e) (ix2 (0 : Fin 1) e) ?_).trans ?_
  · rw [Shape.rowMajor_val_two, Shape.rowMajor_val_one]
    show 0 * 50000 + e.val = e.val
    omega
  · exact extractStridedSlice_apply _ _ _ _ (ix2 (1 : Fin 2) e) fun a => by fin_cases a <;> simp

/-! ## The arrays the region finds -/

theorem V_u : V m c main_v3 = padded (rowU (edges m c)) (constantI S_ 32 4294967295#32) := by
  show StableHlo.after _ _ _ = _
  simp only [List.flatten_cons, List.flatten_nil, List.append_nil, List.cons_append, List.nil_append]
  after_results
  rfl
theorem V_v : V m c main_v7 = padded (rowV (edges m c)) (constantI S_ 32 4294967295#32) := by
  show StableHlo.after _ _ _ = _
  simp only [List.flatten_cons, List.flatten_nil, List.append_nil, List.cons_append, List.nil_append]
  after_results
  rfl
theorem V_t : V m c main_v9 = padded (etimes m c) (constant (F := Ideal) S_ .f32 0x00000000#32) := by
  show StableHlo.after _ _ _ = _
  simp only [List.flatten_cons, List.flatten_nil, List.append_nil, List.cons_append, List.nil_append]
  after_results
  rfl
theorem V_n : V m c main_v12 = spreadOut (sources m c) := by
  show StableHlo.after _ _ _ = _
  simp only [List.flatten_cons, List.flatten_nil, List.append_nil, List.cons_append, List.nil_append]
  after_results
  rfl
theorem V_s : V m c main_v15 = spreadOut (starts m c) := by
  show StableHlo.after _ _ _ = _
  simp only [List.flatten_cons, List.flatten_nil, List.append_nil, List.cons_append, List.nil_append]
  after_results
  rfl

/-! ## The blocks -/

theorem point_val (t : Fin cfg0.N) : (grid0.coords t 0).val = t.val :=
  (by decide +kernel : ∀ t : Fin grid0.N, (grid0.coords t 0).val = t.val) t
theorem point_lt (t : Fin cfg0.N) : t.val < 40 := (by decide +kernel : ∀ t : Fin grid0.N, t.val < 40) t

theorem blkU (t : Fin cfg0.N) : iblk m c 0 t = V m c main_v3 := by
  funext i
  unfold iblk
  rw [View.read_apply, cast_eq]
  have hi : ((cfg0.win 0).blk t).view.emb i = i := funext fun a => Fin.ext (by
    fin_cases a
    · show 0 * 1 + 1 * (i 0).val = (i 0).val
      omega
    · show 0 * 51200 + 1 * (i 1).val = (i 1).val
      omega)
  exact congrArg (V m c main_v3) hi
theorem blkV (t : Fin cfg0.N) : iblk m c 1 t = V m c main_v7 := by
  funext i
  unfold iblk
  rw [View.read_apply, cast_eq]
  have hi : ((cfg0.win 1).blk t).view.emb i = i := funext fun a => Fin.ext (by
    fin_cases a
    · show 0 * 1 + 1 * (i 0).val = (i 0).val
      omega
    · show 0 * 51200 + 1 * (i 1).val = (i 1).val
      omega)
  exact congrArg (V m c main_v7) hi
theorem blkT (t : Fin cfg0.N) : iblk m c 2 t = V m c main_v9 := by
  funext i
  unfold iblk
  rw [View.read_apply, cast_eq]
  have hi : ((cfg0.win 2).blk t).view.emb i = i := funext fun a => Fin.ext (by
    fin_cases a
    · show 0 * 1 + 1 * (i 0).val = (i 0).val
      omega
    · show 0 * 51200 + 1 * (i 1).val = (i 1).val
      omega)
  exact congrArg (V m c main_v9) hi

theorem group_val (t : Fin cfg0.N) : (BitVec.ofNat 32 (grid0.coords t 0).val).toNat = t.val := by
  rw [point_val, BitVec.toNat_ofNat]
  have := point_lt t
  exact Nat.mod_eq_of_lt (by omega)

theorem blkN (t : Fin cfg0.N) (r : Fin 8) : cnAt m c t (ix3 0 r 0) = V m c main_v12 (ix3 ⟨t.val, point_lt t⟩ r 0) := by
  unfold cnAt iblk
  rw [View.read_apply, cast_eq]
  refine congrArg (V m c main_v12) (funext fun a => Fin.ext ?_)
  fin_cases a
  · show (BitVec.ofNat 32 (grid0.coords t 0).val).toNat * 1 + 1 * 0 = t.val
    rw [group_val]; omega
  · show 0 * 8 + 1 * r.val = r.val
    omega
  · rfl
theorem blkS (t : Fin cfg0.N) (r : Fin 8) : ctAt m c t (ix3 0 r 0) = V m c main_v15 (ix3 ⟨t.val, point_lt t⟩ r 0) := by
  unfold ctAt iblk
  rw [View.read_apply, cast_eq]
  refine congrArg (V m c main_v15) (funext fun a => Fin.ext ?_)
  fin_cases a
  · show (BitVec.ofNat 32 (grid0.coords t 0).val).toNat * 1 + 1 * 0 = t.val
    rw [group_val]; omega
  · show 0 * 8 + 1 * r.val = r.val
    omega
  · rfl

theorem stands (t : Fin cfg0.N) (r : Fin 8) (b : Fin 32) (w : Fin 10) (h : 10 * b.val + w.val = 8 * t.val + r.val) :
    cnAt m c t (ix3 0 r 0) = sources m c (ix1 b) := by
  rw [blkN, V_n]
  exact spreadOut_apply _ _ r b w h
theorem since (t : Fin cfg0.N) (r : Fin 8) (b : Fin 32) (w : Fin 10) (h : 10 * b.val + w.val = 8 * t.val + r.val) :
    ctAt m c t (ix3 0 r 0) = starts m c (ix1 b) := by
  rw [blkS, V_s]
  exact spreadOut_apply _ _ r b w h

/-- The source of a row's walk, and the walk's place at that source. -/
def srcOf (t : Fin cfg0.N) (r : Fin 8) : Fin 32 := ⟨(8 * t.val + r.val) / 10, by have := point_lt t; omega⟩
def numOf (t : Fin cfg0.N) (r : Fin 8) : Fin 10 := ⟨(8 * t.val + r.val) % 10, Nat.mod_lt _ (by omega)⟩
theorem srcOf_spec (t : Fin cfg0.N) (r : Fin 8) : 10 * (srcOf t r).val + (numOf t r).val = 8 * t.val + r.val := Nat.div_add_mod _ _

theorem shared_of {α : Type} (t : Fin cfg0.N) (y : S8x1.Idx → α) (f : Fin 32 → α) (h : ∀ r : Fin 8, y (ix2 r 0) = f (srcOf t r)) : Shared (grid0.coords t) y := by
  intro r
  rw [h, h 0, h 7, point_val]
  have hr := r.isLt
  split
  · next e => exact congrArg f (Fin.ext e)
  · next e =>
    refine congrArg f (Fin.ext ?_)
    show (8 * t.val + r.val) / 10 = (8 * t.val + 7) / 10
    omega

theorem shared_n (t : Fin cfg0.N) : Shared (grid0.coords t) (cnA (cnAt m c t)) :=
  shared_of t _ (fun b => sources m c (ix1 b)) fun r => (cnA_apply _ r).trans (stands m c t r _ _ (srcOf_spec t r))
theorem shared_s (t : Fin cfg0.N) : Shared (grid0.coords t) (ctA (ctAt m c t)) :=
  shared_of t _ (fun b => starts m c (ix1 b)) fun r => (ctA_apply _ r).trans (since m c t r _ _ (srcOf_spec t r))

/-- The blocks of edges are those of a graph that has the arguments' edges and, past them, none. -/
theorem shows_of (t : Fin cfg0.N) (G : Graph)
    (hu : ∀ e (h : e < 50000), G.u e = edges m c (ix2 0 ⟨e, h⟩)) (hv : ∀ e (h : e < 50000), G.v e = edges m c (ix2 1 ⟨e, h⟩))
    (ht : ∀ e (h : e < 50000), G.t e = etimes m c (ix1 ⟨e, h⟩))
    (pu : ∀ e, ¬ e < 50000 → G.u e = 0xFFFFFFFF#32) (pv : ∀ e, ¬ e < 50000 → G.v e = 0xFFFFFFFF#32) (pt : ∀ e, ¬ e < 50000 → G.t e = 0) :
    Shows (inAt m c t) G := by
  intro e he
  have eu : (inAt m c t).u = V m c main_v3 := blkU m c t
  have ev : (inAt m c t).v = V m c main_v7 := blkV m c t
  have et : (inAt m c t).t = V m c main_v9 := blkT m c t
  rw [eu, ev, et, V_u, V_v, V_t]
  by_cases h : e < 50000
  · rw [padded_low _ _ ⟨e, he⟩ h, padded_low _ _ ⟨e, he⟩ h, padded_low _ _ ⟨e, he⟩ h, rowU_apply, rowV_apply, hu e h, hv e h, ht e h]
    exact ⟨rfl, rfl, rfl⟩
  · rw [padded_high _ _ ⟨e, he⟩ h, padded_high _ _ ⟨e, he⟩ h, padded_high _ _ ⟨e, he⟩ h, pu e h, pv e h, pt e h]
    exact ⟨rfl, rfl, zero_bits⟩

end Cert.KernelIdeal

end
-- ==== Proof.RefKeys.lean ====
/- The reference's hash, its keys and its noise: the words the splits of the first key draw with. -/
module

public import proofs.«01_k».proof.Proof.Gen.ReferenceIdeal.Read
public import proofs.«01_k».proof.Proof.WalkNext

@[expose] public section

set_option maxRecDepth 16384

noncomputable section

namespace Cert.ReferenceIdeal.Walking

open Idealize.ShloMosaic Cert.ReferenceIdeal.Read Cert.Walks Cert.ReferenceIdeal Cert.ReferenceIdeal.Gen Idealize.ShloMosaic.TcCoe Idealize.ShloMosaic.StableHlo

/-- One word. -/
abbrev Word := IVec S_ 32
/-- The one index of a single word. -/
abbrev z0 : S_.Idx := fun a => a.elim0

section

variable {s : Shape} (B : Word → IVec s 32)

def hrnd (r r' : BitVec 32) (x : IVec s 32 × IVec s 32) : IVec s 32 × IVec s 32 :=
  (addi x.1 x.2, xori (addi x.1 x.2) (ori (Host.shli x.2 (B (constantI S_ 32 r))) (Host.shrui x.2 (B (constantI S_ 32 r')))))
def hinj (a b : Word) (n : BitVec 32) (x : IVec s 32 × IVec s 32) : IVec s 32 × IVec s 32 :=
  (addi x.1 (B a), addi x.2 (B (addi b (constantI S_ 32 n))))
def hfour (x : IVec s 32 × IVec s 32) : IVec s 32 × IVec s 32 :=
  hrnd B 6#32 26#32 (hrnd B 26#32 6#32 (hrnd B 15#32 17#32 (hrnd B 13#32 19#32 x)))
def hfour' (x : IVec s 32 × IVec s 32) : IVec s 32 × IVec s 32 :=
  hrnd B 24#32 8#32 (hrnd B 16#32 16#32 (hrnd B 29#32 3#32 (hrnd B 17#32 15#32 x)))
/-- The third word of a key. -/
def third (k0 k1 : Word) : Word := xori (xori k0 k1) (constantI S_ 32 466688986#32)
/-- The hash of the counter whose high word is zero. -/
def hhash (k0 k1 : Word) (c : IVec s 32) : IVec s 32 × IVec s 32 :=
  let k2 := third k0 k1
  hinj B k2 k0 5#32 (hfour B (hinj B k1 k2 4#32 (hfour' B (hinj B k0 k1 3#32 (hfour B (hinj B k2 k0 2#32 (hfour' B (hinj B k1 k2 1#32
    (hfour B (addi (B (constantI S_ 32 0#32)) (B k0), addi c (B k1)))))))))))

variable (hB : ∀ y i, B y i = y z0)
include hB

theorem cell_hrnd (r r' : BitVec 32) (hr : r.toNat < 32) (hr' : r'.toNat < 32) (x : IVec s 32 × IVec s 32) (i : s.Idx) :
    cell (hrnd B r r' x) i = rndS r r' (cell x i) := by
  show (x.1 i + x.2 i, (x.1 i + x.2 i) ^^^ (IntOp.shli .host (x.2 i) (B (constantI S_ 32 r) i) ||| IntOp.shrui .host (x.2 i) (B (constantI S_ 32 r') i))) = _
  rw [hB, hB]
  show (x.1 i + x.2 i, (x.1 i + x.2 i) ^^^ (IntOp.shli .host (x.2 i) r ||| IntOp.shrui .host (x.2 i) r')) = _
  rw [IntOp.shli, IntOp.shrui, if_pos hr, if_pos hr', BitVec.xor_comm]
  rfl

theorem cell_hinj (a b : Word) (n : BitVec 32) (x : IVec s 32 × IVec s 32) (i : s.Idx) :
    cell (hinj B a b n x) i = injS (a z0) (b z0) n (cell x i) := by
  show (x.1 i + B a i, x.2 i + B (addi b (constantI S_ 32 n)) i) = _
  rw [hB, hB]
  show (x.1 i + a z0, x.2 i + (b z0 + n)) = _
  rw [← BitVec.add_assoc]
  rfl

theorem cell_hfour (x : IVec s 32 × IVec s 32) (i : s.Idx) : cell (hfour B x) i = fourS (cell x i) := by
  unfold hfour fourS
  rw [cell_hrnd B hB _ _ (by decide) (by decide), cell_hrnd B hB _ _ (by decide) (by decide), cell_hrnd B hB _ _ (by decide) (by decide), cell_hrnd B hB _ _ (by decide) (by decide)]

theorem cell_hfour' (x : IVec s 32 × IVec s 32) (i : s.Idx) : cell (hfour' B x) i = fourS' (cell x i) := by
  unfold hfour' fourS'
  rw [cell_hrnd B hB _ _ (by decide) (by decide), cell_hrnd B hB _ _ (by decide) (by decide), cell_hrnd B hB _ _ (by decide) (by decide), cell_hrnd B hB _ _ (by decide) (by decide)]

theorem cell_hhash (k0 k1 : Word) (c : IVec s 32) (i : s.Idx) :
    cell (hhash B k0 k1 c) i = hashP (k0 z0) (k1 z0) (k0 z0 ^^^ k1 z0 ^^^ 466688986#32) (0#32, c i) := by
  unfold hhash hashP
  dsimp only
  rw [cell_hinj B hB, cell_hfour B hB, cell_hinj B hB, cell_hfour' B hB, cell_hinj B hB, cell_hfour B hB, cell_hinj B hB, cell_hfour' B hB, cell_hinj B hB, cell_hfour B hB]
  have h0 : cell (addi (B (constantI S_ 32 0#32)) (B k0), addi c (B k1)) i = (0#32 + k0 z0, c i + k1 z0) := by
    show (B (constantI S_ 32 0#32) i + B k0 i, c i + B k1 i) = _
    rw [hB, hB, hB]
    rfl
  rw [h0]
  rfl

end

/-! ## The keys -/

abbrev B2 : Word → IVec S2 32 := broadcastInDim S2 ![] bcast_S_S2
theorem hB2 (y : Word) (i : S2.Idx) : B2 y i = y z0 := broadcastInDim_apply _ bcast_S_S2 y i z0 (fun a => a.elim0)
abbrev B3 : Word → IVec S32x10x100000 32 := broadcastInDim S32x10x100000 ![] bcast_S_S32x10x100000
theorem hB3 (y : Word) (i : S32x10x100000.Idx) : B3 y i = y z0 := broadcastInDim_apply _ bcast_S_S32x10x100000 y i z0 (fun a => a.elim0)

/-- A word of a split. -/
def pick0 (x : IVec S2 32) : Word := shapeCast _ (extractStridedSlice S1 ![0] x slices_S2_S1_0) shapeCasts_S1_S_
def pick1 (x : IVec S2 32) : Word := shapeCast _ (extractStridedSlice S1 ![1] x slices_S2_S1_1) shapeCasts_S1_S_

theorem pick0_apply (x : IVec S2 32) : pick0 x z0 = x (ix1 0) := by
  unfold pick0
  refine (shapeCast_apply (extractStridedSlice S1 ![0] x slices_S2_S1_0) shapeCasts_S1_S_ z0 (ix1 0) (by sl_kernel_rfl)).trans ?_
  exact extractStridedSlice_apply _ _ _ _ _ (fun a => by fin_cases a; rfl)
theorem pick1_apply (x : IVec S2 32) : pick1 x z0 = x (ix1 1) := by
  unfold pick1
  refine (shapeCast_apply (extractStridedSlice S1 ![1] x slices_S2_S1_1) shapeCasts_S1_S_ z0 (ix1 0) (by sl_kernel_rfl)).trans ?_
  exact extractStridedSlice_apply _ _ _ _ _ (fun a => by fin_cases a; rfl)

/-- The two words that a split makes of its hash. -/
def split (k0 k1 : Word) : IVec S2 32 × IVec S2 32 := hhash B2 k0 k1 (iotaInDim S2 32 0)

theorem split_at (k0 k1 : Word) (j : Fin 2) : cell (split k0 k1) (ix1 j) =
    hashP (k0 z0) (k1 z0) (k0 z0 ^^^ k1 z0 ^^^ 466688986#32) (0#32, BitVec.ofNat 32 j.val) := cell_hhash B2 hB2 k0 k1 _ _

theorem v186_eq : val_main_v186 (F := Ideal) = (split (constantI S_ 32 0#32) (constantI S_ 32 1234#32)).1 := by sl_kernel_rfl
theorem v189_eq : val_main_v189 (F := Ideal) = (split (constantI S_ 32 0#32) (constantI S_ 32 1234#32)).2 := by sl_kernel_rfl
theorem v610_eq : val_main_v610 (F := Ideal) = (split (val_main_v191 (F := Ideal)) (val_main_v193 (F := Ideal))).1 := by sl_kernel_rfl
theorem v613_eq : val_main_v613 (F := Ideal) = (split (val_main_v191 (F := Ideal)) (val_main_v193 (F := Ideal))).2 := by sl_kernel_rfl

theorem first_split (j : Fin 2) : cell (split (constantI S_ 32 0#32) (constantI S_ 32 1234#32)) (ix1 j) =
    hashP 0#32 1234#32 (0#32 ^^^ 1234#32 ^^^ 466688986#32) (0#32, BitVec.ofNat 32 j.val) := split_at _ _ j

theorem v191_at : val_main_v191 (F := Ideal) z0 = (hashP 0#32 1234#32 (0#32 ^^^ 1234#32 ^^^ 466688986#32) (0#32, 0#32)).1 := by
  refine (pick0_apply (val_main_v186 (F := Ideal))).trans ?_
  rw [v186_eq]
  exact congrArg Prod.fst (first_split 0)
theorem v193_at : val_main_v193 (F := Ideal) z0 = (hashP 0#32 1234#32 (0#32 ^^^ 1234#32 ^^^ 466688986#32) (0#32, 0#32)).2 := by
  refine (pick0_apply (val_main_v189 (F := Ideal))).trans ?_
  rw [v189_eq]
  exact congrArg Prod.snd (first_split 0)
theorem v195_at : val_main_v195 (F := Ideal) z0 = 2877103387#32 := by
  refine (pick1_apply (val_main_v186 (F := Ideal))).trans ?_
  rw [v186_eq]
  exact (congrArg Prod.fst (first_split 1)).trans (by decide +kernel)
theorem v197_at : val_main_v197 (F := Ideal) z0 = 1697627890#32 := by
  refine (pick1_apply (val_main_v189 (F := Ideal))).trans ?_
  rw [v189_eq]
  exact (congrArg Prod.snd (first_split 1)).trans (by decide +kernel)

theorem v619_at : val_main_v619 (F := Ideal) z0 = 2352926074#32 := by
  refine (pick1_apply (val_main_v610 (F := Ideal))).trans ?_
  rw [v610_eq]
  refine (congrArg Prod.fst (split_at _ _ 1)).trans ?_
  rw [v191_at, v193_at]
  decide +kernel
theorem v621_at : val_main_v621 (F := Ideal) z0 = 781486348#32 := by
  refine (pick1_apply (val_main_v613 (F := Ideal))).trans ?_
  rw [v613_eq]
  refine (congrArg Prod.snd (split_at _ _ 1)).trans ?_
  rw [v191_at, v193_at]
  decide +kernel

/-! ## The noise -/

abbrev lit (b : BitVec 32) : FVec Ideal S_ .f32 := constant S_ .f32 b
def B3f : FVec Ideal S_ .f32 → FVec Ideal S32x10x100000 .f32 := broadcastInDim S32x10x100000 ![] bcast_S_S32x10x100000
theorem hB3f (y : FVec Ideal S_ .f32) (i : S32x10x100000.Idx) : B3f y i = y z0 := broadcastInDim_apply _ bcast_S_S32x10x100000 y i z0 (fun a => a.elim0)

theorem v405_eq : val_main_v405 (F := Ideal) = xori (hhash B3 (val_main_v195 (F := Ideal)) (val_main_v197 (F := Ideal)) (val_main_v232 (F := Ideal))).1
    (hhash B3 (val_main_v195 (F := Ideal)) (val_main_v197 (F := Ideal)) (val_main_v232 (F := Ideal))).2 := by sl_kernel_rfl
theorem v829_eq : val_main_v829 (F := Ideal) = xori (hhash B3 (val_main_v619 (F := Ideal)) (val_main_v621 (F := Ideal)) (val_main_v656 (F := Ideal))).1
    (hhash B3 (val_main_v619 (F := Ideal)) (val_main_v621 (F := Ideal)) (val_main_v656 (F := Ideal))).2 := by sl_kernel_rfl

/-- The noise that words give. -/
def hgum (w : IVec S32x10x100000 32) : FVec Ideal S32x10x100000 .f32 :=
  Host.negf (Host.log (Host.negf (Host.log (maximumf (B3f (lit 0x00800000#32)) (addf (mulf
    (subf (bitcastToFloat .f32 (ori (Host.shrui w (B3 (constantI S_ 32 9#32))) (B3 (constantI S_ 32 1065353216#32)))) (B3f (lit 0x3F800000#32)))
    (B3f (subf (lit 0x3F800000#32) (lit 0x00800000#32)))) (B3f (lit 0x00800000#32)))))))

theorem hgum_apply (w : IVec S32x10x100000 32) (i : S32x10x100000.Idx) : hgum w i = gumS (w i) := by
  show - Ideal.log (- Ideal.log (max (B3f (lit 0x00800000#32) i) ((Ideal.ofBits .f32 (IntOp.shrui .host (w i) (B3 (constantI S_ 32 9#32) i) ||| B3 (constantI S_ 32 1065353216#32) i)
    - B3f (lit 0x3F800000#32) i) * B3f (subf (lit 0x3F800000#32) (lit 0x00800000#32)) i + B3f (lit 0x00800000#32) i))) = _
  rw [hB3f, hB3f, hB3f, hB3, hB3]
  show - Ideal.log (- Ideal.log (max tiny32 ((Ideal.ofBits .f32 (IntOp.shrui .host (w i) 9#32 ||| 1065353216#32) - one32) * (one32 - tiny32) + tiny32))) = _
  rw [IntOp.shrui, if_pos (by decide)]
  rfl

theorem v423_eq : val_main_v423 (F := Ideal) = hgum (val_main_v405 (F := Ideal)) := by sl_kernel_rfl
theorem v847_eq : val_main_v847 (F := Ideal) = hgum (val_main_v829 (F := Ideal)) := by sl_kernel_rfl

/-- The counter of every cell. -/
def hcount : IVec S32x10x100000 32 :=
  addi (addi (muli (iotaInDim S32x10x100000 32 0) (B3 (constantI S_ 32 1000000#32))) (muli (iotaInDim S32x10x100000 32 1) (B3 (constantI S_ 32 100000#32))))
    (iotaInDim S32x10x100000 32 2)
theorem v232_eq : val_main_v232 (F := Ideal) = hcount := by sl_kernel_rfl
theorem v656_eq : val_main_v656 (F := Ideal) = hcount := by sl_kernel_rfl

theorem hcount_apply (b : Fin 32) (w : Fin 10) (e : Fin 100000) :
    hcount (ix3 b w e) = BitVec.ofNat 32 (10 * b.val + w.val) * 100000#32 + BitVec.ofNat 32 e.val := by
  show BitVec.ofNat 32 b.val * B3 (constantI S_ 32 1000000#32) (ix3 b w e) + BitVec.ofNat 32 w.val * B3 (constantI S_ 32 100000#32) (ix3 b w e) + BitVec.ofNat 32 e.val = _
  rw [hB3, hB3]
  show BitVec.ofNat 32 b.val * 1000000#32 + BitVec.ofNat 32 w.val * 100000#32 + BitVec.ofNat 32 e.val = _
  refine congrArg (· + BitVec.ofNat 32 e.val) (BitVec.eq_of_toNat_eq ?_)
  simp only [BitVec.toNat_add, BitVec.toNat_mul, BitVec.toNat_ofNat]
  have := b.isLt
  have := w.isLt
  omega

/-- The noise drawn under the key `(k0, k1)`. -/
def hnoise (k0 k1 : Word) : FVec Ideal S32x10x100000 .f32 := hgum (xori (hhash B3 k0 k1 hcount).1 (hhash B3 k0 k1 hcount).2)

theorem hnoise_apply (k0 k1 : Word) (b : Fin 32) (w : Fin 10) (e : Fin 100000) : hnoise k0 k1 (ix3 b w e) =
    drawn (k0 z0) (k1 z0) (k0 z0 ^^^ k1 z0 ^^^ 466688986#32) (BitVec.ofNat 32 (10 * b.val + w.val)) e.val := by
  unfold hnoise drawn noiseS
  rw [hgum_apply]
  have h := cell_hhash B3 hB3 k0 k1 hcount (ix3 b w e)
  have h1 : (hhash B3 k0 k1 hcount).1 (ix3 b w e) = _ := congrArg Prod.fst h
  have h2 : (hhash B3 k0 k1 hcount).2 (ix3 b w e) = _ := congrArg Prod.snd h
  refine congrArg gumS ?_
  refine (congrArg₂ (· ^^^ ·) h1 h2).trans ?_
  rw [hcount_apply]

theorem v423_noise : val_main_v423 (F := Ideal) = hnoise (val_main_v195 (F := Ideal)) (val_main_v197 (F := Ideal)) := by
  rw [v423_eq, v405_eq, v232_eq]; rfl
theorem v847_noise : val_main_v847 (F := Ideal) = hnoise (val_main_v619 (F := Ideal)) (val_main_v621 (F := Ideal)) := by
  rw [v847_eq, v829_eq, v656_eq]; rfl

theorem noise_first (b : Fin 32) (w : Fin 10) (e : Fin 100000) : val_main_v423 (F := Ideal) (ix3 b w e) =
    drawn 2877103387#32 1697627890#32 3582179379#32 (BitVec.ofNat 32 (10 * b.val + w.val)) e.val := by
  have hk : (2877103387#32 ^^^ 1697627890#32 ^^^ 466688986#32 : BitVec 32) = 3582179379#32 := by decide +kernel
  rw [v423_noise, hnoise_apply, v195_at, v197_at, hk]
theorem noise_second (b : Fin 32) (w : Fin 10) (e : Fin 100000) : val_main_v847 (F := Ideal) (ix3 b w e) =
    drawn 2352926074#32 781486348#32 3111870380#32 (BitVec.ofNat 32 (10 * b.val + w.val)) e.val := by
  have hk : (2352926074#32 ^^^ 781486348#32 ^^^ 466688986#32 : BitVec 32) = 3111870380#32 := by decide +kernel
  rw [v847_noise, hnoise_apply, v619_at, v621_at, hk]

end Cert.ReferenceIdeal.Walking

end
-- ==== Proof.RefOps.lean ====
/- One step of the reference as operations on arrays, and what each of them holds at a walk. -/
module

public import proofs.«01_k».proof.Proof.RefKeys
public import proofs.«01_k».proof.Proof.WalkStep
public import Idealize.ShloMosaic.Lib.ReduceAll

@[expose] public section

set_option maxRecDepth 16384

noncomputable section

namespace Cert.ReferenceIdeal.Walking

open Idealize.ShloMosaic Cert.ReferenceIdeal.Read Cert.Walks Cert.ReferenceIdeal Cert.ReferenceIdeal.Gen Idealize.ShloMosaic.TcCoe Idealize.ShloMosaic.StableHlo

section

variable {α : Type}

/-- A value per edge, for every walk. -/
def perEdge (x : S100000.Idx → α) : S32x10x100000.Idx → α :=
  broadcastInDim S32x10x100000 ![0, 1, 2] bcast_S1x1x100000_S32x10x100000_0_1_2 (broadcastInDim S1x1x100000 ![2] bcast_S100000_S1x1x100000_2 x)
def thick (x : S32x10.Idx → α) : S32x10x1.Idx → α := broadcastInDim S32x10x1 ![0, 1] bcast_S32x10_S32x10x1_0_1 x
def wide (x : S32x10x1.Idx → α) : S32x10x100000.Idx → α := broadcastInDim S32x10x100000 ![0, 1, 2] bcast_S32x10x1_S32x10x100000_0_1_2 x
def thin (x : S_.Idx → α) : S32x10x1.Idx → α := broadcastInDim S32x10x1 ![] bcast_S_S32x10x1 x
def flat (x : S_.Idx → α) : S32x10.Idx → α := broadcastInDim S32x10 ![] bcast_S_S32x10 x
def full (x : S_.Idx → α) : S32x10x100000.Idx → α := broadcastInDim S32x10x100000 ![] bcast_S_S32x10x100000 x

theorem perEdge_apply (x : S100000.Idx → α) (b : Fin 32) (w : Fin 10) (e : Fin 100000) : perEdge x (ix3 b w e) = x (ix1 e) := by
  unfold perEdge
  refine (broadcastInDim_apply _ bcast_S1x1x100000_S32x10x100000_0_1_2 _ _ (ix3 (0 : Fin 1) (0 : Fin 1) e) (fun a => by fin_cases a <;> rfl)).trans ?_
  exact broadcastInDim_apply _ bcast_S100000_S1x1x100000_2 x _ (ix1 e) (fun a => by fin_cases a; rfl)
theorem thick_apply (x : S32x10.Idx → α) (b : Fin 32) (w : Fin 10) (k : Fin 1) : thick x (ix3 b w k) = x (ix2 b w) :=
  broadcastInDim_apply _ bcast_S32x10_S32x10x1_0_1 x _ (ix2 b w) (fun a => by fin_cases a <;> rfl)
theorem wide_apply (x : S32x10x1.Idx → α) (b : Fin 32) (w : Fin 10) (e : Fin 100000) : wide x (ix3 b w e) = x (ix3 b w 0) :=
  broadcastInDim_apply _ bcast_S32x10x1_S32x10x100000_0_1_2 x _ (ix3 b w (0 : Fin 1)) (fun a => by fin_cases a <;> rfl)
theorem thin_apply (x : S_.Idx → α) (i : S32x10x1.Idx) : thin x i = x z0 := broadcastInDim_apply _ bcast_S_S32x10x1 x i z0 (fun a => a.elim0)
theorem flat_apply (x : S_.Idx → α) (i : S32x10.Idx) : flat x i = x z0 := broadcastInDim_apply _ bcast_S_S32x10 x i z0 (fun a => a.elim0)
theorem full_apply (x : S_.Idx → α) (i : S32x10x100000.Idx) : full x i = x z0 := broadcastInDim_apply _ bcast_S_S32x10x100000 x i z0 (fun a => a.elim0)

/-! ## Reductions over the edges -/

theorem redDims : S32x10x100000.Reduces [2] S32x10 := by decide

theorem lift3 (b : Fin 32) (w : Fin 10) (e : Fin 100000) : redDims.lift (ix2 b w) e = ix3 b w e := by
  funext a
  fin_cases a <;> rfl

theorem overEdges (f : α → α → α) [Std.Commutative f] [Std.Associative f] (x : S32x10x100000.Idx → α) (init : S_.Idx → α) (b : Fin 32) (w : Fin 10) :
    Host.reduce f x init reducesTo_S32x10x100000_S32x10_d2 h_S_ (ix2 b w)
      = (Finset.univ : Finset (Fin 100000)).fold f (init (Shape.Idx.first h_S_)) (fun e => x (ix3 b w e)) := by
  rw [Host.reduce_eq_fold_single f x init reducesTo_S32x10x100000_S32x10_d2 redDims h_S_ (ix2 b w)]
  refine congrArg (fun g => Finset.fold f (init (Shape.Idx.first h_S_)) g Finset.univ) ?_
  exact funext fun e => congrArg x (lift3 b w e)

end

def maxEdges (x : FVec Ideal S32x10x100000 .f32) : FVec Ideal S32x10 .f32 :=
  Host.reduce FloatOps.maximumf x (lit 0xFF800000#32) reducesTo_S32x10x100000_S32x10_d2 h_S_
def minEdges (x : IVec S32x10x100000 32) : IVec S32x10 32 :=
  Host.reduce IntOp.minsi x (constantI S_ 32 2147483647#32) reducesTo_S32x10x100000_S32x10_d2 h_S_
def anyEdge (x : IVec S32x10x100000 1) : IVec S32x10 1 :=
  Host.reduce IntOp.ori x (constantI S_ 1 0#1) reducesTo_S32x10x100000_S32x10_d2 h_S_

theorem maxEdges_spec (x : FVec Ideal S32x10x100000 .f32) (b : Fin 32) (w : Fin 10) :
    (∀ e, (x (ix3 b w e) : EReal) ≤ maxEdges x (ix2 b w)) ∧ (maxEdges x (ix2 b w) = (⊥ : EReal) ∨ ∃ e, x (ix3 b w e) = maxEdges x (ix2 b w)) := by
  have h : maxEdges x (ix2 b w) = Finset.univ.fold max (⊥ : EReal) (fun e : Fin 100000 => x (ix3 b w e)) := by
    unfold maxEdges
    rw [overEdges]
    refine congrArg (fun z => Finset.fold _ z _ _) ?_
    exact bot_bits
  rw [h]
  exact fold_max_spec _

theorem minEdges_spec (x : IVec S32x10x100000 32) (b : Fin 32) (w : Fin 10) :
    (∀ e, (minEdges x (ix2 b w)).toInt ≤ (x (ix3 b w e)).toInt) ∧ (minEdges x (ix2 b w) = 2147483647#32 ∨ ∃ e, x (ix3 b w e) = minEdges x (ix2 b w)) := by
  unfold minEdges
  rw [overEdges]
  exact fold_min_spec _ _ minsi_cases

theorem fold_or_one {ι : Type} [Fintype ι] (f : ι → BitVec 1) (op : BitVec 1 → BitVec 1 → BitVec 1) [Std.Commutative op] [Std.Associative op]
    (hop : ∀ a b, op a b = a ||| b) : Finset.univ.fold op 0#1 f = 1#1 ↔ ∃ k, f k = 1#1 := by
  have h : ∀ S : Finset ι, S.fold op 0#1 f = 1#1 ↔ ∃ k ∈ S, f k = 1#1 := by
    intro S
    induction S using Finset.cons_induction with
    | empty => simp
    | cons a S ha ih =>
      rw [Finset.fold_cons, hop]
      refine (or_one _ _).trans ((or_congr Iff.rfl ih).trans ?_)
      simp
  simpa using h Finset.univ

theorem anyEdge_one (x : IVec S32x10x100000 1) (b : Fin 32) (w : Fin 10) : anyEdge x (ix2 b w) = 1#1 ↔ ∃ e, x (ix3 b w e) = 1#1 := by
  unfold anyEdge
  rw [overEdges]
  exact fold_or_one _ _ fun _ _ => rfl

/-! ## An entry of a table per walk -/

section

variable {α : Type}

/-- The place of each walk, a negative one counted from the end. -/
def places (idx : IVec S32x10 32) : IVec S32x10x1 32 :=
  thick (select (cmpi .slt idx (flat (constantI S_ 32 0#32))) (addi idx (flat (constantI S_ 32 100000#32))) idx)
/-- Whether each walk's place is one of the table. -/
def placed (p : IVec S32x10x1 32) : IVec S32x10 1 :=
  Host.reduce IntOp.andi (andi (cmpi .sge p (thin (constantI S_ 32 0#32)))
    (cmpi .sle p (broadcastInDim S32x10x1 ![0, 1, 2] bcast_S1x1x1_S32x10x1_0_1_2 (broadcastInDim S1x1x1 ![2] bcast_S1_S1x1x1_2 (constantI S1 32 99999#32)))))
    (constantI S_ 1 1#1) reducesTo_S32x10x1_S32x10_d2 h_S_
/-- The table's entry at each walk's place. -/
def takeAt (x : S100000.Idx → α) (idx : IVec S32x10 32) (fill : S32x10.Idx → α) : S32x10.Idx → α :=
  select (placed (places idx)) (Host.gather gather_S100000_S32x10x1_S32x10_n_0_n_n_0_2_1 x (places idx)) fill

theorem places_apply (idx : IVec S32x10 32) {b : Fin 32} {w : Fin 10} {e : ℕ} (he : e < 100000) (h : idx (ix2 b w) = BitVec.ofNat 32 e) (k : Fin 1) :
    places idx (ix3 b w k) = BitVec.ofNat 32 e := by
  unfold places
  rw [thick_apply]
  show Scalar.select (BitVec.ofBool ((idx (ix2 b w)).slt (flat (constantI S_ 32 0#32) (ix2 b w)))) _ (idx (ix2 b w)) = _
  rw [h]
  refine sel_neg ?_ _ _
  rw [flat_apply, ofBool_one]
  show ¬ (BitVec.ofNat 32 e).slt 0#32 = true
  rw [BitVec.slt, decide_eq_true_iff, toInt_ofNat (by omega)]
  have : (0#32).toInt = 0 := by decide
  omega

theorem placed_one (p : IVec S32x10x1 32) (h : ∀ b w k, ∃ e < 100000, p (ix3 b w k) = BitVec.ofNat 32 e) (i : S32x10.Idx) : placed p i = 1#1 := by
  unfold placed
  refine Host.reduce_andi_one _ _ _ _ i rfl fun j => ?_
  obtain ⟨b, w, k, rfl⟩ : ∃ (b : Fin 32) (w : Fin 10) (k : Fin 1), j = ix3 b w k := ⟨j 0, j 1, j 2, by funext a; fin_cases a <;> rfl⟩
  obtain ⟨e, he, hp⟩ := h b w k
  refine (Walks.and_one _ _).2 ⟨(ofBool_one _).2 ?_, (ofBool_one _).2 ?_⟩
  · show (thin (constantI S_ 32 0#32) (ix3 b w k)).sle (p (ix3 b w k)) = true
    rw [thin_apply, hp, BitVec.sle, decide_eq_true_iff, toInt_ofNat (by omega)]
    show (0#32).toInt ≤ _
    have : (0#32).toInt = 0 := by decide
    omega
  · show (p (ix3 b w k)).sle 99999#32 = true
    rw [hp, BitVec.sle, decide_eq_true_iff, toInt_ofNat (by omega)]
    have : (99999#32).toInt = 99999 := by decide
    omega

theorem gatherAt (x : S100000.Idx → α) (p : IVec S32x10x1 32) (b : Fin 32) (w : Fin 10) (e : Fin 100000) (h : p (ix3 b w 0) = BitVec.ofNat 32 e.val) :
    Host.gather gather_S100000_S32x10x1_S32x10_n_0_n_n_0_2_1 x p (ix2 b w) = x (ix1 e) := by
  unfold Host.gather
  refine congrArg x (funext fun a => Fin.ext ?_)
  obtain rfl : a = 0 := Subsingleton.elim _ _
  have hs : GatherDims.siIdx gather_S100000_S32x10x1_S32x10_n_0_n_n_0_2_1 (ix2 b w) ⟨0, by decide⟩ = ix3 b w (0 : Fin 1) := by
    funext k
    fin_cases k <;> rfl
  refine (show _ = min (p (GatherDims.siIdx gather_S100000_S32x10x1_S32x10_n_0_n_n_0_2_1 (ix2 b w) ⟨0, by decide⟩)).toInt.toNat (100000 - 1) + 0 + 0 from rfl).trans ?_
  rw [hs, h, toInt_ofNat (by have := e.isLt; omega)]
  have := e.isLt
  show min e.val 99999 + 0 + 0 = e.val
  omega

theorem takeAt_apply (x : S100000.Idx → α) (idx : IVec S32x10 32) (fill : S32x10.Idx → α) (h : ∀ b w, ∃ e < 100000, idx (ix2 b w) = BitVec.ofNat 32 e)
    (b : Fin 32) (w : Fin 10) (e : Fin 100000) (he : idx (ix2 b w) = BitVec.ofNat 32 e.val) : takeAt x idx fill (ix2 b w) = x (ix1 e) := by
  unfold takeAt
  refine (sel_pos (placed_one _ (fun b w k => ?_) _) _ _).trans ?_
  · obtain ⟨e, he, hp⟩ := h b w
    exact ⟨e, he, places_apply idx he hp k⟩
  · exact gatherAt x _ b w e (places_apply idx e.isLt he 0)

end

end Cert.ReferenceIdeal.Walking

end
-- ==== Proof.RefStep.lean ====
/- One step of the reference at one walk: it leaves along the first of the directed edges with the best score. -/
module

public import proofs.«01_k».proof.Proof.RefOps

@[expose] public section

set_option maxRecDepth 16384

noncomputable section

namespace Cert.ReferenceIdeal.Walking

open Idealize.ShloMosaic Cert.ReferenceIdeal.Read Cert.Walks Cert.ReferenceIdeal Cert.ReferenceIdeal.Gen Idealize.ShloMosaic.TcCoe Idealize.ShloMosaic.StableHlo

def hvalid (src : IVec S100000 32) (tims : FVec Ideal S100000 .f32) (cn : IVec S32x10 32) (ct : FVec Ideal S32x10 .f32) : IVec S32x10x100000 1 :=
  andi (cmpi .eq (perEdge src) (wide (thick cn))) (cmpf .olt (perEdge tims) (wide (thick ct)))
/-- The latest admissible time, zero where there is none. -/
def hlate (v : IVec S32x10x100000 1) (tims : FVec Ideal S100000 .f32) : FVec Ideal S32x10x1 .f32 :=
  select (cmpf .olt (Host.absf (thick (maxEdges (select v (perEdge tims) (full (lit 0xFF800000#32)))))) (thin (lit 0x7F800000#32)))
    (thick (maxEdges (select v (perEdge tims) (full (lit 0xFF800000#32))))) (thin (lit 0x00000000#32))
def hscores (v : IVec S32x10x100000 1) (tims : FVec Ideal S100000 .f32) (g : FVec Ideal S32x10x100000 .f32) : FVec Ideal S32x10x100000 .f32 :=
  addf (select v (Host.divf (subf (perEdge tims) (wide (hlate v tims))) (full (lit 0x3DCCCCCD#32))) (full (lit 0xFF800000#32))) g
/-- The first of the edges with the best score. -/
def hindex (s : FVec Ideal S32x10x100000 .f32) : IVec S32x10 32 :=
  minEdges (select (cmpf .oeq s (wide (thick (maxEdges s)))) (iotaInDim S32x10x100000 32 2) (full (constantI S_ 32 100000#32)))

theorem hindex_spec (s : FVec Ideal S32x10x100000 .f32) (b : Fin 32) (w : Fin 10) : ∃ c : Fin 100000, hindex s (ix2 b w) = BitVec.ofNat 32 c.val
    ∧ ∀ e : Fin 100000, (s (ix3 b w e) : EReal) < s (ix3 b w c) ∨ (s (ix3 b w e) : EReal) = s (ix3 b w c) ∧ c.val ≤ e.val := by
  obtain ⟨hle, hat⟩ := maxEdges_spec s b w
  obtain ⟨k1, hk1⟩ : ∃ e, (s (ix3 b w e) : EReal) = maxEdges s (ix2 b w) := by
    rcases hat with h | h
    · refine ⟨⟨0, by omega⟩, ?_⟩
      have := hle ⟨0, by omega⟩
      rw [h] at this ⊢
      exact le_bot_iff.1 this
    · exact h
  unfold hindex
  generalize hy : (select (cmpf .oeq s (wide (thick (maxEdges s)))) (iotaInDim S32x10x100000 32 2) (full (constantI S_ 32 100000#32))) = y
  have hyk : ∀ e : Fin 100000, y (ix3 b w e) = if (s (ix3 b w e) : EReal) = maxEdges s (ix2 b w) then BitVec.ofNat 32 e.val else 100000#32 := by
    intro e
    rw [← hy]
    show Scalar.select (BitVec.ofBool (decide ((s (ix3 b w e) : EReal) = wide (thick (maxEdges s)) (ix3 b w e)))) (BitVec.ofNat 32 e.val)
      (full (constantI S_ 32 100000#32) (ix3 b w e)) = _
    rw [wide_apply, thick_apply, full_apply]
    exact sel_if ((ofBool_one _).trans decide_eq_true_iff) _ _
  obtain ⟨jle, jat⟩ := minEdges_spec y b w
  have h1 := jle k1
  rw [hyk, if_pos hk1, toInt_ofNat (by have := k1.isLt; omega)] at h1
  have hmx : (2147483647#32).toInt = 2147483647 := by decide
  have hm1 : (100000#32).toInt = 100000 := by decide
  obtain ⟨c, hc⟩ := jat.resolve_left (fun e => by rw [e, hmx] at h1; have := k1.isLt; omega)
  have hcs : (s (ix3 b w c) : EReal) = maxEdges s (ix2 b w) := by
    by_contra h
    rw [hyk, if_neg h] at hc
    rw [← hc, hm1] at h1
    have := k1.isLt
    omega
  rw [hyk, if_pos hcs] at hc
  refine ⟨c, hc.symm, fun e => ?_⟩
  rcases lt_or_eq_of_le (hle e) with h | h
  · exact Or.inl (by rw [hcs]; exact h)
  · refine Or.inr ⟨by rw [hcs]; exact h, ?_⟩
    have := jle e
    rw [hyk, if_pos h, ← hc, toInt_ofNat (by have := c.isLt; omega), toInt_ofNat (by have := e.isLt; omega)] at this
    omega

theorem inf_bits : Ideal.ofBits .f32 0x7F800000#32 = (⊤ : EReal) := by simp [Ideal.ofBits, Ideal.ieee]

theorem finite_sel (M : FVec Ideal S32x10x1 .f32) (i : S32x10x1.Idx) (y : ℝ) (h : (M i : EReal) = (y : EReal)) :
    select (cmpf .olt (Host.absf M) (thin (lit 0x7F800000#32))) M (thin (lit 0x00000000#32)) i = M i := by
  refine sel_pos ?_ _ _
  show BitVec.ofBool (decide (max (M i : EReal) (-(M i : EReal)) < thin (lit 0x7F800000#32) i)) = 1#1
  rw [thin_apply, ofBool_one, decide_eq_true_iff, h]
  refine lt_of_lt_of_eq ?_ inf_bits.symm
  exact max_lt (EReal.coe_lt_top y) (by rw [← EReal.coe_neg]; exact EReal.coe_lt_top _)

section

variable (G : Graph) {src dst : IVec S100000 32} {tims : FVec Ideal S100000 .f32} (cn : IVec S32x10 32) (ct : FVec Ideal S32x10 .f32)
variable (hsrc : ∀ e : Fin 100000, src (ix1 e) = G.src e.val) (htim : ∀ e : Fin 100000, (tims (ix1 e) : EReal) = G.tim e.val)
include hsrc htim

theorem hvalid_one (b : Fin 32) (w : Fin 10) (e : Fin 100000) :
    hvalid src tims cn ct (ix3 b w e) = 1#1 ↔ G.valid (cn (ix2 b w)) (ct (ix2 b w)) e.val := by
  refine (Walks.and_one _ _).trans (and_congr ?_ ?_)
  · show BitVec.ofBool (perEdge src (ix3 b w e) == wide (thick cn) (ix3 b w e)) = 1#1 ↔ _
    rw [perEdge_apply, wide_apply, thick_apply, ofBool_one, beq_iff_eq, hsrc]
  · show BitVec.ofBool (decide ((perEdge tims (ix3 b w e) : EReal) < wide (thick ct) (ix3 b w e))) = 1#1 ↔ _
    rw [perEdge_apply, wide_apply, thick_apply, ofBool_one, decide_eq_true_iff, htim]

theorem hlate_spec (hr : ∀ e, e < 50000 → G.t e ≠ ⊥) (b : Fin 32) (w : Fin 10) (hex : ∃ e, e < 100000 ∧ G.valid (cn (ix2 b w)) (ct (ix2 b w)) e) :
    (∃ e, e < 100000 ∧ G.valid (cn (ix2 b w)) (ct (ix2 b w)) e ∧ G.tim e = hlate (hvalid src tims cn ct) tims (ix3 b w 0))
      ∧ ∀ e, e < 100000 → G.valid (cn (ix2 b w)) (ct (ix2 b w)) e → G.tim e ≤ hlate (hvalid src tims cn ct) tims (ix3 b w 0) := by
  unfold hlate
  generalize hx : (select (hvalid src tims cn ct) (perEdge tims) (full (lit 0xFF800000#32)) : FVec Ideal S32x10x100000 .f32) = x
  have hxv : ∀ e : Fin 100000, G.valid (cn (ix2 b w)) (ct (ix2 b w)) e.val → (x (ix3 b w e) : EReal) = G.tim e.val := by
    intro e he
    rw [← hx]
    refine (sel_pos ((hvalid_one G cn ct hsrc htim b w e).2 he) _ _).trans ?_
    rw [perEdge_apply, htim]
  have hxn : ∀ e : Fin 100000, ¬ G.valid (cn (ix2 b w)) (ct (ix2 b w)) e.val → (x (ix3 b w e) : EReal) = ⊥ := by
    intro e he
    rw [← hx]
    refine (sel_neg (fun h => he ((hvalid_one G cn ct hsrc htim b w e).1 h)) _ _).trans ?_
    rw [full_apply]
    exact bot_bits
  obtain ⟨hle, hat⟩ := maxEdges_spec x b w
  obtain ⟨e0, he0, hv0⟩ := hex
  have hM0 : (maxEdges x (ix2 b w) : EReal) ≠ ⊥ := by
    intro h
    have := hle ⟨e0, he0⟩
    rw [h, hxv ⟨e0, he0⟩ hv0] at this
    obtain ⟨y, hy⟩ := tim_real hr he0 hv0
    rw [hy] at this
    exact EReal.coe_ne_bot y (le_bot_iff.1 this)
  obtain ⟨c, hc⟩ := hat.resolve_left hM0
  have hvc : G.valid (cn (ix2 b w)) (ct (ix2 b w)) c.val := by
    by_contra h
    exact hM0 (hc ▸ hxn c h)
  rw [hxv c hvc] at hc
  obtain ⟨y, hy⟩ := tim_real hr c.isLt hvc
  have hsel : select (cmpf .olt (Host.absf (thick (maxEdges x))) (thin (lit 0x7F800000#32))) (thick (maxEdges x)) (thin (lit 0x00000000#32)) (ix3 b w 0)
      = maxEdges x (ix2 b w) := by
    refine (finite_sel (thick (maxEdges x)) (ix3 b w 0) y ?_).trans (thick_apply _ b w 0)
    rw [thick_apply, ← hc, hy]
  rw [hsel]
  exact ⟨⟨c.val, c.isLt, hvc, hc⟩, fun e he hv => by have := hle ⟨e, he⟩; rwa [hxv ⟨e, he⟩ hv] at this⟩

theorem hscores_apply (g : FVec Ideal S32x10x100000 .f32) (b : Fin 32) (w : Fin 10) (gn : ℕ → EReal) (hg : ∀ e : Fin 100000, (g (ix3 b w e) : EReal) = gn e.val)
    (e : Fin 100000) : hscores (hvalid src tims cn ct) tims g (ix3 b w e)
      = G.score gn (cn (ix2 b w)) (ct (ix2 b w)) (hlate (hvalid src tims cn ct) tims (ix3 b w 0)) e.val := by
  unfold hscores
  generalize hlate (hvalid src tims cn ct) tims = tm
  show Scalar.select (hvalid src tims cn ct (ix3 b w e)) (Ideal.div ((perEdge tims (ix3 b w e) : EReal) - wide tm (ix3 b w e)) (full (lit 0x3DCCCCCD#32) (ix3 b w e)))
    (full (lit 0xFF800000#32) (ix3 b w e)) + (g (ix3 b w e) : EReal) = _
  rw [perEdge_apply, wide_apply, full_apply, full_apply, hg, htim]
  by_cases h : G.valid (cn (ix2 b w)) (ct (ix2 b w)) e.val
  · rw [sel_pos ((hvalid_one G cn ct hsrc htim b w e).2 h), score_valid h]
    rfl
  · rw [sel_neg (fun h' => h ((hvalid_one G cn ct hsrc htim b w e).1 h')), score_invalid h]
    show Ideal.ofBits .f32 0xFF800000#32 + _ = _
    have hb : Ideal.ofBits .f32 0xFF800000#32 = (⊥ : EReal) := bot_bits
    rw [hb]
    exact EReal.bot_add _

variable (hdst : ∀ e : Fin 100000, dst (ix1 e) = G.dst e.val)
include hdst

theorem step_spec (hr : ∀ e, e < 50000 → G.t e ≠ ⊥) (g : FVec Ideal S32x10x100000 .f32) (b : Fin 32) (w : Fin 10) (gn : ℕ → EReal)
    (hg : ∀ e : Fin 100000, (g (ix3 b w e) : EReal) = gn e.val) (al : BitVec 1) (fi : IVec S32x10 32) (ff : FVec Ideal S32x10 .f32) :
    Stepped G gn (cn (ix2 b w)) (ct (ix2 b w)) al (al &&& anyEdge (hvalid src tims cn ct) (ix2 b w))
      (takeAt dst (hindex (hscores (hvalid src tims cn ct) tims g)) fi (ix2 b w)) (takeAt tims (hindex (hscores (hvalid src tims cn ct) tims g)) ff (ix2 b w)) := by
  have hal : (al &&& anyEdge (hvalid src tims cn ct) (ix2 b w)) = 1#1 ↔ al = 1#1 ∧ ∃ c, c < 100000 ∧ G.valid (cn (ix2 b w)) (ct (ix2 b w)) c := by
    refine (Walks.and_one _ _).trans (and_congr Iff.rfl ((anyEdge_one _ b w).trans ⟨?_, ?_⟩))
    · rintro ⟨e, he⟩
      exact ⟨e.val, e.isLt, (hvalid_one G cn ct hsrc htim b w e).1 he⟩
    · rintro ⟨e, he, hv⟩
      exact ⟨⟨e, he⟩, (hvalid_one G cn ct hsrc htim b w ⟨e, he⟩).2 hv⟩
  refine ⟨hal, fun h => ?_⟩
  obtain ⟨hex, hle⟩ := hlate_spec G cn ct hsrc htim hr b w (hal.1 h).2
  have hs := hscores_apply G cn ct hsrc htim g b w gn hg
  generalize hscores (hvalid src tims cn ct) tims g = s at hs ⊢
  have hall : ∀ b w, ∃ e < 100000, hindex s (ix2 b w) = BitVec.ofNat 32 e := fun b w => by
    obtain ⟨c, hc, _⟩ := hindex_spec s b w
    exact ⟨c.val, c.isLt, hc⟩
  obtain ⟨c, hc, hbest⟩ := hindex_spec s b w
  refine ⟨c.val, hlate (hvalid src tims cn ct) tims (ix3 b w 0), ⟨c.isLt, fun e he => ?_⟩, hex, hle, ?_, ?_⟩
  · have := hbest ⟨e, he⟩
    rw [hs, hs] at this
    exact this
  · rw [takeAt_apply dst _ fi hall b w c hc, hdst]
  · rw [takeAt_apply tims _ ff hall b w c hc, htim]

end

end Cert.ReferenceIdeal.Walking

end
-- ==== Proof.RefWalk.lean ====
/- The reference's two steps at one walk, and where its three results hold them. -/
module

public import proofs.«01_k».proof.Proof.RefStep

@[expose] public section

set_option maxRecDepth 16384

noncomputable section

namespace Cert.ReferenceIdeal.Walking

open Idealize.ShloMosaic Cert.ReferenceIdeal.Read Cert.Walks Cert.ReferenceIdeal Cert.ReferenceIdeal.Gen Idealize.ShloMosaic.TcCoe Idealize.ShloMosaic.StableHlo

variable (x0 : IVec S32 32) (x1 : FVec Ideal S32 .f32) (x2 : IVec S2x50000 32) (x3 : FVec Ideal S50000 .f32)

/-! ## The graph of the arguments -/

/-- The edges of the arguments; past them there are none. -/
def graph : Graph where
  u e := if h : e < 50000 then x2 (ix2 0 ⟨e, h⟩) else 0xFFFFFFFF#32
  v e := if h : e < 50000 then x2 (ix2 1 ⟨e, h⟩) else 0xFFFFFFFF#32
  t e := if h : e < 50000 then x3 (ix1 ⟨e, h⟩) else (0 : EReal)

theorem graph_u {e : ℕ} (h : e < 50000) : (graph x2 x3).u e = x2 (ix2 0 ⟨e, h⟩) := dif_pos h
theorem graph_v {e : ℕ} (h : e < 50000) : (graph x2 x3).v e = x2 (ix2 1 ⟨e, h⟩) := dif_pos h
theorem graph_t {e : ℕ} (h : e < 50000) : (graph x2 x3).t e = x3 (ix1 ⟨e, h⟩) := dif_pos h

section

variable {α : Type}

/-- One half after another. -/
def halves (a b : S50000.Idx → α) : S100000.Idx → α := concatenate S100000 0 [⟨S50000, a⟩, ⟨S50000, b⟩] concatenates_S50000_S50000_S100000_d0

theorem halves_low (a b : S50000.Idx → α) (e : Fin 100000) (h : e.val < 50000) : halves a b (ix1 e) = a (ix1 ⟨e.val, h⟩) :=
  concatenate_pair_apply_left (s₁ := S50000) (s₂ := S50000) _ _ _ _ (ix1 e) rfl (ix1 ⟨e.val, h⟩) fun k => by fin_cases k; rfl
theorem halves_high (a b : S50000.Idx → α) (e : Fin 100000) (h : ¬ e.val < 50000) (h' : e.val - 50000 < 50000) :
    halves a b (ix1 e) = b (ix1 ⟨e.val - 50000, h'⟩) :=
  concatenate_pair_apply_right (s₁ := S50000) (s₂ := S50000) _ _ _ _ (ix1 e) rfl rfl (ix1 ⟨e.val - 50000, h'⟩)
    (fun k hk => by fin_cases k; exact absurd rfl hk) (Nat.sub_add_cancel (Nat.le_of_not_lt h))

end

theorem row_zero (e : Fin 50000) : val_main_v1 (F := Ideal) x2 (ix1 e) = x2 (ix2 0 e) := by
  rw [val_main_v1_apply, val_main_v0_apply]
  refine congrArg x2 (funext fun a => Fin.ext ?_)
  have := e.isLt
  fin_cases a
  · rfl
  · show e.val % 50000 = e.val
    omega
theorem row_one (e : Fin 50000) : val_main_v3 (F := Ideal) x2 (ix1 e) = x2 (ix2 1 e) := by
  rw [val_main_v3_apply, val_main_v2_apply]
  refine congrArg x2 (funext fun a => Fin.ext ?_)
  have := e.isLt
  fin_cases a
  · rfl
  · show e.val % 50000 = e.val
    omega

theorem v4_eq : val_main_v4 (F := Ideal) x2 = halves (val_main_v1 (F := Ideal) x2) (val_main_v3 (F := Ideal) x2) := by sl_kernel_rfl
theorem v9_eq : val_main_v9 (F := Ideal) x2 = halves (val_main_v3 (F := Ideal) x2) (val_main_v1 (F := Ideal) x2) := by sl_kernel_rfl
theorem v10_eq : val_main_v10 (F := Ideal) x3 = halves x3 x3 := by sl_kernel_rfl

theorem src_apply (e : Fin 100000) : val_main_v4 (F := Ideal) x2 (ix1 e) = (graph x2 x3).src e.val := by
  rw [v4_eq]
  unfold Graph.src
  have := e.isLt
  by_cases h : e.val < 50000
  · rw [halves_low _ _ e h, row_zero, if_pos h, graph_u x2 x3 h]
  · rw [halves_high _ _ e h (by omega), row_one, if_neg h, graph_v x2 x3 (by omega)]
theorem dst_apply (e : Fin 100000) : val_main_v9 (F := Ideal) x2 (ix1 e) = (graph x2 x3).dst e.val := by
  rw [v9_eq]
  unfold Graph.dst
  have := e.isLt
  by_cases h : e.val < 50000
  · rw [halves_low _ _ e h, row_one, if_pos h, graph_v x2 x3 h]
  · rw [halves_high _ _ e h (by omega), row_zero, if_neg h, graph_u x2 x3 (by omega)]
theorem tim_apply (e : Fin 100000) : (val_main_v10 (F := Ideal) x3 (ix1 e) : EReal) = (graph x2 x3).tim e.val := by
  rw [v10_eq]
  unfold Graph.tim ed
  have := e.isLt
  by_cases h : e.val < 50000
  · rw [halves_low _ _ e h, if_pos h, graph_t x2 x3 h]
  · rw [halves_high _ _ e h (by omega), if_neg h, graph_t x2 x3 (by omega)]

/-! ## The two steps -/

theorem v208_eq : val_main_v208 (F := Ideal) x0 x1 x2 x3 = hvalid (val_main_v4 (F := Ideal) x2) (val_main_v10 (F := Ideal) x3)
    (val_main_v12 (F := Ideal) x0) (val_main_v14 (F := Ideal) x1) := by sl_kernel_rfl
theorem v424_eq : val_main_v424 (F := Ideal) x0 x1 x2 x3 = hscores (val_main_v208 (F := Ideal) x0 x1 x2 x3) (val_main_v10 (F := Ideal) x3)
    (val_main_v423 (F := Ideal)) := by sl_kernel_rfl
theorem v431_eq : val_main_v431 (F := Ideal) x0 x1 x2 x3 = hindex (val_main_v424 (F := Ideal) x0 x1 x2 x3) := by sl_kernel_rfl
theorem v433_eq : val_main_v433 (F := Ideal) x0 x1 x2 x3 = takeAt (val_main_v9 (F := Ideal) x2) (val_main_v431 (F := Ideal) x0 x1 x2 x3)
    (flat (constantI S_ 32 2147483648#32)) := by sl_kernel_rfl
theorem v434_eq : val_main_v434 (F := Ideal) x0 x1 x2 x3 = takeAt (val_main_v10 (F := Ideal) x3) (val_main_v431 (F := Ideal) x0 x1 x2 x3)
    (flat (lit 0x7FC00000#32)) := by sl_kernel_rfl
theorem v435_eq : val_main_v435 (F := Ideal) x0 x1 x2 x3 = andi (flat (constantI S_ 1 1#1)) (anyEdge (val_main_v208 (F := Ideal) x0 x1 x2 x3)) := by sl_kernel_rfl

theorem v436_eq : val_main_v436 (F := Ideal) x0 x1 x2 x3 = select (val_main_v435 (F := Ideal) x0 x1 x2 x3) (val_main_v433 (F := Ideal) x0 x1 x2 x3) (val_main_v12 (F := Ideal) x0) := by sl_kernel_rfl
theorem v437_eq : val_main_v437 (F := Ideal) x0 x1 x2 x3 = select (val_main_v435 (F := Ideal) x0 x1 x2 x3) (val_main_v434 (F := Ideal) x0 x1 x2 x3) (val_main_v14 (F := Ideal) x1) := by sl_kernel_rfl
theorem v438_eq : val_main_v438 (F := Ideal) x0 x1 x2 x3 = select (val_main_v435 (F := Ideal) x0 x1 x2 x3) (val_main_v433 (F := Ideal) x0 x1 x2 x3) (flat (constantI S_ 32 0#32)) := by sl_kernel_rfl
theorem v439_eq : val_main_v439 (F := Ideal) x0 x1 x2 x3 = select (val_main_v435 (F := Ideal) x0 x1 x2 x3) (val_main_v434 (F := Ideal) x0 x1 x2 x3) (flat (lit 0x00000000#32)) := by sl_kernel_rfl
theorem v862_eq : val_main_v862 (F := Ideal) x0 x1 x2 x3 = select (val_main_v859 (F := Ideal) x0 x1 x2 x3) (val_main_v857 (F := Ideal) x0 x1 x2 x3) (flat (constantI S_ 32 0#32)) := by sl_kernel_rfl
theorem v863_eq : val_main_v863 (F := Ideal) x0 x1 x2 x3 = select (val_main_v859 (F := Ideal) x0 x1 x2 x3) (val_main_v858 (F := Ideal) x0 x1 x2 x3) (flat (lit 0x00000000#32)) := by sl_kernel_rfl

theorem v632_eq : val_main_v632 (F := Ideal) x0 x1 x2 x3 = hvalid (val_main_v4 (F := Ideal) x2) (val_main_v10 (F := Ideal) x3)
    (val_main_v436 (F := Ideal) x0 x1 x2 x3) (val_main_v437 (F := Ideal) x0 x1 x2 x3) := by sl_kernel_rfl
theorem v848_eq : val_main_v848 (F := Ideal) x0 x1 x2 x3 = hscores (val_main_v632 (F := Ideal) x0 x1 x2 x3) (val_main_v10 (F := Ideal) x3)
    (val_main_v847 (F := Ideal)) := by sl_kernel_rfl
theorem v855_eq : val_main_v855 (F := Ideal) x0 x1 x2 x3 = hindex (val_main_v848 (F := Ideal) x0 x1 x2 x3) := by sl_kernel_rfl
theorem v857_eq : val_main_v857 (F := Ideal) x0 x1 x2 x3 = takeAt (val_main_v9 (F := Ideal) x2) (val_main_v855 (F := Ideal) x0 x1 x2 x3)
    (flat (constantI S_ 32 2147483648#32)) := by sl_kernel_rfl
theorem v858_eq : val_main_v858 (F := Ideal) x0 x1 x2 x3 = takeAt (val_main_v10 (F := Ideal) x3) (val_main_v855 (F := Ideal) x0 x1 x2 x3)
    (flat (lit 0x7FC00000#32)) := by sl_kernel_rfl
theorem v859_eq : val_main_v859 (F := Ideal) x0 x1 x2 x3 = andi (val_main_v435 (F := Ideal) x0 x1 x2 x3) (anyEdge (val_main_v632 (F := Ideal) x0 x1 x2 x3)) := by sl_kernel_rfl

theorem v12_apply (b : Fin 32) (w : Fin 10) : val_main_v12 (F := Ideal) x0 (ix2 b w) = x0 (ix1 b) := by
  rw [val_main_v12_apply, val_main_v11_apply]
  exact congrArg x0 (funext fun a => Fin.ext (by fin_cases a; rfl))
theorem v14_apply (b : Fin 32) (w : Fin 10) : val_main_v14 (F := Ideal) x1 (ix2 b w) = x1 (ix1 b) := by
  rw [val_main_v14_apply, val_main_v13_apply]
  exact congrArg x1 (funext fun a => Fin.ext (by fin_cases a; rfl))

theorem andi_at {s : Shape} (x y : IVec s 1) (i : s.Idx) : andi x y i = x i &&& y i := rfl
theorem select_at {s : Shape} {α : Type} (c : IVec s 1) (x y : s.Idx → α) (i : s.Idx) : select c x y i = Scalar.select (c i) (x i) (y i) := rfl
theorem yes_at (b : Fin 32) (w : Fin 10) : flat (constantI S_ 1 1#1) (ix2 b w) = 1#1 := (flat_apply _ _).trans rfl

/-- The reference's two steps at walk `w` of source `b`. -/
theorem ref_walk (hr : ∀ e, e < 50000 → (graph x2 x3).t e ≠ ⊥) (b : Fin 32) (w : Fin 10) :
    Walk (graph x2 x3) (drawn 2877103387#32 1697627890#32 3582179379#32 (BitVec.ofNat 32 (10 * b.val + w.val)))
      (drawn 2352926074#32 781486348#32 3111870380#32 (BitVec.ofNat 32 (10 * b.val + w.val))) (x0 (ix1 b)) (x1 (ix1 b))
      (val_main_v435 (F := Ideal) x0 x1 x2 x3 (ix2 b w)) (val_main_v433 (F := Ideal) x0 x1 x2 x3 (ix2 b w)) (val_main_v434 (F := Ideal) x0 x1 x2 x3 (ix2 b w))
      (val_main_v859 (F := Ideal) x0 x1 x2 x3 (ix2 b w)) (val_main_v857 (F := Ideal) x0 x1 x2 x3 (ix2 b w)) (val_main_v858 (F := Ideal) x0 x1 x2 x3 (ix2 b w)) := by
  have h1 := step_spec (graph x2 x3) (val_main_v12 (F := Ideal) x0) (val_main_v14 (F := Ideal) x1) (src_apply x2 x3) (tim_apply x2 x3) (dst_apply x2 x3) hr
    (val_main_v423 (F := Ideal)) b w _ (fun e => noise_first b w e) 1#1 (flat (constantI S_ 32 2147483648#32)) (flat (lit 0x7FC00000#32))
  have h2 := step_spec (graph x2 x3) (val_main_v436 (F := Ideal) x0 x1 x2 x3) (val_main_v437 (F := Ideal) x0 x1 x2 x3) (src_apply x2 x3) (tim_apply x2 x3) (dst_apply x2 x3) hr
    (val_main_v847 (F := Ideal)) b w _ (fun e => noise_second b w e) (val_main_v435 (F := Ideal) x0 x1 x2 x3 (ix2 b w))
    (flat (constantI S_ 32 2147483648#32)) (flat (lit 0x7FC00000#32))
  rw [← v208_eq, ← v424_eq, ← v431_eq, ← v433_eq, ← v434_eq, v12_apply, v14_apply] at h1
  rw [← v632_eq, ← v848_eq, ← v855_eq, ← v857_eq, ← v858_eq] at h2
  have e1 : val_main_v435 (F := Ideal) x0 x1 x2 x3 (ix2 b w) = 1#1 &&& anyEdge (val_main_v208 (F := Ideal) x0 x1 x2 x3) (ix2 b w) := by
    rw [v435_eq]
    rw [andi_at, yes_at]
  have e2 : val_main_v859 (F := Ideal) x0 x1 x2 x3 (ix2 b w) = val_main_v435 (F := Ideal) x0 x1 x2 x3 (ix2 b w) &&& anyEdge (val_main_v632 (F := Ideal) x0 x1 x2 x3) (ix2 b w) := by
    rw [v859_eq]
    exact andi_at _ _ _
  have e3 : val_main_v436 (F := Ideal) x0 x1 x2 x3 (ix2 b w) = Scalar.select (val_main_v435 (F := Ideal) x0 x1 x2 x3 (ix2 b w)) (val_main_v433 (F := Ideal) x0 x1 x2 x3 (ix2 b w)) (x0 (ix1 b)) := by
    rw [v436_eq, select_at, v12_apply]
  have e4 : val_main_v437 (F := Ideal) x0 x1 x2 x3 (ix2 b w) = Scalar.select (val_main_v435 (F := Ideal) x0 x1 x2 x3 (ix2 b w)) (val_main_v434 (F := Ideal) x0 x1 x2 x3 (ix2 b w)) (x1 (ix1 b)) := by
    rw [v437_eq, select_at, v14_apply]
  rw [← e1] at h1
  rw [← e2, e3, e4] at h2
  exact ⟨h1, h2⟩

/-! ## The results -/

section

variable {α : Type}

/-- Three values per walk, side by side, and the walks in groups of eight. -/
def trio (a b c : S32x10.Idx → α) : S32x10x3.Idx → α :=
  concatenate S32x10x3 2 [⟨S32x10x1, thick a⟩, ⟨S32x10x1, thick b⟩, ⟨S32x10x1, thick c⟩] concatenates_S32x10x1_S32x10x1_S32x10x1_S32x10x3_d2
def grouped (x : S32x10x3.Idx → α) : S40x8x3.Idx → α := shapeCast _ x shapeCasts_S32x10x3_S40x8x3

theorem trio_apply (a b c : S32x10.Idx → α) (p : Fin 32) (q : Fin 10) (k : Fin 3) :
    trio a b c (ix3 p q k) = (match k with | ⟨0, _⟩ => a | ⟨1, _⟩ => b | ⟨2, _⟩ => c) (ix2 p q) := by
  have hoff : ∀ (k' : Fin 3) (z : Fin 3), z ≠ 2 → (ix3 p q (0 : Fin 1) z).val = (ix3 p q k' z).val := by
    intro k' z hz
    fin_cases z
    · rfl
    · rfl
    · exact absurd rfl hz
  match k with
  | ⟨0, h⟩ =>
    exact (concatenate_apply_piece 2 [⟨S32x10x1, thick a⟩, ⟨S32x10x1, thick b⟩, ⟨S32x10x1, thick c⟩] concatenates_S32x10x1_S32x10x1_S32x10x1_S32x10x3_d2 (ix3 p q ⟨0, h⟩) 0 (by show 0 < 3; omega) S32x10x1 (thick a) rfl rfl 0 rfl (ix3 p q (0 : Fin 1)) (fun z hz => hoff ⟨0, h⟩ z hz) rfl).trans (thick_apply a p q 0)
  | ⟨1, h⟩ =>
    exact (concatenate_apply_piece 2 [⟨S32x10x1, thick a⟩, ⟨S32x10x1, thick b⟩, ⟨S32x10x1, thick c⟩] concatenates_S32x10x1_S32x10x1_S32x10x1_S32x10x3_d2 (ix3 p q ⟨1, h⟩) 1 (by show 1 < 3; omega) S32x10x1 (thick b) rfl rfl 1 rfl (ix3 p q (0 : Fin 1)) (fun z hz => hoff ⟨1, h⟩ z hz) rfl).trans (thick_apply b p q 0)
  | ⟨2, h⟩ =>
    exact (concatenate_apply_piece 2 [⟨S32x10x1, thick a⟩, ⟨S32x10x1, thick b⟩, ⟨S32x10x1, thick c⟩] concatenates_S32x10x1_S32x10x1_S32x10x1_S32x10x3_d2 (ix3 p q ⟨2, h⟩) 2 (by show 2 < 3; omega) S32x10x1 (thick c) rfl rfl 2 rfl (ix3 p q (0 : Fin 1)) (fun z hz => hoff ⟨2, h⟩ z hz) rfl).trans (thick_apply c p q 0)

theorem grouped_apply (x : S32x10x3.Idx → α) (g : Fin 40) (r : Fin 8) (k : Fin 3) (b : Fin 32) (w : Fin 10) (h : 10 * b.val + w.val = 8 * g.val + r.val) :
    grouped x (ix3 g r k) = x (ix3 b w k) := by
  refine shapeCast_apply x shapeCasts_S32x10x3_S40x8x3 (ix3 g r k) (ix3 b w k) ?_
  rw [Shape.rowMajor_val_three, Shape.rowMajor_val_three]
  show (b.val * 10 + w.val) * 3 + k.val = (g.val * 8 + r.val) * 3 + k.val
  omega

end

theorem v877_trio : val_main_v877 (F := Ideal) x0 x1 x2 x3 = grouped (trio (val_main_v12 (F := Ideal) x0) (val_main_v438 (F := Ideal) x0 x1 x2 x3) (val_main_v862 (F := Ideal) x0 x1 x2 x3)) := by sl_kernel_rfl
theorem v878_trio : val_main_v878 (F := Ideal) x0 x1 x2 x3 = grouped (trio (val_main_v14 (F := Ideal) x1) (val_main_v439 (F := Ideal) x0 x1 x2 x3) (val_main_v863 (F := Ideal) x0 x1 x2 x3)) := by sl_kernel_rfl
theorem v879_trio : val_main_v879 (F := Ideal) x0 x1 x2 x3 = grouped (trio (val_main_v16 (F := Ideal)) (val_main_v440 (F := Ideal) x0 x1 x2 x3) (val_main_v864 (F := Ideal) x0 x1 x2 x3)) := by sl_kernel_rfl

end Cert.ReferenceIdeal.Walking

end
-- ==== Proof.WalkValue.lean ====
/- The walks: what the kernel's three results hold, entry by entry, is what the reference's hold. -/
module

public import proofs.«01_k».proof.Proof.KernelInputs
public import proofs.«01_k».proof.Proof.RefWalk
public import proofs.«01_k».proof.Proof.Gen.ReferenceIdeal.Run
public import proofs.«01_k».proof.Proof.Gen.Pre_in_range
public import proofs.«01_k».proof.Defs
public import Idealize.ShloMosaic.Lib.ReduceAll

@[expose] public section

set_option maxRecDepth 16384

noncomputable section

/-! ## The kernel's results -/

namespace Cert.KernelIdeal

open Idealize.ShloMosaic Idealize.ShloMosaic.TcCoe
open Idealize.ShloMosaic.Pipeline (Dat)
open Cert.Walks Cert.KernelIdeal.Gen

/-- The `k`-th of three. -/
def third {α : Type} (a b c : α) : Fin 3 → α
  | ⟨0, _⟩ => a
  | ⟨1, _⟩ => b
  | ⟨2, _⟩ => c

theorem column_apply {α : Type} (y : S8x1.Idx → α) (x : S1x8x1.Idx) : shapeCast S1x8x1 y shapeCasts_S8x1_S1x8x1 x = y (ix2 (x 1) 0) := by
  obtain ⟨p, r, q, rfl⟩ : ∃ (p : Fin 1) (r : Fin 8) (q : Fin 1), x = ix3 p r q := ⟨x 0, x 1, x 2, by funext a; fin_cases a <;> rfl⟩
  refine shapeCast_apply y shapeCasts_S8x1_S1x8x1 (ix3 p r q) (ix2 r (0 : Fin 1)) ?_
  rw [Shape.rowMajor_val_two, Shape.rowMajor_val_three]
  show r.val * 1 + 0 = (p.val * 8 + r.val) * 1 + q.val
  omega

/-- A block written a column at a time. -/
theorem columns_apply {e : EltTy} (y2 y1 y0 : S8x1.Idx → Elt Ideal e) (r : Fin 8) (k : Fin 3) :
    View.canon ([⟨Rect.unit (s := S1x8x3) ![0, 0, 2] S1x8x1.size Gen.inb_S1x8x3_S1x8x1_0_0_2, shapeCast S1x8x1 y2 shapeCasts_S8x1_S1x8x1⟩,
      ⟨Rect.unit (s := S1x8x3) ![0, 0, 1] S1x8x1.size Gen.inb_S1x8x3_S1x8x1_0_0_1, shapeCast S1x8x1 y1 shapeCasts_S8x1_S1x8x1⟩,
      ⟨Rect.unit (s := S1x8x3) ![0, 0, 0] S1x8x1.size Gen.inb_S1x8x3_S1x8x1_0_0_0, shapeCast S1x8x1 y0 shapeCasts_S8x1_S1x8x1⟩] : List (View.Piece (Elt Ideal) S1x8x3 e)) (ix3 0 r k)
      = third y0 y1 y2 k (ix2 r 0) := by
  refine (View.canon_apply_of_pieces (fun z : S1x8x3.Idx => third y0 y1 y2 (z 2) (ix2 (z 1) 0)) _ ?_ _ (cover_of_cols _ _ _ _)).trans rfl
  have key : ∀ (o : ℕ) (ho : o < 3) (h) (y : S8x1.Idx → Elt Ideal e) (hy : third y0 y1 y2 ⟨o, ho⟩ = y) (x : S1x8x1.Idx),
      shapeCast S1x8x1 y shapeCasts_S8x1_S1x8x1 x
        = third y0 y1 y2 ((Rect.unit (s := S1x8x3) ![0, 0, o] S1x8x1.size h).emb x 2) (ix2 ((Rect.unit (s := S1x8x3) ![0, 0, o] S1x8x1.size h).emb x 1) 0) := by
    intro o ho h y hy x
    have h2 : (Rect.unit (s := S1x8x3) ![0, 0, o] S1x8x1.size h).emb x 2 = (⟨o, ho⟩ : Fin 3) := Fin.ext (by
      have hx : (x 2).val < 1 := (x 2).isLt
      show o + 1 * (x 2).val = o
      omega)
    have h1 : (Rect.unit (s := S1x8x3) ![0, 0, o] S1x8x1.size h).emb x 1 = (x 1 : Fin 8) := Fin.ext (by
      show 0 + 1 * (x 1).val = (x 1).val
      omega)
    rw [h2, h1, hy]
    exact column_apply y x
  intro p hp x
  simp only [List.mem_cons, List.not_mem_nil, or_false] at hp
  rcases hp with rfl | rfl | rfl
  · exact key 2 (by omega) Gen.inb_S1x8x3_S1x8x1_0_0_2 y2 rfl x
  · exact key 1 (by omega) Gen.inb_S1x8x3_S1x8x1_0_0_1 y1 rfl x
  · exact key 0 (by omega) Gen.inb_S1x8x3_S1x8x1_0_0_0 y0 rfl x

variable (m : (ℓ : Loc nD τ sig) → Buf (Elt Ideal) ℓ) (c : Dev nD)

theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)
theorem flush7 : ∀ t : Fin cfg0.N, (cfg0.win 7).flush t = true := (by decide +kernel : ∀ t : Fin grid0.N, win0_7.flush t = true)
theorem apart5 (t t' : Fin cfg0.N) (hne : t ≠ t') : Disjoint ((cfg0.win 5).blk t).view.set ((cfg0.win 5).blk t').view.set :=
  (cfg0.win 5).disjoint_blk fun h => hne ((by decide +kernel : ∀ t t' : Fin grid0.N, win0_5.index t = win0_5.index t' → t = t') t t' h)
theorem apart6 (t t' : Fin cfg0.N) (hne : t ≠ t') : Disjoint ((cfg0.win 6).blk t).view.set ((cfg0.win 6).blk t').view.set :=
  (cfg0.win 6).disjoint_blk fun h => hne ((by decide +kernel : ∀ t t' : Fin grid0.N, win0_6.index t = win0_6.index t' → t = t') t t' h)
theorem apart7 (t t' : Fin cfg0.N) (hne : t ≠ t') : Disjoint ((cfg0.win 7).blk t).view.set ((cfg0.win 7).blk t').view.set :=
  (cfg0.win 7).disjoint_blk fun h => hne ((by decide +kernel : ∀ t t' : Fin grid0.N, win0_7.index t = win0_7.index t' → t = t') t t' h)

/-- Where a block's entry sits in its array. -/
theorem place5 (t : Fin cfg0.N) (r : Fin 8) (k : Fin 3) : ((cfg0.win 5).blk t).view.emb (ix3 0 r k) = (ix3 ⟨t.val, point_lt t⟩ r k : S40x8x3.Idx) := by
  refine funext fun a => Fin.ext ?_
  fin_cases a
  · show (BitVec.ofNat 32 (grid0.coords t 0).val).toNat * 1 + 1 * 0 = t.val
    rw [group_val]; omega
  · show 0 * 8 + 1 * r.val = r.val
    omega
  · show 0 * 3 + 1 * k.val = k.val
    omega
theorem place6 (t : Fin cfg0.N) (r : Fin 8) (k : Fin 3) : ((cfg0.win 6).blk t).view.emb (ix3 0 r k) = (ix3 ⟨t.val, point_lt t⟩ r k : S40x8x3.Idx) := by
  refine funext fun a => Fin.ext ?_
  fin_cases a
  · show (BitVec.ofNat 32 (grid0.coords t 0).val).toNat * 1 + 1 * 0 = t.val
    rw [group_val]; omega
  · show 0 * 8 + 1 * r.val = r.val
    omega
  · show 0 * 3 + 1 * k.val = k.val
    omega
theorem place7 (t : Fin cfg0.N) (r : Fin 8) (k : Fin 3) : ((cfg0.win 7).blk t).view.emb (ix3 0 r k) = (ix3 ⟨t.val, point_lt t⟩ r k : S40x8x3.Idx) := by
  refine funext fun a => Fin.ext ?_
  fin_cases a
  · show (BitVec.ofNat 32 (grid0.coords t 0).val).toNat * 1 + 1 * 0 = t.val
    rw [group_val]; omega
  · show 0 * 8 + 1 * r.val = r.val
    omega
  · show 0 * 3 + 1 * k.val = k.val
    omega

/-- An entry of each result. -/
theorem nodes_at (t : Fin cfg0.N) (r : Fin 8) (k : Fin 3) : (walkDats m 0 c).arrAt 5 cfg0.N (ix3 ⟨t.val, point_lt t⟩ r k : S40x8x3.Idx) = out6 m c t (ix3 0 r k) := by
  have h := (walkDats m 0 c).arrAt_emb_eq_flushed 5 (fun t t' _ _ hne => apart5 t t' hne) t (flush5 t) (ix3 0 r k)
  rw [place5, cast_eq] at h
  refine h.trans ?_
  show (walkDats m 0 c).after 5 t (ix3 0 r k) = _
  rw [dats_after5]
theorem times_at (t : Fin cfg0.N) (r : Fin 8) (k : Fin 3) : (walkDats m 0 c).arrAt 6 cfg0.N (ix3 ⟨t.val, point_lt t⟩ r k : S40x8x3.Idx) = out7 m c t (ix3 0 r k) := by
  have h := (walkDats m 0 c).arrAt_emb_eq_flushed 6 (fun t t' _ _ hne => apart6 t t' hne) t (flush6 t) (ix3 0 r k)
  rw [place6, cast_eq] at h
  refine h.trans ?_
  show (walkDats m 0 c).after 6 t (ix3 0 r k) = _
  rw [dats_after6]
theorem masks_at (t : Fin cfg0.N) (r : Fin 8) (k : Fin 3) : (walkDats m 0 c).arrAt 7 cfg0.N (ix3 ⟨t.val, point_lt t⟩ r k : S40x8x3.Idx) = out8 m c t (ix3 0 r k) := by
  have h := (walkDats m 0 c).arrAt_emb_eq_flushed 7 (fun t t' _ _ hne => apart7 t t' hne) t (flush7 t) (ix3 0 r k)
  rw [place7, cast_eq] at h
  refine h.trans ?_
  show (walkDats m 0 c).after 7 t (ix3 0 r k) = _
  rw [dats_after7]

end Cert.KernelIdeal

/-! ## Side by side -/

namespace Cert.WalkValue

open Idealize.ShloMosaic Idealize.ShloMosaic.TcCoe
open Cert.Walks Cert.KernelIdeal Cert.KernelIdeal.Gen
open Cert.ReferenceIdeal.Walking (graph graph_u graph_v graph_t grouped grouped_apply trio trio_apply flat flat_apply lit select_at ref_walk)
open Cert.ReferenceIdeal.Read

/-- A word in [0, 10000) is not the padding's. -/
theorem word_ne {w : BitVec 32} (h : IntOp.andi (IntOp.cmpi .sge w 0#32) (IntOp.cmpi .slt w 10000#32) = 1#1) : w ≠ 0xFFFFFFFF#32 := by
  rintro rfl
  revert h
  decide

/-- What the precondition says of the arguments. -/
theorem range_of {x0 : IVec Pre_in_range.S32 32} {x1 : FVec Ideal Pre_in_range.S32 .f32} {x2 : IVec Pre_in_range.S2x50000 32} {x3 : FVec Ideal Pre_in_range.S50000 .f32}
    (h : Pre_in_range.fn (F := Ideal) x0 x1 x2 x3 = fun _ => 1#1) :
    (∀ i, x0 i ≠ 0xFFFFFFFF#32) ∧ (∀ i, x2 i ≠ 0xFFFFFFFF#32) ∧ ∀ i, (x3 i : EReal) ≠ ⊥ := by
  have e := congrFun h (fun a => a.elim0)
  simp only [Pre_in_range.fn, Pre_in_range.fn_part1] at e
  obtain ⟨e, e3⟩ := IntOp.andi_eq_one.1 e
  obtain ⟨e1, e2⟩ := IntOp.andi_eq_one.1 e
  refine ⟨fun i => word_ne ?_, fun i => word_ne ?_, fun i hi => ?_⟩
  · exact Host.reduce_andi_all _ _ _ _ _ e1 i
  · exact Host.reduce_andi_all _ _ _ _ _ e2 i
  · have e := Host.reduce_andi_all _ _ _ _ _ e3 i
    have hb : Ideal.ofBits .f32 0xFF800000#32 = (⊥ : EReal) := bot_bits
    have e' : BitVec.ofBool (decide ((Ideal.ofBits .f32 0xFF800000#32 : EReal) < x3 i)) = 1#1 := e
    rw [hb, hi, ofBool_one, decide_eq_true_iff] at e'
    exact absurd e' (lt_irrefl _)

/-- A bit as a number, by either route. -/
theorem bit_number (a : BitVec 1) : FloatOps.sitofp (F := Ideal) .f32 (a.setWidth 32) = FloatOps.uitofp (F := Ideal) .f32 a := by
  show (((a.setWidth 32).toInt : ℝ) : EReal) = ((a.toNat : ℝ) : EReal)
  rcases BitVec.eq_zero_or_eq_one a with rfl | rfl
  · simp
  · have : ((1#1 : BitVec 1).setWidth 32).toInt = 1 := by decide
    rw [this]; simp

variable (m : (ℓ : Loc nD τ sig) → Buf (Elt Ideal) ℓ) (c : Dev nD)

/-- The graph of the kernel's arguments. -/
abbrev graphOf : Graph := graph (edges m c) (etimes m c)

variable {m c}
variable (h0 : ∀ i, sources m c i ≠ 0xFFFFFFFF#32) (h2 : ∀ i, edges m c i ≠ 0xFFFFFFFF#32) (h3 : ∀ i, (etimes m c i : EReal) ≠ ⊥)
include h0 h2 h3

theorem fine : Fine (graphOf m c) where
  u e he := by rw [graph_u _ _ he]; exact h2 _
  v e he := by rw [graph_v _ _ he]; exact h2 _
  t e he := by rw [graph_t _ _ he]; exact h3 _
  pu e he := dif_neg (by omega)
  pv e he := dif_neg (by omega)

/-- The kernel's walk and the reference's are one. -/
theorem walks_agree (t : Fin cfg0.N) (r : Fin 8) :
    alA (grid0.coords t) (inAt m c t) (cnAt m c t) (ctAt m c t) (ix2 r 0) = val_main_v435 (F := Ideal) (sources m c) (starts m c) (edges m c) (etimes m c) (ix2 (srcOf t r) (numOf t r)) ∧ alB (grid0.coords t) (inAt m c t) (cnAt m c t) (ctAt m c t) (ix2 r 0) = val_main_v859 (F := Ideal) (sources m c) (starts m c) (edges m c) (etimes m c) (ix2 (srcOf t r) (numOf t r))
      ∧ (∀ z, Scalar.select (alA (grid0.coords t) (inAt m c t) (cnAt m c t) (ctAt m c t) (ix2 r 0)) ((dA (grid0.coords t) (inAt m c t) (cnAt m c t) (ctAt m c t)).1 (ix2 r 0)) z = Scalar.select (val_main_v435 (F := Ideal) (sources m c) (starts m c) (edges m c) (etimes m c) (ix2 (srcOf t r) (numOf t r))) (val_main_v433 (F := Ideal) (sources m c) (starts m c) (edges m c) (etimes m c) (ix2 (srcOf t r) (numOf t r))) z)
      ∧ (∀ z : EReal, Scalar.select (alA (grid0.coords t) (inAt m c t) (cnAt m c t) (ctAt m c t) (ix2 r 0)) ((dA (grid0.coords t) (inAt m c t) (cnAt m c t) (ctAt m c t)).2 (ix2 r 0)) z = Scalar.select (val_main_v435 (F := Ideal) (sources m c) (starts m c) (edges m c) (etimes m c) (ix2 (srcOf t r) (numOf t r))) (val_main_v434 (F := Ideal) (sources m c) (starts m c) (edges m c) (etimes m c) (ix2 (srcOf t r) (numOf t r))) z)
      ∧ (∀ z, Scalar.select (alB (grid0.coords t) (inAt m c t) (cnAt m c t) (ctAt m c t) (ix2 r 0)) ((dB (grid0.coords t) (inAt m c t) (cnAt m c t) (ctAt m c t)).1 (ix2 r 0)) z = Scalar.select (val_main_v859 (F := Ideal) (sources m c) (starts m c) (edges m c) (etimes m c) (ix2 (srcOf t r) (numOf t r))) (val_main_v857 (F := Ideal) (sources m c) (starts m c) (edges m c) (etimes m c) (ix2 (srcOf t r) (numOf t r))) z)
      ∧ ∀ z : EReal, Scalar.select (alB (grid0.coords t) (inAt m c t) (cnAt m c t) (ctAt m c t) (ix2 r 0)) ((dB (grid0.coords t) (inAt m c t) (cnAt m c t) (ctAt m c t)).2 (ix2 r 0)) z = Scalar.select (val_main_v859 (F := Ideal) (sources m c) (starts m c) (edges m c) (etimes m c) (ix2 (srcOf t r) (numOf t r))) (val_main_v858 (F := Ideal) (sources m c) (starts m c) (edges m c) (etimes m c) (ix2 (srcOf t r) (numOf t r))) z :=
  Walk.unique
    (row_walk (i := grid0.coords t) (x := inAt m c t) (x4 := cnAt m c t) (x5 := ctAt m c t)
      (shows_of m c t (graphOf m c) (fun e he => graph_u _ _ he) (fun e he => graph_v _ _ he) (fun e he => graph_t _ _ he)
        (fun e he => dif_neg he) (fun e he => dif_neg he) (fun e he => dif_neg he))
      (fine h0 h2 h3) (shared_n m c t) (shared_s m c t) r (by rw [stands m c t r _ _ (srcOf_spec t r)]; exact h0 _))
    (by
      rw [point_val, stands m c t r _ _ (srcOf_spec t r), since m c t r _ _ (srcOf_spec t r), ← srcOf_spec t r]
      exact ref_walk (sources m c) (starts m c) (edges m c) (etimes m c) (fine h0 h2 h3).t (srcOf t r) (numOf t r))

theorem nodes_eq (t : Fin cfg0.N) (r : Fin 8) (k : Fin 3) :
    out6 m c t (ix3 0 r k) = val_main_v877 (F := Ideal) (sources m c) (starts m c) (edges m c) (etimes m c) (ix3 ⟨t.val, point_lt t⟩ r k) := by
  obtain ⟨-, -, e1, -, e2, -⟩ := walks_agree h0 h2 h3 t r
  rw [Cert.ReferenceIdeal.Walking.v877_trio, grouped_apply _ ⟨t.val, point_lt t⟩ r k (srcOf t r) (numOf t r) (srcOf_spec t r), trio_apply]
  refine (columns_apply _ _ _ r k).trans ?_
  match k with
  | ⟨0, _⟩ =>
    show cnA (cnAt m c t) (ix2 r 0) = val_main_v12 (F := Ideal) (sources m c) (ix2 (srcOf t r) (numOf t r))
    rw [cnA_apply, stands m c t r _ _ (srcOf_spec t r), Cert.ReferenceIdeal.Walking.v12_apply]
  | ⟨1, _⟩ =>
    show select _ _ _ (ix2 r 0) = val_main_v438 (F := Ideal) (sources m c) (starts m c) (edges m c) (etimes m c) (ix2 (srcOf t r) (numOf t r))
    rw [Cert.ReferenceIdeal.Walking.v438_eq, select_at, select_at, flat_apply]
    exact e1 _
  | ⟨2, _⟩ =>
    show select _ _ _ (ix2 r 0) = val_main_v862 (F := Ideal) (sources m c) (starts m c) (edges m c) (etimes m c) (ix2 (srcOf t r) (numOf t r))
    rw [Cert.ReferenceIdeal.Walking.v862_eq, select_at, select_at, flat_apply]
    exact e2 _

theorem times_eq (t : Fin cfg0.N) (r : Fin 8) (k : Fin 3) :
    out7 m c t (ix3 0 r k) = val_main_v878 (F := Ideal) (sources m c) (starts m c) (edges m c) (etimes m c) (ix3 ⟨t.val, point_lt t⟩ r k) := by
  obtain ⟨-, -, -, e1, -, e2⟩ := walks_agree h0 h2 h3 t r
  rw [Cert.ReferenceIdeal.Walking.v878_trio, grouped_apply _ ⟨t.val, point_lt t⟩ r k (srcOf t r) (numOf t r) (srcOf_spec t r), trio_apply]
  refine (columns_apply _ _ _ r k).trans ?_
  match k with
  | ⟨0, _⟩ =>
    show ctA (ctAt m c t) (ix2 r 0) = val_main_v14 (F := Ideal) (starts m c) (ix2 (srcOf t r) (numOf t r))
    rw [ctA_apply, since m c t r _ _ (srcOf_spec t r), Cert.ReferenceIdeal.Walking.v14_apply]
  | ⟨1, _⟩ =>
    show select _ _ _ (ix2 r 0) = val_main_v439 (F := Ideal) (sources m c) (starts m c) (edges m c) (etimes m c) (ix2 (srcOf t r) (numOf t r))
    rw [Cert.ReferenceIdeal.Walking.v439_eq, select_at, select_at, flat_apply]
    exact e1 _
  | ⟨2, _⟩ =>
    show select _ _ _ (ix2 r 0) = val_main_v863 (F := Ideal) (sources m c) (starts m c) (edges m c) (etimes m c) (ix2 (srcOf t r) (numOf t r))
    rw [Cert.ReferenceIdeal.Walking.v863_eq, select_at, select_at, flat_apply]
    exact e2 _

theorem masks_eq (t : Fin cfg0.N) (r : Fin 8) (k : Fin 3) :
    out8 m c t (ix3 0 r k) = val_main_v879 (F := Ideal) (sources m c) (starts m c) (edges m c) (etimes m c) (ix3 ⟨t.val, point_lt t⟩ r k) := by
  obtain ⟨e1, e2, -, -, -, -⟩ := walks_agree h0 h2 h3 t r
  rw [Cert.ReferenceIdeal.Walking.v879_trio, grouped_apply _ ⟨t.val, point_lt t⟩ r k (srcOf t r) (numOf t r) (srcOf_spec t r), trio_apply]
  refine (columns_apply _ _ _ r k).trans ?_
  match k with
  | ⟨0, _⟩ =>
    have e : FloatOps.ofBits (F := Ideal) .f32 0x3F800000#32 = FloatOps.uitofp (F := Ideal) .f32 (1#1 : BitVec 1) := by
      have one : FloatOps.ofBits (F := Ideal) .f32 0x3F800000#32 = (1 : EReal) := by pointwise
      rw [one]
      show (1 : EReal) = (((1#1 : BitVec 1).toNat : ℝ) : EReal)
      simp
    exact e.trans (congrArg (FloatOps.uitofp (F := Ideal) .f32) (Cert.ReferenceIdeal.Walking.yes_at (srcOf t r) (numOf t r)).symm)
  | ⟨1, _⟩ =>
    exact (bit_number _).trans (congrArg (FloatOps.uitofp (F := Ideal) .f32) e1)
  | ⟨2, _⟩ =>
    exact (bit_number _).trans (congrArg (FloatOps.uitofp (F := Ideal) .f32) e2)

omit h0 h2 h3

/-- Every index of a result is a row of a point. -/
theorem split_index (j : S40x8x3.Idx) : ∃ (t : Fin cfg0.N) (r : Fin 8) (k : Fin 3), j = ix3 ⟨t.val, point_lt t⟩ r k := by
  have hN : cfg0.N = 40 := by decide +kernel
  refine ⟨⟨(j 0).val, by rw [hN]; exact (j 0).isLt⟩, j 1, j 2, ?_⟩
  funext a
  fin_cases a <;> rfl

/-- The walks' program and its reference end with the same results. -/
theorem algebraic : Cert.algebraic_KernelIdeal_ReferenceIdeal_pre_in_range := by
  intro m g m' g' hpre heq
  refine ⟨fun c => (walkDats m 0 c).arrAt 5 cfg0.N, fun c => (walkDats m 0 c).arrAt 6 cfg0.N, fun c => (walkDats m 0 c).arrAt 7 cfg0.N, ?_, ?_⟩
  · refine (θ_run _ _ _).mono (fun r h c => ?_) (walk_run' m g)
    exact ⟨(h c).1 5, (h c).1 6, (h c).1 7,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩
  · refine (θ_run _ _ _).mono (fun r h c => ?_) (Cert.ReferenceIdeal.Value.run (F := Ideal) m' g')
    obtain ⟨r0, r1, r2, h⟩ := h c
    obtain ⟨e0, e1, e2, e3⟩ := heq c
    obtain ⟨p0, p2, p3⟩ := range_of (hpre c)
    refine ⟨r0.trans ?_, r1.trans ?_, r2.trans ?_, h⟩
    · rw [val_main_v877_eq]
      show val_main_v877 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [e0, e1, e2, e3]
      funext j
      obtain ⟨t, r, k, rfl⟩ := split_index j
      exact ((nodes_at m c t r k).trans (nodes_eq p0 p2 p3 t r k)).symm
    · rw [val_main_v878_eq]
      show val_main_v878 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [e0, e1, e2, e3]
      funext j
      obtain ⟨t, r, k, rfl⟩ := split_index j
      exact ((times_at m c t r k).trans (times_eq p0 p2 p3 t r k)).symm
    · rw [val_main_v879_eq]
      show val_main_v879 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [e0, e1, e2, e3]
      funext j
      obtain ⟨t, r, k, rfl⟩ := split_index j
      exact ((masks_at m c t r k).trans (masks_eq p0 p2 p3 t r k)).symm

end Cert.WalkValue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_in_table
public import proofs.«01_k».proof.Proof.Gen.Pre_in_range
public import proofs.«01_k».proof.Proof.Gen.ReferenceIdeal.Read
public import proofs.«01_k».proof.Proof.WalkFrame
public import proofs.«01_k».proof.Proof.IdealWalkFrame
public import proofs.«01_k».proof.Proof.Restart
public import proofs.«01_k».proof.Proof.RestartValue
public import proofs.«01_k».proof.Proof.WalkValue
public import Idealize.ShloMosaic.Lib.Quiescent

@[expose] public section

noncomputable section

namespace Cert.Proof

open Idealize.ShloMosaic Idealize.SL.Sem

/-- The walks reference leaves its arguments unchanged; it declares no semaphore. -/
theorem ref_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The restart reference leaves its arguments unchanged; it declares no semaphore. -/
theorem ref2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_in_range.Gen.facts, Cert.Pre_in_table.Gen.facts,
  fun m ρ _ => Cert.Kernel.walk_frame m ρ, fun m ρ _ => Cert.KernelIdeal.walk_frame m ρ, fun m ρ _ => Cert.KernelIdeal.walk_frame m ρ,
  ref_frame, fun m ρ _ => ref_frame m ρ trivial,
  fun m ρ h => Cert.Kernel2.Gen.frame m ρ (Cert.RestartProof.K.hyps_of_pre m h),
  fun m ρ h => Cert.Kernel2Ideal.Gen.frame m ρ (Cert.RestartProof.KI.hyps_of_pre m h),
  ref2_frame, fun m ρ _ => ref2_frame m ρ trivial,
  trivial, Cert.WalkValue.algebraic, trivial, Cert.RestartProof.KI.algebraic⟩

end Cert.Proof

end
